-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_gates [hPre_finite_gates : Cert.Pre_finite_gates.Facts] (m : (ℓ : Loc Cert.PrepIdeal.nD Cert.PrepIdeal.τ Cert.PrepIdeal.sig) → Buf (Elt Ideal) ℓ) : Prop :=
  ∀ c : Dev Cert.PrepIdeal.nD,
    (Cert.Pre_finite_gates.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_gates [hPre_finite_gates : Cert.Pre_finite_gates.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_gates.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepIdeal_pre_finite_gates [hPrepIdeal : Cert.PrepIdeal.Facts] [hPre_finite_gates : Cert.Pre_finite_gates.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_gates m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_PrepRefIdeal_pre_finite_gates [hPrepRefIdeal : Cert.PrepRefIdeal.Facts] [hPre_finite_gates : Cert.Pre_finite_gates.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_gates m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v41)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v41) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v41) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v7) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v28) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Prep_PrepIdeal : Prop :=
  IdealRules.named_const.Statement Cert.PrepIdeal.κ "log2e" .f32 0x3FB8AA3B#32 (((Real.log 2)⁻¹ : ℝ) : EReal)
  ∧ IdealRules.named_const.Statement Cert.PrepIdeal.κ "scale" .f32 0x3E0293EE#32 (((11863283 / 134217728) * (Real.log 2)⁻¹ : ℝ) : EReal)

def algebraic_PrepIdeal_PrepRefIdeal_pre_finite_gates [hPrepIdeal : Cert.PrepIdeal.Facts] [hPrepRefIdeal : Cert.PrepRefIdeal.Facts] [hPre_finite_gates : Cert.Pre_finite_gates.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_gates m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v7_0)) (v1 : (c : Dev Cert.PrepIdeal.nD) → Buf (Elt Ideal) ((c.tc : Thread Cert.PrepIdeal.nD Cert.PrepIdeal.τ).loc Cert.PrepIdeal.main_v7_1)) (v2 : (c : Dev Cert.PrepIdeal.nD) → Buf (Elt Ideal) ((c.tc : Thread Cert.PrepIdeal.nD Cert.PrepIdeal.τ).loc Cert.PrepIdeal.main_v7_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7_0) = v0 c
          ∧ r.2.mem ((c.tc : Thread Cert.PrepIdeal.nD Cert.PrepIdeal.τ).loc Cert.PrepIdeal.main_v7_1) = v1 c
          ∧ r.2.mem ((c.tc : Thread Cert.PrepIdeal.nD Cert.PrepIdeal.τ).loc Cert.PrepIdeal.main_v7_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v55) = v0 c
          ∧ r.2.mem ((c.tc : Thread Cert.PrepRefIdeal.nD Cert.PrepRefIdeal.τ).loc Cert.PrepRefIdeal.main_v57) = v1 c
          ∧ r.2.mem ((c.tc : Thread Cert.PrepRefIdeal.nD Cert.PrepRefIdeal.τ).loc Cert.PrepRefIdeal.main_v59) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v1_0)) (v1 : (c : Dev Cert.RopeIdeal.nD) → Buf (Elt Ideal) ((c.tc : Thread Cert.RopeIdeal.nD Cert.RopeIdeal.τ).loc Cert.RopeIdeal.main_v1_1)) (v2 : (c : Dev Cert.RopeIdeal.nD) → Buf (Elt Ideal) ((c.tc : Thread Cert.RopeIdeal.nD Cert.RopeIdeal.τ).loc Cert.RopeIdeal.main_v1_2)) (v3 : (c : Dev Cert.RopeIdeal.nD) → Buf (Elt Ideal) ((c.tc : Thread Cert.RopeIdeal.nD Cert.RopeIdeal.τ).loc Cert.RopeIdeal.main_v1_3)) (v4 : (c : Dev Cert.RopeIdeal.nD) → Buf (Elt Ideal) ((c.tc : Thread Cert.RopeIdeal.nD Cert.RopeIdeal.τ).loc Cert.RopeIdeal.main_v1_4)) (v5 : (c : Dev Cert.RopeIdeal.nD) → Buf (Elt Ideal) ((c.tc : Thread Cert.RopeIdeal.nD Cert.RopeIdeal.τ).loc Cert.RopeIdeal.main_v1_5)) (v6 : (c : Dev Cert.RopeIdeal.nD) → Buf (Elt Ideal) ((c.tc : Thread Cert.RopeIdeal.nD Cert.RopeIdeal.τ).loc Cert.RopeIdeal.main_v1_6)) (v7 : (c : Dev Cert.RopeIdeal.nD) → Buf (Elt Ideal) ((c.tc : Thread Cert.RopeIdeal.nD Cert.RopeIdeal.τ).loc Cert.RopeIdeal.main_v1_7)) (v8 : (c : Dev Cert.RopeIdeal.nD) → Buf (Elt Ideal) ((c.tc : Thread Cert.RopeIdeal.nD Cert.RopeIdeal.τ).loc Cert.RopeIdeal.main_v1_8)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v1_0) = v0 c
          ∧ r.2.mem ((c.tc : Thread Cert.RopeIdeal.nD Cert.RopeIdeal.τ).loc Cert.RopeIdeal.main_v1_1) = v1 c
          ∧ r.2.mem ((c.tc : Thread Cert.RopeIdeal.nD Cert.RopeIdeal.τ).loc Cert.RopeIdeal.main_v1_2) = v2 c
          ∧ r.2.mem ((c.tc : Thread Cert.RopeIdeal.nD Cert.RopeIdeal.τ).loc Cert.RopeIdeal.main_v1_3) = v3 c
          ∧ r.2.mem ((c.tc : Thread Cert.RopeIdeal.nD Cert.RopeIdeal.τ).loc Cert.RopeIdeal.main_v1_4) = v4 c
          ∧ r.2.mem ((c.tc : Thread Cert.RopeIdeal.nD Cert.RopeIdeal.τ).loc Cert.RopeIdeal.main_v1_5) = v5 c
          ∧ r.2.mem ((c.tc : Thread Cert.RopeIdeal.nD Cert.RopeIdeal.τ).loc Cert.RopeIdeal.main_v1_6) = v6 c
          ∧ r.2.mem ((c.tc : Thread Cert.RopeIdeal.nD Cert.RopeIdeal.τ).loc Cert.RopeIdeal.main_v1_7) = v7 c
          ∧ r.2.mem ((c.tc : Thread Cert.RopeIdeal.nD Cert.RopeIdeal.τ).loc Cert.RopeIdeal.main_v1_8) = v8 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v21) = v1 c
          ∧ r.2.mem ((c.tc : Thread Cert.RopeRefIdeal.nD Cert.RopeRefIdeal.τ).loc Cert.RopeRefIdeal.main_v22) = v2 c
          ∧ r.2.mem ((c.tc : Thread Cert.RopeRefIdeal.nD Cert.RopeRefIdeal.τ).loc Cert.RopeRefIdeal.main_v45) = v3 c
          ∧ r.2.mem ((c.tc : Thread Cert.RopeRefIdeal.nD Cert.RopeRefIdeal.τ).loc Cert.RopeRefIdeal.main_v46) = v4 c
          ∧ r.2.mem ((c.tc : Thread Cert.RopeRefIdeal.nD Cert.RopeRefIdeal.τ).loc Cert.RopeRefIdeal.main_v47) = v5 c
          ∧ r.2.mem ((c.tc : Thread Cert.RopeRefIdeal.nD Cert.RopeRefIdeal.τ).loc Cert.RopeRefIdeal.main_v48) = v6 c
          ∧ r.2.mem ((c.tc : Thread Cert.RopeRefIdeal.nD Cert.RopeRefIdeal.τ).loc Cert.RopeRefIdeal.main_v49) = v7 c
          ∧ r.2.mem ((c.tc : Thread Cert.RopeRefIdeal.nD Cert.RopeRefIdeal.τ).loc Cert.RopeRefIdeal.main_v50) = v8 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hAda : Cert.Ada.Facts) (hAdaIdeal : Cert.AdaIdeal.Facts) (hAdaRefIdeal : Cert.AdaRefIdeal.Facts) (hPrep : Cert.Prep.Facts) (hPrepIdeal : Cert.PrepIdeal.Facts) (hPrepRefIdeal : Cert.PrepRefIdeal.Facts) (hRope : Cert.Rope.Facts) (hRopeIdeal : Cert.RopeIdeal.Facts) (hRopeRefIdeal : Cert.RopeRefIdeal.Facts) (hPre_finite_logits : Cert.Pre_finite_logits.Facts) (hPre_finite_gates : Cert.Pre_finite_gates.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ada (hAda := hAda)
    ∧ quiescent_AdaIdeal (hAdaIdeal := hAdaIdeal)
    ∧ quiescent_AdaRefIdeal (hAdaRefIdeal := hAdaRefIdeal)
    ∧ quiescent_Prep (hPrep := hPrep)
    ∧ quiescent_PrepIdeal (hPrepIdeal := hPrepIdeal)
    ∧ quiescent_PrepIdeal_pre_finite_gates (hPrepIdeal := hPrepIdeal) (hPre_finite_gates := hPre_finite_gates)
    ∧ quiescent_PrepRefIdeal (hPrepRefIdeal := hPrepRefIdeal)
    ∧ quiescent_PrepRefIdeal_pre_finite_gates (hPrepRefIdeal := hPrepRefIdeal) (hPre_finite_gates := hPre_finite_gates)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ algebraic_InprojIdeal_InprojRefIdeal (hInprojIdeal := hInprojIdeal) (hInprojRefIdeal := hInprojRefIdeal)
    ∧ algebraic_MergeIdeal_MergeRefIdeal (hMergeIdeal := hMergeIdeal) (hMergeRefIdeal := hMergeRefIdeal)
    ∧ algebraic_OutprojIdeal_OutprojRefIdeal (hOutprojIdeal := hOutprojIdeal) (hOutprojRefIdeal := hOutprojRefIdeal)
    ∧ algebraic_AdaIdeal_AdaRefIdeal (hAdaIdeal := hAdaIdeal) (hAdaRefIdeal := hAdaRefIdeal)
    ∧ preserves_Prep_PrepIdeal
    ∧ algebraic_PrepIdeal_PrepRefIdeal_pre_finite_gates (hPrepIdeal := hPrepIdeal) (hPrepRefIdeal := hPrepRefIdeal) (hPre_finite_gates := hPre_finite_gates)
    ∧ algebraic_RopeIdeal_RopeRefIdeal (hRopeIdeal := hRopeIdeal) (hRopeRefIdeal := hRopeRefIdeal)
-- ==== Pre_finite_gates.lean ====
abbrev S16384x19200 : Shape := ⟨2, ![16384, 19200]⟩
abbrev S8 : Shape := ⟨1, ![8]⟩
abbrev S128 : Shape := ⟨1, ![128]⟩
abbrev S16384x8 : Shape := ⟨2, ![16384, 8]⟩
abbrev S1x8 : Shape := ⟨2, ![1, 8]⟩
abbrev S_ : Shape := ⟨0, ![]⟩
abbrev S2x8192x8 : Shape := ⟨3, ![2, 8192, 8]⟩

class Facts : Prop where
  slices_S16384x19200_S16384x8_0_19008 : S16384x19200.Slices ![0, 19008] S16384x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  shapeCasts_S16384x8_S2x8192x8 : S16384x8.ShapeCasts S2x8192x8
  bcast_S_S2x8192x8 : S_.BroadcastsInDim S2x8192x8 (![] : Fin 0 → Fin S2x8192x8.rank)
  reducesTo_S2x8192x8_S_d0_1_2 : S2x8192x8.ReducesTo [0, 1, 2] S_
  h_S_ : 0 < S_.numel

variable [Facts]

def fn_softplus {F : FTy → Type} [FloatOps F] (arg0 : FVec F S16384x8 .f32) : FVec F S16384x8 .f32 :=
  let cst : FVec F S_ .f32 := constant S_ .f32 0x00000000#32
  let v0 : FVec F S16384x8 .f32 := broadcastInDim S16384x8 ![] bcast_S_S16384x8 cst
  let v1 : FVec F S16384x8 .f32 := maximumf arg0 v0
  let v2 : FVec F S16384x8 .f32 := broadcastInDim S16384x8 ![] bcast_S_S16384x8 cst
  let v3 : FVec F S16384x8 .f32 := subf arg0 v2
  let v4 : IVec S16384x8 1 := cmpf .une v3 v3
  let v5 : FVec F S16384x8 .f32 := broadcastInDim S16384x8 ![] bcast_S_S16384x8 cst
  let v6 : FVec F S16384x8 .f32 := addf arg0 v5
  let v7 : FVec F S16384x8 .f32 := Host.absf v3
  let v8 : FVec F S16384x8 .f32 := Host.negf v7
  let v9 : FVec F S16384x8 .f32 := Host.exp v8
  let v10 : FVec F S16384x8 .f32 := Host.log1p v9
  let v11 : FVec F S16384x8 .f32 := addf v1 v10
  let v12 : FVec F S16384x8 .f32 := select v4 v6 v11
  v12

def fn_log_sigmoid {F : FTy → Type} [FloatOps F] (arg0 : FVec F S16384x8 .f32) : FVec F S16384x8 .f32 :=
  let v0 : FVec F S16384x8 .f32 := Host.negf arg0
  let v1 : FVec F S16384x8 .f32 := fn_softplus (F := F) v0
  let v2 : FVec F S16384x8 .f32 := Host.negf v1
  v2

def fn {F : FTy → Type} [FloatOps F] (main_arg0 : FVec F S16384x19200 .f32) (main_arg1 : FVec F S8 .f32) (main_arg2 : FVec F S128 .f32) (main_arg3 : FVec F S128 .f32) : IVec S_ 1 :=
  let main_v0 : FVec F S16384x8 .f32 := (extractStridedSlice S16384x8 ![0, 19008] · slices_S16384x19200_S16384x8_0_19008) main_arg0
  let main_v1 : FVec F S1x8 .f32 := broadcastInDim S1x8 ![1] bcast_S8_S1x8_1 main_arg1
  let main_v2 : FVec F S16384x8 .f32 := broadcastInDim S16384x8 ![0, 1] bcast_S1x8_S16384x8_0_1 main_v1
  let main_v3 : FVec F S16384x8 .f32 := addf main_v0 main_v2
  let main_v4 : FVec F S16384x8 .f32 := fn_log_sigmoid (F := F) main_v3
  let main_v5 : FVec F S2x8192x8 .f32 := shapeCast S2x8192x8 main_v4 shapeCasts_S16384x8_S2x8192x8
  let main_v6 : FVec F S2x8192x8 .f32 := Host.absf main_v5
  let main_cst : FVec F S_ .f32 := constant S_ .f32 0x7F800000#32
  let main_v7 : FVec F S2x8192x8 .f32 := broadcastInDim S2x8192x8 ![] bcast_S_S2x8192x8 main_cst
  let main_v8 : IVec S2x8192x8 1 := cmpf .olt main_v6 main_v7
  let main_c : IVec S_ 1 := constantI S_ 1 1#1
  let main_v9 : IVec S_ 1 := (fun x v => Host.reduce IntOp.andi x v reducesTo_S2x8192x8_S_d0_1_2 h_S_) main_v8 main_c
  main_v9
-- ==== Pre_finite_logits.lean ====
abbrev S2x8192x8x128 : Shape := ⟨4, ![2, 8192, 8, 128]⟩
abbrev S2x8192x8 : Shape := ⟨3, ![2, 8192, 8]⟩
abbrev S16384x19200 : Shape := ⟨2, ![16384, 19200]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S_ : S_.BroadcastsInDim S_ (![] : Fin 0 → Fin S_.rank)
  reduceWindows_S2x8192x8_S2x8192x8_w1s1p0_0_w8192s1p8191_0_w1s1p0_0 : S2x8192x8.ReduceWindows (![1, 8192, 1] : Fin 3 → Nat) ![1, 1, 1] ![0, 8191, 0] ![0, 0, 0] S2x8192x8
  bcast_S_S2x8192x8 : S_.BroadcastsInDim S2x8192x8 (![] : Fin 0 → Fin S2x8192x8.rank)
  reducesTo_S2x8192x8_S_d0_1_2 : S2x8192x8.ReducesTo [0, 1, 2] S_

variable [Facts]

def fn_cumsum_0 {F : FTy → Type} [FloatOps F] (arg0 : FVec F S2x8192x8 .f32) : FVec F S2x8192x8 .f32 :=
  let cst : FVec F S_ .f32 := constant S_ .f32 0x00000000#32
  let v0 : FVec F S_ .f32 := broadcastInDim S_ ![] bcast_S_S_ cst
  let v1 : FVec F S2x8192x8 .f32 := (fun x v => Host.reduceWindowAdd ![1, 8192, 1] ![1, 1, 1] ![0, 8191, 0] ![0, 0, 0] x v reduceWindows_S2x8192x8_S2x8192x8_w1s1p0_0_w8192s1p8191_0_w1s1p0_0 h_S_) arg0 v0
  v1

def fn_cumsum {F : FTy → Type} [FloatOps F] (arg0 : FVec F S2x8192x8 .f32) : FVec F S2x8192x8 .f32 :=
  let v0 : FVec F S2x8192x8 .f32 := fn_cumsum_0 (F := F) arg0
  v0

def fn {F : FTy → Type} [FloatOps F] (main_arg0 : FVec F S2x8192x8x128 .f32) (main_arg1 : FVec F S2x8192x8x128 .f32) (main_arg2 : FVec F S2x8192x8x128 .f32) (main_arg3 : FVec F S2x8192x8 .f32) (main_arg4 : FVec F S16384x19200 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  let main_v9 : FVec F S2x8192x8 .f32 := fn_cumsum (F := F) main_arg3
  let main_v10 : FVec F S2x8192x8 .f32 := Host.absf main_v9
  let main_cst_2 : FVec F S_ .f32 := constant S_ .f32 0x7F800000#32
  let main_v11 : FVec F S2x8192x8 .f32 := broadcastInDim S2x8192x8 ![] bcast_S_S2x8192x8 main_cst_2
  let main_v12 : IVec S2x8192x8 1 := cmpf .olt main_v10 main_v11
  let main_c_3 : IVec S_ 1 := constantI S_ 1 1#1
  let main_v13 : IVec S_ 1 := (fun x v => Host.reduce IntOp.andi x v reducesTo_S2x8192x8_S_d0_1_2 h_S_) main_v12 main_c_3
  let main_v14 : IVec S_ 1 := andi main_v8 main_v13
  main_v14
-- ==== Kernel.lean ====
abbrev S2x8192x8x128 : Shape := ⟨4, ![2, 8192, 8, 128]⟩
abbrev S2x8192x8 : Shape := ⟨3, ![2, 8192, 8]⟩
abbrev S16384x19200 : Shape := ⟨2, ![16384, 19200]⟩
abbrev S_ : Shape := ⟨0, ![]⟩
abbrev S2x8192x8x122 : Shape := ⟨4, ![2, 8192, 8, 122]⟩
abbrev S2x8192x8x1 : Shape := ⟨4, ![2, 8192, 8, 1]⟩
abbrev S2x8192x8x6 : Shape := ⟨4, ![2, 8192, 8, 6]⟩
abbrev S2x8192x8x256 : Shape := ⟨4, ![2, 8192, 8, 256]⟩
abbrev S8x256x2x8192 : Shape := ⟨4, ![8, 256, 2, 8192]⟩
abbrev S2048x16384 : Shape := ⟨2, ![2048, 16384]⟩
abbrev S16384x2048 : Shape := ⟨2, ![16384, 2048]⟩
abbrev S8x128x2x8192 : Shape := ⟨4, ![8, 128, 2, 8192]⟩
abbrev S1024x16384 : Shape := ⟨2, ![1024, 16384]⟩
abbrev S16384x1024 : Shape := ⟨2, ![16384, 1024]⟩
abbrev S256x512 : Shape := ⟨2, ![256, 512]⟩
abbrev S8192x256 : Shape := ⟨2, ![8192, 256]⟩
abbrev S128x8192 : Shape := ⟨2, ![128, 8192]⟩
abbrev S512x128 : Shape := ⟨2, ![512, 128]⟩
abbrev S128x512 : Shape := ⟨2, ![128, 512]⟩
abbrev S1x512 : Shape := ⟨2, ![1, 512]⟩
abbrev S4096x256 : Shape := ⟨2, ![4096, 256]⟩
abbrev S4096x512 : Shape := ⟨2, ![4096, 512]⟩
abbrev S512 : Shape := ⟨1, ![512]⟩
abbrev S128x4096 : Shape := ⟨2, ![128, 4096]⟩
abbrev S512x256 : Shape := ⟨2, ![512, 256]⟩
abbrev S512x512 : Shape := ⟨2, ![512, 512]⟩
abbrev S1024x256 : Shape := ⟨2, ![1024, 256]⟩
abbrev S1024x512 : Shape := ⟨2, ![1024, 512]⟩
abbrev S128x1024 : Shape := ⟨2, ![128, 1024]⟩
abbrev S1536x256 : Shape := ⟨2, ![1536, 256]⟩
abbrev S1536x512 : Shape := ⟨2, ![1536, 512]⟩
abbrev S128x1536 : Shape := ⟨2, ![128, 1536]⟩
abbrev S2048x256 : Shape := ⟨2, ![2048, 256]⟩
abbrev S2048x512 : Shape := ⟨2, ![2048, 512]⟩
abbrev S128x2048 : Shape := ⟨2, ![128, 2048]⟩
abbrev S2560x256 : Shape := ⟨2, ![2560, 256]⟩
abbrev S2560x512 : Shape := ⟨2, ![2560, 512]⟩
abbrev S128x2560 : Shape := ⟨2, ![128, 2560]⟩
abbrev S3072x256 : Shape := ⟨2, ![3072, 256]⟩
abbrev S3072x512 : Shape := ⟨2, ![3072, 512]⟩
abbrev S128x3072 : Shape := ⟨2, ![128, 3072]⟩
abbrev S3584x256 : Shape := ⟨2, ![3584, 256]⟩
abbrev S3584x512 : Shape := ⟨2, ![3584, 512]⟩
abbrev S128x3584 : Shape := ⟨2, ![128, 3584]⟩

abbrev nBuf : Space → Nat
  | .hbm => 58
  | .vmem => 11
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x128, .f32⟩
  | .hbm, ⟨3, _⟩ => ⟨S2x8192x8, .f32⟩
  | .hbm, ⟨4, _⟩ => ⟨S16384x19200, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x8192x8, .f32⟩
  | .hbm, ⟨12, _⟩ => ⟨S2x8192x8, .f32⟩
  | .hbm, ⟨13, _⟩ => ⟨S2x8192x8, .f32⟩
  | .hbm, ⟨14, _⟩ => ⟨S2x8192x8, .bf16⟩
  | .hbm, ⟨15, _⟩ => ⟨S2x8192x8, .f32⟩
  | .hbm, ⟨16, _⟩ => ⟨S2x8192x8, .f32⟩
  | .hbm, ⟨17, _⟩ => ⟨S2x8192x8, .bf16⟩
  | .hbm, ⟨18, _⟩ => ⟨S2x8192x8, .f32⟩
  | .hbm, ⟨19, _⟩ => ⟨S2x8192x8, .f32⟩
  | .hbm, ⟨20, _⟩ => ⟨S_, .f32⟩
  | .hbm, ⟨21, _⟩ => ⟨S2x8192x8, .f32⟩
  | .hbm, ⟨22, _⟩ => ⟨S_, .f32⟩
  | .hbm, ⟨23, _⟩ => ⟨S2x8192x8x122, .f32⟩
  | .hbm, ⟨24, _⟩ => ⟨S2x8192x8x1, .f32⟩
  | .hbm, ⟨25, _⟩ => ⟨S2x8192x8x1, .f32⟩
  | .hbm, ⟨26, _⟩ => ⟨S2x8192x8x1, .f32⟩
  | .hbm, ⟨27, _⟩ => ⟨S2x8192x8x1, .f32⟩
  | .hbm, ⟨28, _⟩ => ⟨S2x8192x8x1, .f32⟩
  | .hbm, ⟨29, _⟩ => ⟨S2x8192x8x1, .f32⟩
  | .hbm, ⟨30, _⟩ => ⟨S2x8192x8x6, .f32⟩
  | .hbm, ⟨31, _⟩ => ⟨S2x8192x8x128, .f32⟩
  | .hbm, ⟨32, _⟩ => ⟨S2x8192x8, .f32⟩
  | .hbm, ⟨33, _⟩ => ⟨S2x8192x8, .f32⟩
  | .hbm, ⟨34, _⟩ => ⟨S2x8192x8, .f32⟩
  | .hbm, ⟨35, _⟩ => ⟨S2x8192x8x1, .f32⟩
  | .hbm, ⟨36, _⟩ => ⟨S2x8192x8x1, .f32⟩
  | .hbm, ⟨37, _⟩ => ⟨S2x8192x8x1, .f32⟩
  | .hbm, ⟨38, _⟩ => ⟨S2x8192x8x1, .f32⟩
  | .hbm, ⟨39, _⟩ => ⟨S2x8192x8x1, .f32⟩
  | .hbm, ⟨40, _⟩ => ⟨S2x8192x8x1, .f32⟩
  | .hbm, ⟨41, _⟩ => ⟨S2x8192x8x6, .f32⟩
  | .hbm, ⟨42, _⟩ => ⟨S2x8192x8x128, .f32⟩
  | .hbm, ⟨43, _⟩ => ⟨S_, .f32⟩
  | .hbm, ⟨44, _⟩ => ⟨S_, .f32⟩
  | .hbm, ⟨45, _⟩ => ⟨S2x8192x8x128, .f32⟩
  | .hbm, ⟨46, _⟩ => ⟨S2x8192x8x128, .f32⟩
  | .hbm, ⟨47, _⟩ => ⟨S2x8192x8x256, .f32⟩
  | .hbm, ⟨48, _⟩ => ⟨S2x8192x8x256, .f32⟩
  | .hbm, ⟨49, _⟩ => ⟨S8x256x2x8192, .f32⟩
  | .hbm, ⟨50, _⟩ => ⟨S2048x16384, .f32⟩
  | .hbm, ⟨51, _⟩ => ⟨S2048x16384, .bf16⟩
  | .hbm, ⟨52, _⟩ => ⟨S16384x2048, .f32⟩
  | .hbm, ⟨53, _⟩ => ⟨S16384x2048, .bf16⟩
  | .hbm, ⟨54, _⟩ => ⟨S8x128x2x8192, .f32⟩
  | .hbm, ⟨55, _⟩ => ⟨S1024x16384, .f32⟩
  | .hbm, ⟨56, _⟩ => ⟨S1024x16384, .bf16⟩
  | .hbm, ⟨57, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S128x512, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_10 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_12 : BitVec 32 := 1#32
  ⟨c0_i32_10, v31, c1_i32_12⟩
def k0_mult1 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4096_i32_24 : BitVec 32 := 4096#32
  let v60 : BitVec 32 := Scalar.muli arg9 c4096_i32_24
  v60
def k0_off1 (i : grid0.Coords) (k0_t1 : Fin (k0_t1_loop i).trips) : Fin 2 → Nat :=
  let c0_i32_10 : BitVec 32 := 0#32
  let c1_i32_12 : BitVec 32 := 1#32
  let arg9 : BitVec 32 := Scf.iv c0_i32_10 c1_i32_12 k0_t1
  let c4096_i32_24 : BitVec 32 := 4096#32
  let v60 : BitVec 32 := Scalar.muli arg9 c4096_i32_24
  let v61 : BitVec 32 := v60
  let v62 : Index := Scalar.indexCast v61
  let c0_25 : Index := 0#32
  ![v62.toNat, 0]
def k0_off2 (i : grid0.Coords) (k0_t1 : Fin (k0_t1_loop i).trips) : Fin 2 → Nat :=
  let c0_31 : Index := 0#32
  let c0_i32_10 : BitVec 32 := 0#32
  let c1_i32_12 : BitVec 32 := 1#32
  let arg9 : BitVec 32 := Scf.iv c0_i32_10 c1_i32_12 k0_t1
  let c4096_i32_24 : BitVec 32 := 4096#32
  let v60 : BitVec 32 := Scalar.muli arg9 c4096_i32_24
  let v61 : BitVec 32 := v60
  let v81 : Index := Scalar.indexCast v61
  ![0, v81.toNat]
@[reducible] def k0_t2_loop (i : grid0.Coords) : Scf.Loop 32 :=
  let c0_i32_10 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let v28 : BitVec 32 := Scalar.addi c0_i32_10 v27
  let c1_i32_13 : BitVec 32 := 1#32
  ⟨v31, v28, c1_i32_13⟩
def k0_mult2 (i : grid0.Coords) (k0_t2 : Fin (k0_t2_loop i).trips) : BitVec 32 :=
  let c0_i32_10 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg9 : BitVec 32 := Scf.iv v31 c1_i32_13 k0_t2
  let c4096_i32_24 : BitVec 32 := 4096#32
  let v60 : BitVec 32 := Scalar.muli arg9 c4096_i32_24
  v60
def k0_off3 (i : grid0.Coords) (k0_t2 : Fin (k0_t2_loop i).trips) : Fin 2 → Nat :=
  let c0_i32_10 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg9 : BitVec 32 := Scf.iv v31 c1_i32_13 k0_t2
  let c4096_i32_24 : BitVec 32 := 4096#32
  let v60 : BitVec 32 := Scalar.muli arg9 c4096_i32_24
  let v61 : BitVec 32 := v60
  let v62 : Index := Scalar.indexCast v61
  let c0_25 : Index := 0#32
  ![v62.toNat, 0]
def k0_off4 (i : grid0.Coords) (k0_t2 : Fin (k0_t2_loop i).trips) : Fin 2 → Nat :=
  let c0_31 : Index := 0#32
  let c0_i32_10 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v27 : BitVec 32 := Scalar.subi v22 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg9 : BitVec 32 := Scf.iv v31 c1_i32_13 k0_t2
  let c4096_i32_24 : BitVec 32 := 4096#32
  let v60 : BitVec 32 := Scalar.muli arg9 c4096_i32_24
  let v61 : BitVec 32 := v60
  let v81 : Index := Scalar.indexCast v61
  ![0, v81.toNat]
def k0_mult3 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  v34
def k0_cond1 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c0_i32_14 : BitVec 32 := 0#32
  let v36 : BitVec 1 := Scalar.cmpi .eq v24 c0_i32_14
  let v37 : BitVec 32 := Scalar.extui v36
  let c0_i32_15 : BitVec 32 := 0#32
  let v38 : BitVec 1 := Scalar.cmpi .ne v37 c0_i32_15
  v38

def k0_off5 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off6 (i : grid0.Coords) : Fin 2 → Nat :=
  let c0_32 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond2 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c1_i32_16 : BitVec 32 := 1#32
  let v39 : BitVec 1 := Scalar.cmpi .eq v24 c1_i32_16
  let v40 : BitVec 32 := Scalar.extui v39
  let c0_i32_17 : BitVec 32 := 0#32
  let v41 : BitVec 1 := Scalar.cmpi .ne v40 c0_i32_17
  v41

def k0_off7 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off8 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond3 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c2_i32 : BitVec 32 := 2#32
  let v42 : BitVec 1 := Scalar.cmpi .eq v24 c2_i32
  let v43 : BitVec 32 := Scalar.extui v42
  let c0_i32_18 : BitVec 32 := 0#32
  let v44 : BitVec 1 := Scalar.cmpi .ne v43 c0_i32_18
  v44

def k0_off9 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off10 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond4 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c3_i32 : BitVec 32 := 3#32
  let v45 : BitVec 1 := Scalar.cmpi .eq v24 c3_i32
  let v46 : BitVec 32 := Scalar.extui v45
  let c0_i32_19 : BitVec 32 := 0#32
  let v47 : BitVec 1 := Scalar.cmpi .ne v46 c0_i32_19
  v47

def k0_off11 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off12 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond5 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c4_i32 : BitVec 32 := 4#32
  let v48 : BitVec 1 := Scalar.cmpi .eq v24 c4_i32
  let v49 : BitVec 32 := Scalar.extui v48
  let c0_i32_20 : BitVec 32 := 0#32
  let v50 : BitVec 1 := Scalar.cmpi .ne v49 c0_i32_20
  v50

def k0_off13 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off14 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond6 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c5_i32 : BitVec 32 := 5#32
  let v51 : BitVec 1 := Scalar.cmpi .eq v24 c5_i32
  let v52 : BitVec 32 := Scalar.extui v51
  let c0_i32_21 : BitVec 32 := 0#32
  let v53 : BitVec 1 := Scalar.cmpi .ne v52 c0_i32_21
  v53

def k0_off15 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off16 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond7 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c6_i32 : BitVec 32 := 6#32
  let v54 : BitVec 1 := Scalar.cmpi .eq v24 c6_i32
  let v55 : BitVec 32 := Scalar.extui v54
  let c0_i32_22 : BitVec 32 := 0#32
  let v56 : BitVec 1 := Scalar.cmpi .ne v55 c0_i32_22
  v56

def k0_off17 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off18 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def k0_cond8 (i : grid0.Coords) : BitVec 1 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_7 : BitVec 32 := 8#32
  let v23 : BitVec 32 := Scalar.muli v22 c8_i32_7
  let v24 : BitVec 32 := Scalar.subi arg2 v23
  let c7_i32 : BitVec 32 := 7#32
  let v57 : BitVec 1 := Scalar.cmpi .eq v24 c7_i32
  let v58 : BitVec 32 := Scalar.extui v57
  let c0_i32_23 : BitVec 32 := 0#32
  let v59 : BitVec 1 := Scalar.cmpi .ne v58 c0_i32_23
  v59

def k0_off19 (i : grid0.Coords) : Fin 2 → Nat :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v60 : Index := Scalar.indexCast v35
  let c0_24 : Index := 0#32
  ![v60.toNat, 0]
def k0_off20 (i : grid0.Coords) : Fin 2 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg2 c8_i32
  let c0_i32_6 : BitVec 32 := 0#32
  let v19 : BitVec 1 := Scalar.cmpi .ne v18 c0_i32_6
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c4096_i32 : BitVec 32 := 4096#32
  let v34 : BitVec 32 := Scalar.muli v22 c4096_i32
  let v35 : BitVec 32 := v34
  let v86 : Index := Scalar.indexCast v35
  ![0, v86.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x128 : Shape := ⟨4, ![2, 8192, 8, 128]⟩
abbrev S2x8192x8 : Shape := ⟨3, ![2, 8192, 8]⟩
abbrev S16384x19200 : Shape := ⟨2, ![16384, 19200]⟩
abbrev S_ : Shape := ⟨0, ![]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x128x8192 : Shape := ⟨4, ![2, 8, 128, 8192]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x128, .f32⟩
  | .hbm, ⟨3, _⟩ => ⟨S2x8192x8, .f32⟩
  | .hbm, ⟨4, _⟩ => ⟨S16384x19200, .f32⟩
  | .hbm, ⟨5, _⟩ => ⟨S_, .f32⟩
  | .hbm, ⟨6, _⟩ => ⟨S_, .f32⟩
  | .hbm, ⟨7, _⟩ => ⟨S2x8192x8, .f32⟩
  | .hbm, ⟨8, _⟩ => ⟨S2x8x8192, .f32⟩
  | .hbm, ⟨9, _⟩ => ⟨S2x8x8192x8192, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S2x8x8192x1, .f32⟩
  | .hbm, ⟨14, _⟩ => ⟨S2x8x8192x8192, .f32⟩
  | .hbm, ⟨15, _⟩ => ⟨S2x8x8192x8192, .f32⟩
  | .hbm, ⟨16, _⟩ => ⟨S2x8x1x8192, .f32⟩
  | .hbm, ⟨17, _⟩ => ⟨S2x8x8192x8192, .f32⟩
  | .hbm, ⟨18, _⟩ => ⟨S2x8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S_, .f32⟩
  | .hbm, ⟨33, _⟩ => ⟨S2x8x8192, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S2x8x8192, .f32⟩
  | .hbm, ⟨41, _⟩ => ⟨S2x8x8192x1, .f32⟩
  | .hbm, ⟨42, _⟩ => ⟨S2x8x8192x8192, .f32⟩
  | .hbm, ⟨43, _⟩ => ⟨S2x8x8192x8192, .f32⟩
  | .hbm, ⟨44, _⟩ => ⟨S2x8x128x8192, .f32⟩
  | .hbm, ⟨45, _⟩ => ⟨S2x8192x8x128, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Inproj.lean ====
abbrev S2x8192x2048 : Shape := ⟨3, ![2, 8192, 2048]⟩
abbrev S2048 : Shape := ⟨1, ![2048]⟩
abbrev S2x2048 : Shape := ⟨2, ![2, 2048]⟩
abbrev S2048x19064 : Shape := ⟨2, ![2048, 19064]⟩
abbrev S16384x2048 : Shape := ⟨2, ![16384, 2048]⟩
abbrev S2x1x2048 : Shape := ⟨3, ![2, 1, 2048]⟩
abbrev S2048x1024 : Shape := ⟨2, ![2048, 1024]⟩
abbrev S2048x8 : Shape := ⟨2, ![2048, 8]⟩
abbrev S2048x256 : Shape := ⟨2, ![2048, 256]⟩
abbrev S2048x64 : Shape := ⟨2, ![2048, 64]⟩
abbrev S2048x16 : Shape := ⟨2, ![2048, 16]⟩
abbrev S2048x2048 : Shape := ⟨2, ![2048, 2048]⟩
abbrev S2048x3072 : Shape := ⟨2, ![2048, 3072]⟩
abbrev S2048x32 : Shape := ⟨2, ![2048, 32]⟩
abbrev S2048x6144 : Shape := ⟨2, ![2048, 6144]⟩
abbrev S_ : Shape := ⟨0, ![]⟩
abbrev S2048x19072 : Shape := ⟨2, ![2048, 19072]⟩
abbrev S2048x128 : Shape := ⟨2, ![2048, 128]⟩
abbrev S2048x19200 : Shape := ⟨2, ![2048, 19200]⟩
abbrev S1x2048 : Shape := ⟨2, ![1, 2048]⟩
abbrev S16384x19200 : Shape := ⟨2, ![16384, 19200]⟩
abbrev S1024x2048 : Shape := ⟨2, ![1024, 2048]⟩
abbrev S1x1x2048 : Shape := ⟨3, ![1, 1, 2048]⟩
abbrev S2048x1280 : Shape := ⟨2, ![2048, 1280]⟩
abbrev S1024x1280 : Shape := ⟨2, ![1024, 1280]⟩
abbrev S64x2048 : Shape := ⟨2, ![64, 2048]⟩
abbrev S64 : Shape := ⟨1, ![64]⟩
abbrev S64x1 : Shape := ⟨2, ![64, 1]⟩

abbrev nBuf : Space → Nat
  | .hbm => 49
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x19064, .f32⟩
  | .hbm, ⟨5, _⟩ => ⟨S16384x2048, .f32⟩
  | .hbm, ⟨6, _⟩ => ⟨S2x1x2048, .f32⟩
  | .hbm, ⟨7, _⟩ => ⟨S2x1x2048, .f32⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S2048x8, .f32⟩
  | .hbm, ⟨15, _⟩ => ⟨S2048x8, .bf16⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .hbm, ⟨20, _⟩ => ⟨S2048x256, .f32⟩
  | .hbm, ⟨21, _⟩ => ⟨S2048x256, .bf16⟩
  | .hbm, ⟨22, _⟩ => ⟨S2048x256, .f32⟩
  | .hbm, ⟨23, _⟩ => ⟨S2048x256, .bf16⟩
  | .hbm, ⟨24, _⟩ => ⟨S2048x1024, .f32⟩
  | .hbm, ⟨25, _⟩ => ⟨S2048x1024, .bf16⟩
  | .hbm, ⟨26, _⟩ => ⟨S2048x64, .f32⟩
  | .hbm, ⟨27, _⟩ => ⟨S2048x64, .bf16⟩
  | .hbm, ⟨28, _⟩ => ⟨S2048x16, .f32⟩
  | .hbm, ⟨29, _⟩ => ⟨S2048x16, .bf16⟩
  | .hbm, ⟨30, _⟩ => ⟨S2048x1024, .f32⟩
  | .hbm, ⟨31, _⟩ => ⟨S2048x1024, .bf16⟩
  | .hbm, ⟨32, _⟩ => ⟨S2048x2048, .f32⟩
  | .hbm, ⟨33, _⟩ => ⟨S2048x2048, .bf16⟩
  | .hbm, ⟨34, _⟩ => ⟨S2048x3072, .f32⟩
  | .hbm, ⟨35, _⟩ => ⟨S2048x3072, .bf16⟩
  | .hbm, ⟨36, _⟩ => ⟨S2048x32, .f32⟩
  | .hbm, ⟨37, _⟩ => ⟨S2048x32, .bf16⟩
  | .hbm, ⟨38, _⟩ => ⟨S2048x6144, .f32⟩
  | .hbm, ⟨39, _⟩ => ⟨S2048x6144, .bf16⟩
  | .hbm, ⟨40, _⟩ => ⟨S_, .bf16⟩
  | .hbm, ⟨41, _⟩ => ⟨S2048x8, .bf16⟩
  | .hbm, ⟨42, _⟩ => ⟨S2048x19064, .bf16⟩
  | .hbm, ⟨43, _⟩ => ⟨S2048x19072, .bf16⟩
  | .hbm, ⟨44, _⟩ => ⟨S_, .bf16⟩
  | .hbm, ⟨45, _⟩ => ⟨S2048x128, .bf16⟩
  | .hbm, ⟨46, _⟩ => ⟨S2048x19200, .bf16⟩
  | .hbm, ⟨47, _⟩ => ⟨S1x2048, .f32⟩
  | .hbm, ⟨48, _⟩ => ⟨S16384x19200, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S1024x1280, .f32⟩
  | .local _ .vmem, ⟨10, _⟩ => ⟨S1024x1280, .f32⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 15], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v16 : BitVec 32 := Scalar.addi c0_i32_15 c16_i32
  let c1_i32 : BitVec 32 := 1#32
  ⟨c0_i32_15, v16, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c64_i32 : BitVec 32 := 64#32
  let v17 : BitVec 32 := Scalar.muli arg9 c64_i32
  v17
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c64_i32 : BitVec 32 := 64#32
  let v17 : BitVec 32 := Scalar.muli arg9 c64_i32
  let v18 : BitVec 32 := v17
  let v19 : Index := Scalar.indexCast v18
  let c0_17 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S2x8192x2048 : Shape := ⟨3, ![2, 8192, 2048]⟩
abbrev S2048 : Shape := ⟨1, ![2048]⟩
abbrev S2x2048 : Shape := ⟨2, ![2, 2048]⟩
abbrev S2048x19064 : Shape := ⟨2, ![2048, 19064]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x19064 : Shape := ⟨3, ![2, 8192, 19064]⟩
abbrev S2x8192x1024 : Shape := ⟨3, ![2, 8192, 1024]⟩
abbrev S2x8192x8 : Shape := ⟨3, ![2, 8192, 8]⟩
abbrev S2x8192x256 : Shape := ⟨3, ![2, 8192, 256]⟩
abbrev S2x8192x64 : Shape := ⟨3, ![2, 8192, 64]⟩
abbrev S2x8192x16 : Shape := ⟨3, ![2, 8192, 16]⟩
abbrev S2x8192x3072 : Shape := ⟨3, ![2, 8192, 3072]⟩
abbrev S2x8192x32 : Shape := ⟨3, ![2, 8192, 32]⟩
abbrev S2x8192x6144 : Shape := ⟨3, ![2, 8192, 6144]⟩
abbrev S2x8192x136 : Shape := ⟨3, ![2, 8192, 136]⟩
abbrev S2x8192x19200 : Shape := ⟨3, ![2, 8192, 19200]⟩
abbrev S16384x19200 : Shape := ⟨2, ![16384, 19200]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x19064, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x19064, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x8, .f32⟩
  | .hbm, ⟨35, _⟩ => ⟨S2x8192x1024, .f32⟩
  | .hbm, ⟨36, _⟩ => ⟨S2x8192x1024, .f32⟩
  | .hbm, ⟨37, _⟩ => ⟨S2x8192x256, .f32⟩
  | .hbm, ⟨38, _⟩ => ⟨S2x8192x256, .f32⟩
  | .hbm, ⟨39, _⟩ => ⟨S2x8192x1024, .f32⟩
  | .hbm, ⟨40, _⟩ => ⟨S2x8192x64, .f32⟩
  | .hbm, ⟨41, _⟩ => ⟨S2x8192x16, .f32⟩
  | .hbm, ⟨42, _⟩ => ⟨S2x8192x1024, .f32⟩
  | .hbm, ⟨43, _⟩ => ⟨S2x8192x2048, .f32⟩
  | .hbm, ⟨44, _⟩ => ⟨S2x8192x3072, .f32⟩
  | .hbm, ⟨45, _⟩ => ⟨S2x8192x32, .f32⟩
  | .hbm, ⟨46, _⟩ => ⟨S2x8192x6144, .f32⟩
  | .hbm, ⟨47, _⟩ => ⟨S_, .f32⟩
  | .hbm, ⟨48, _⟩ => ⟨S2x8192x136, .f32⟩
  | .hbm, ⟨49, _⟩ => ⟨S2x8192x19064, .f32⟩
  | .hbm, ⟨50, _⟩ => ⟨S2x8192x19200, .f32⟩
  | .hbm, ⟨51, _⟩ => ⟨S16384x19200, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S1024x2048 : Shape := ⟨2, ![1024, 2048]⟩
abbrev S2048x2048 : Shape := ⟨2, ![2048, 2048]⟩
abbrev S16384x19200 : Shape := ⟨2, ![16384, 19200]⟩
abbrev S3x2048 : Shape := ⟨2, ![3, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S3x1024 : Shape := ⟨2, ![3, 1024]⟩
abbrev S1x1024 : Shape := ⟨2, ![1, 1024]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S16384x19200, .f32⟩
  | .hbm, ⟨7, _⟩ => ⟨S3x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S3x1024, .f32⟩
  | .local _ .vmem, ⟨19, _⟩ => ⟨S3x1024, .f32⟩
  | .local _ .vmem, ⟨20, _⟩ => ⟨S512x1024, .bf16⟩
  | .local _ .vmem, ⟨21, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x1024 : Shape := ⟨2, ![16384, 1024]⟩
abbrev S16384x2048 : Shape := ⟨2, ![16384, 2048]⟩
abbrev S1024x2048 : Shape := ⟨2, ![1024, 2048]⟩
abbrev S2048x2048 : Shape := ⟨2, ![2048, 2048]⟩
abbrev S16384x19200 : Shape := ⟨2, ![16384, 19200]⟩
abbrev S3x2048 : Shape := ⟨2, ![3, 2048]⟩
abbrev S16384x6144 : Shape := ⟨2, ![16384, 6144]⟩
abbrev S16384x3x2048 : Shape := ⟨3, ![16384, 3, 2048]⟩
abbrev S1x3x2048 : Shape := ⟨3, ![1, 3, 2048]⟩
abbrev S_ : Shape := ⟨0, ![]⟩
abbrev S16384x1x2048 : Shape := ⟨3, ![16384, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S16384x19200, .f32⟩
  | .hbm, ⟨7, _⟩ => ⟨S3x2048, .f32⟩
  | .hbm, ⟨8, _⟩ => ⟨S16384x6144, .f32⟩
  | .hbm, ⟨9, _⟩ => ⟨S16384x3x2048, .f32⟩
  | .hbm, ⟨10, _⟩ => ⟨S1x3x2048, .f32⟩
  | .hbm, ⟨11, _⟩ => ⟨S16384x3x2048, .f32⟩
  | .hbm, ⟨12, _⟩ => ⟨S16384x3x2048, .f32⟩
  | .hbm, ⟨13, _⟩ => ⟨S16384x3x2048, .f32⟩
  | .hbm, ⟨14, _⟩ => ⟨S16384x3x2048, .f32⟩
  | .hbm, ⟨15, _⟩ => ⟨S_, .f32⟩
  | .hbm, ⟨16, _⟩ => ⟨S16384x3x2048, .f32⟩
  | .hbm, ⟨17, _⟩ => ⟨S16384x3x2048, .f32⟩
  | .hbm, ⟨18, _⟩ => ⟨S_, .f32⟩
  | .hbm, ⟨19, _⟩ => ⟨S16384x3x2048, .f32⟩
  | .hbm, ⟨20, _⟩ => ⟨S16384x3x2048, .f32⟩
  | .hbm, ⟨21, _⟩ => ⟨S16384x1x2048, .f32⟩
  | .hbm, ⟨22, _⟩ => ⟨S16384x2048, .f32⟩
  | .hbm, ⟨23, _⟩ => ⟨S16384x1024, .f32⟩
  | .hbm, ⟨24, _⟩ => ⟨S16384x2048, .f32⟩
  | .hbm, ⟨25, _⟩ => ⟨S16384x2048, .f32⟩
  | .hbm, ⟨26, _⟩ => ⟨S16384x1x2048, .f32⟩
  | .hbm, ⟨27, _⟩ => ⟨S16384x2048, .f32⟩
  | .hbm, ⟨28, _⟩ => ⟨S16384x1024, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Outproj.lean ====
abbrev S16384x2048 : Shape := ⟨2, ![16384, 2048]⟩
abbrev S2048x2048 : Shape := ⟨2, ![2048, 2048]⟩
abbrev S2x8192x2048 : Shape := ⟨3, ![2, 8192, 2048]⟩
abbrev S2x2048 : Shape := ⟨2, ![2, 2048]⟩
abbrev S2x1x2048 : Shape := ⟨3, ![2, 1, 2048]⟩
abbrev S512x2048 : Shape := ⟨2, ![512, 2048]⟩
abbrev S2048x1024 : Shape := ⟨2, ![2048, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x2048, .f32⟩
  | .hbm, ⟨4, _⟩ => ⟨S16384x2048, .f32⟩
  | .hbm, ⟨5, _⟩ => ⟨S2x1x2048, .f32⟩
  | .hbm, ⟨6, _⟩ => ⟨S2048x2048, .bf16⟩
  | .hbm, ⟨7, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutprojRefIdeal.lean ====
abbrev S16384x2048 : Shape := ⟨2, ![16384, 2048]⟩
abbrev S2048x2048 : Shape := ⟨2, ![2048, 2048]⟩
abbrev S2x8192x2048 : Shape := ⟨3, ![2, 8192, 2048]⟩
abbrev S2x2048 : Shape := ⟨2, ![2, 2048]⟩
abbrev S2x1x2048 : Shape := ⟨3, ![2, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x2048, .f32⟩
  | .hbm, ⟨4, _⟩ => ⟨S16384x2048, .f32⟩
  | .hbm, ⟨5, _⟩ => ⟨S16384x2048, .f32⟩
  | .hbm, ⟨6, _⟩ => ⟨S2x8192x2048, .f32⟩
  | .hbm, ⟨7, _⟩ => ⟨S2x1x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ada.lean ====
abbrev S2x2048 : Shape := ⟨2, ![2, 2048]⟩
abbrev S2x2048x6144 : Shape := ⟨3, ![2, 2048, 6144]⟩
abbrev S2x6144 : Shape := ⟨2, ![2, 6144]⟩
abbrev S_ : Shape := ⟨0, ![]⟩
abbrev S8x2048 : Shape := ⟨2, ![8, 2048]⟩
abbrev S1 : Shape := ⟨1, ![1]⟩
abbrev S2x1x6144 : Shape := ⟨3, ![2, 1, 6144]⟩
abbrev S2x8x6144 : Shape := ⟨3, ![2, 8, 6144]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x6144, .f32⟩
  | .hbm, ⟨2, _⟩ => ⟨S2x6144, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2x1x6144, .f32⟩
  | .hbm, ⟨9, _⟩ => ⟨S2x8x6144, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x2048 : Shape := ⟨2, ![2, 2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S1x6144 : Shape := ⟨2, ![1, 6144]⟩
abbrev S6144 : Shape := ⟨1, ![6144]⟩
abbrev S6x6144 : Shape := ⟨2, ![6, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 48
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x6144, .f32⟩
  | .hbm, ⟨2, _⟩ => ⟨S2x6144, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048x6144, .f32⟩
  | .hbm, ⟨13, _⟩ => ⟨S2048x6144, .f32⟩
  | .hbm, ⟨14, _⟩ => ⟨S2x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S_, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S1x2048x6144, .f32⟩
  | .hbm, ⟨30, _⟩ => ⟨S2048x6144, .f32⟩
  | .hbm, ⟨31, _⟩ => ⟨S2x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S2x6144, .f32⟩
  | .hbm, ⟨36, _⟩ => ⟨S2x6144, .f32⟩
  | .hbm, ⟨37, _⟩ => ⟨S1x6144, .f32⟩
  | .hbm, ⟨38, _⟩ => ⟨S6144, .f32⟩
  | .hbm, ⟨39, _⟩ => ⟨S6x6144, .f32⟩
  | .hbm, ⟨40, _⟩ => ⟨S1x6144, .f32⟩
  | .hbm, ⟨41, _⟩ => ⟨S6144, .f32⟩
  | .hbm, ⟨42, _⟩ => ⟨S6x6144, .f32⟩
  | .hbm, ⟨43, _⟩ => ⟨S8x6144, .f32⟩
  | .hbm, ⟨44, _⟩ => ⟨S8x6144, .f32⟩
  | .hbm, ⟨45, _⟩ => ⟨S1x8x6144, .f32⟩
  | .hbm, ⟨46, _⟩ => ⟨S1x8x6144, .f32⟩
  | .hbm, ⟨47, _⟩ => ⟨S2x8x6144, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Prep.lean ====
abbrev S16384x19200 : Shape := ⟨2, ![16384, 19200]⟩
abbrev S8 : Shape := ⟨1, ![8]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S2048x16384 : Shape := ⟨2, ![2048, 16384]⟩
abbrev S16384x2048 : Shape := ⟨2, ![16384, 2048]⟩
abbrev S1024x16384 : Shape := ⟨2, ![1024, 16384]⟩
abbrev S512x1024 : Shape := ⟨2, ![512, 1024]⟩
abbrev S512x128 : Shape := ⟨2, ![512, 128]⟩
abbrev S2048x512 : Shape := ⟨2, ![2048, 512]⟩
abbrev S512x2048 : Shape := ⟨2, ![512, 2048]⟩
abbrev S1024x512 : Shape := ⟨2, ![1024, 512]⟩
abbrev S8x128 : Shape := ⟨2, ![8, 128]⟩
abbrev S512x512 : Shape := ⟨2, ![512, 512]⟩
abbrev S128x512 : Shape := ⟨2, ![128, 512]⟩
abbrev S8x512 : Shape := ⟨2, ![8, 512]⟩
abbrev S120x512 : Shape := ⟨2, ![120, 512]⟩
abbrev S512 : Shape := ⟨1, ![512]⟩
abbrev S512x1 : Shape := ⟨2, ![512, 1]⟩
abbrev S1x512 : Shape := ⟨2, ![1, 512]⟩

abbrev nBuf : Space → Nat
  | .hbm => 17
  | .vmem => 18
  | .smem => 0
  | _ => 0

abbrev bufTy : (tb : Table) → Fin (tcTables nBuf tb) → BufTy
  | .hbm, ⟨0, _⟩ => ⟨S16384x19200, .f32⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S2048x16384, .bf16⟩
  | .hbm, ⟨15, _⟩ => ⟨S16384x2048, .bf16⟩
  | .hbm, ⟨16, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1024x512, .bf16⟩
  | .local _ .vmem, ⟨16, _⟩ => ⟨S1024x512, .bf16⟩
  | .local _ .vmem, ⟨17, _⟩ => ⟨S8x128, .f32⟩
  | _, _ => ⟨S16384x19200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c148_i32 : BitVec 32 := 148#32
  let c0_i32 : BitVec 32 := 0#32
  ![arg0.toNat, c148_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepIdeal.lean ====
variable {F : FTy → Type} [FloatOps F] [Named F]
def κ : String → Option EReal := fun
  | "log2e" => some (((Real.log 2)⁻¹ : ℝ) : EReal)
  | "scale" => some (((11863283 / 134217728) * (Real.log 2)⁻¹ : ℝ) : EReal)
  | _ => none
-- ==== PrepRefIdeal.lean ====
abbrev S16384x19200 : Shape := ⟨2, ![16384, 19200]⟩
abbrev S8 : Shape := ⟨1, ![8]⟩
abbrev S128 : Shape := ⟨1, ![128]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S1x8 : Shape := ⟨2, ![1, 8]⟩
abbrev S2x8192x8 : Shape := ⟨3, ![2, 8192, 8]⟩
abbrev S16384x8x2 : Shape := ⟨3, ![16384, 8, 2]⟩
abbrev S16384x8x3 : Shape := ⟨3, ![16384, 8, 3]⟩
abbrev S16384x8x122 : Shape := ⟨3, ![16384, 8, 122]⟩
abbrev S16384x8x256 : Shape := ⟨3, ![16384, 8, 256]⟩
abbrev S8x256x16384 : Shape := ⟨3, ![8, 256, 16384]⟩
abbrev S2048x16384 : Shape := ⟨2, ![2048, 16384]⟩
abbrev S16384x2048 : Shape := ⟨2, ![16384, 2048]⟩
abbrev S1024x16384 : Shape := ⟨2, ![1024, 16384]⟩

abbrev nBuf : Space → Nat
  | .hbm => 93
  | .vmem => 0
  | .smem => 0
  | _ => 0

abbrev bufTy : (tb : Table) → Fin (tcTables nBuf tb) → BufTy
  | .hbm, ⟨0, _⟩ => ⟨S16384x19200, .f32⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S_, .f32⟩
  | .hbm, ⟨27, _⟩ => ⟨S16384x8, .f32⟩
  | .hbm, ⟨28, _⟩ => ⟨S16384x8x1, .f32⟩
  | .hbm, ⟨29, _⟩ => ⟨S_, .f32⟩
  | .hbm, ⟨30, _⟩ => ⟨S16384x8x1, .f32⟩
  | .hbm, ⟨31, _⟩ => ⟨S16384x8x1, .f32⟩
  | .hbm, ⟨32, _⟩ => ⟨S_, .f32⟩
  | .hbm, ⟨33, _⟩ => ⟨S16384x8x1, .f32⟩
  | .hbm, ⟨34, _⟩ => ⟨S16384x8x1, .f32⟩
  | .hbm, ⟨35, _⟩ => ⟨S16384x8x1, .f32⟩
  | .hbm, ⟨36, _⟩ => ⟨S16384x8x128, .f32⟩
  | .hbm, ⟨37, _⟩ => ⟨S16384x8x128, .f32⟩
  | .hbm, ⟨38, _⟩ => ⟨S1x1x128, .f32⟩
  | .hbm, ⟨39, _⟩ => ⟨S16384x8x128, .f32⟩
  | .hbm, ⟨40, _⟩ => ⟨S16384x8x128, .f32⟩
  | .hbm, ⟨41, _⟩ => ⟨S16384x8, .f32⟩
  | .hbm, ⟨42, _⟩ => ⟨S1x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S_, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .i1⟩
  | .hbm, ⟨52, _⟩ => ⟨S16384x8, .f32⟩
  | .hbm, ⟨53, _⟩ => ⟨S16384x8, .f32⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S16384x8, .f32⟩
  | .hbm, ⟨61, _⟩ => ⟨S2x8192x8, .f32⟩
  | .hbm, ⟨62, _⟩ => ⟨S_, .f32⟩
  | .hbm, ⟨63, _⟩ => ⟨S_, .f32⟩
  | .hbm, ⟨64, _⟩ => ⟨S2x8192x8, .f32⟩
  | .hbm, ⟨65, _⟩ => ⟨S16384x8x1, .f32⟩
  | .hbm, ⟨66, _⟩ => ⟨S_, .f32⟩
  | .hbm, ⟨67, _⟩ => ⟨S_, .f32⟩
  | .hbm, ⟨68, _⟩ => ⟨S16384x8x1, .f32⟩
  | .hbm, ⟨69, _⟩ => ⟨S16384x8x1, .f32⟩
  | .hbm, ⟨70, _⟩ => ⟨S_, .f32⟩
  | .hbm, ⟨71, _⟩ => ⟨S16384x8x2, .f32⟩
  | .hbm, ⟨72, _⟩ => ⟨S_, .f32⟩
  | .hbm, ⟨73, _⟩ => ⟨S16384x8x3, .f32⟩
  | .hbm, ⟨74, _⟩ => ⟨S_, .f32⟩
  | .hbm, ⟨75, _⟩ => ⟨S16384x8x122, .f32⟩
  | .hbm, ⟨76, _⟩ => ⟨S_, .f32⟩
  | .hbm, ⟨77, _⟩ => ⟨S16384x8x128, .f32⟩
  | .hbm, ⟨78, _⟩ => ⟨S16384x8x128, .f32⟩
  | .hbm, ⟨79, _⟩ => ⟨S_, .f32⟩
  | .hbm, ⟨80, _⟩ => ⟨S_, .f32⟩
  | .hbm, ⟨81, _⟩ => ⟨S16384x8x128, .f32⟩
  | .hbm, ⟨82, _⟩ => ⟨S16384x8x128, .f32⟩
  | .hbm, ⟨83, _⟩ => ⟨S16384x8x256, .f32⟩
  | .hbm, ⟨84, _⟩ => ⟨S16384x8x1, .f32⟩
  | .hbm, ⟨85, _⟩ => ⟨S16384x8x256, .f32⟩
  | .hbm, ⟨86, _⟩ => ⟨S8x256x16384, .f32⟩
  | .hbm, ⟨87, _⟩ => ⟨S2048x16384, .f32⟩
  | .hbm, ⟨88, _⟩ => ⟨S2048x16384, .bf16⟩
  | .hbm, ⟨89, _⟩ => ⟨S16384x2048, .f32⟩
  | .hbm, ⟨90, _⟩ => ⟨S16384x2048, .bf16⟩
  | .hbm, ⟨91, _⟩ => ⟨S1024x16384, .f32⟩
  | .hbm, ⟨92, _⟩ => ⟨S1024x16384, .bf16⟩
  | _, _ => ⟨S16384x19200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v35 : Ref sig .tc := ⟨.hbm, 60, rfl⟩
abbrev main_v36 : Ref sig .tc := ⟨.hbm, 61, rfl⟩
abbrev main_call1_call0_cst : Ref sig .tc := ⟨.hbm, 62, rfl⟩
abbrev main_call1_call0_v0 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Rope.lean ====
abbrev S2x8192 : Shape := ⟨2, ![2, 8192]⟩
abbrev S16384x1 : Shape := ⟨2, ![16384, 1]⟩
abbrev S16384x128 : Shape := ⟨2, ![16384, 128]⟩
abbrev S512x1 : Shape := ⟨2, ![512, 1]⟩
abbrev S512x128 : Shape := ⟨2, ![512, 128]⟩
abbrev S8x128 : Shape := ⟨2, ![8, 128]⟩
abbrev S1x128 : Shape := ⟨2, ![1, 128]⟩

abbrev nBuf : Space → Nat
  | .hbm => 11
  | .vmem => 20
  | .smem => 0
  | _ => 0

abbrev bufTy : (tb : Table) → Fin (tcTables nBuf tb) → BufTy
  | .hbm, ⟨0, _⟩ => ⟨S2x8192, .i32⟩
  | .hbm, ⟨1, _⟩ => ⟨S16384x1, .i32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .local _ .vmem, ⟨0, _⟩ => ⟨S512x1, .i32⟩
  | .local _ .vmem, ⟨1, _⟩ => ⟨S512x1, .i32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_v1_7 : Ref sig .tc := ⟨.hbm, 9, rfl⟩
abbrev main_v1_8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeRefIdeal.lean ====
abbrev S2x8192 : Shape := ⟨2, ![2, 8192]⟩
abbrev S_ : Shape := ⟨0, ![]⟩
abbrev S16384x64 : Shape := ⟨2, ![16384, 64]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S8 : Shape := ⟨1, ![8]⟩
abbrev S1x8 : Shape := ⟨2, ![1, 8]⟩
abbrev S16384x8 : Shape := ⟨2, ![16384, 8]⟩
abbrev S16384x48 : Shape := ⟨2, ![16384, 48]⟩

abbrev nBuf : Space → Nat
  | .hbm => 63
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S_, .f32⟩
  | .hbm, ⟨2, _⟩ => ⟨S16384x64, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2x8192, .f32⟩
  | .hbm, ⟨12, _⟩ => ⟨S16384x1, .f32⟩
  | .hbm, ⟨13, _⟩ => ⟨S1x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S_, .f32⟩
  | .hbm, ⟨20, _⟩ => ⟨S16384x16, .f32⟩
  | .hbm, ⟨21, _⟩ => ⟨S_, .f32⟩
  | .hbm, ⟨22, _⟩ => ⟨S16384x96, .f32⟩
  | .hbm, ⟨23, _⟩ => ⟨S_, .f32⟩
  | .hbm, ⟨24, _⟩ => ⟨S16384x96, .f32⟩
  | .hbm, ⟨25, _⟩ => ⟨S16384x96, .f32⟩
  | .hbm, ⟨26, _⟩ => ⟨S16384x128, .f32⟩
  | .hbm, ⟨27, _⟩ => ⟨S16384x16, .f32⟩
  | .hbm, ⟨28, _⟩ => ⟨S16384x128, .f32⟩
  | .hbm, ⟨29, _⟩ => ⟨S16384x128, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S2x8192, .f32⟩
  | .hbm, ⟨39, _⟩ => ⟨S16384x1, .f32⟩
  | .hbm, ⟨40, _⟩ => ⟨S1x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x8, .f32⟩
  | .hbm, ⟨46, _⟩ => ⟨S_, .f32⟩
  | .hbm, ⟨47, _⟩ => ⟨S16384x8, .f32⟩
  | .hbm, ⟨48, _⟩ => ⟨S_, .f32⟩
  | .hbm, ⟨49, _⟩ => ⟨S16384x48, .f32⟩
  | .hbm, ⟨50, _⟩ => ⟨S_, .f32⟩
  | .hbm, ⟨51, _⟩ => ⟨S16384x48, .f32⟩
  | .hbm, ⟨52, _⟩ => ⟨S16384x48, .f32⟩
  | .hbm, ⟨53, _⟩ => ⟨S16384x64, .f32⟩
  | .hbm, ⟨54, _⟩ => ⟨S16384x8, .f32⟩
  | .hbm, ⟨55, _⟩ => ⟨S16384x64, .f32⟩
  | .hbm, ⟨56, _⟩ => ⟨S16384x64, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_7 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_cst_9 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Proof.Softmax.lean ====
/- The arithmetic of the online softmax on the extended reals, for one query row and one value column:
   keys are numbered by `ℕ`, `e j` is the weight `exp (logit j)` of key `j` (0 where the mask hides it),
   `v j` the entry of the value column. -/
module

public import Idealize.ShloMosaic.PureOps.Ideal
public import Mathlib.Analysis.SpecialFunctions.Pow.Real

@[expose] public section

noncomputable section

namespace Cert.Proof

open Idealize.ShloMosaic

/-- A base-two logit `s` and its weight `w`: `s` is `-∞` and `w` is 0, or `s` is real and `w = 2 ^ s`. -/
def Weighs (s : EReal) (w : ℝ) : Prop := (s = ⊥ ∧ w = 0) ∨ ∃ y : ℝ, s = (y : EReal) ∧ w = (2 : ℝ) ^ y

theorem Weighs.nonneg {s : EReal} {w : ℝ} (h : Weighs s w) : 0 ≤ w := by
  rcases h with ⟨_, rfl⟩ | ⟨y, _, rfl⟩
  · exact le_rfl
  · positivity

/-- Taking a real off the logit scales the weight. -/
theorem Weighs.exp2_sub {s : EReal} {w : ℝ} (h : Weighs s w) (μ : ℝ) :
    Ideal.exp2 (s - (μ : EReal)) = (((2 : ℝ) ^ (-μ) * w : ℝ) : EReal) := by
  rcases h with ⟨rfl, rfl⟩ | ⟨y, rfl, rfl⟩
  · simp
  · rw [← EReal.coe_sub, Ideal.exp2_coe]
    congr 1
    show (2 : ℝ) ^ (y - μ) = _
    rw [← Real.rpow_add (by norm_num)]
    congr 1; ring

/-- A positive real distributes over a sum of extended reals, whatever the terms. -/
theorem coe_mul_sum {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- The cast of a real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of finitely many values that are real or `-∞`, one at least real, is real. -/
theorem fold_max_real {n : ℕ} (S : Fin n → EReal) (hS : ∀ j, S j ≠ ⊤) (hex : ∃ j, S j ≠ ⊥) :
    ∃ μ : ℝ, Finset.univ.fold max ⊥ S = (μ : EReal) := by
  obtain ⟨j0, hj0⟩ := hex
  have he : Finset.univ.fold max ⊥ S = Finset.univ.sup S := rfl
  rw [he]
  obtain ⟨j, -, hj⟩ := Finset.exists_mem_eq_sup Finset.univ ⟨j0, Finset.mem_univ _⟩ S
  have hle : S j0 ≤ Finset.univ.sup S := Finset.le_sup (Finset.mem_univ j0)
  have hb : Finset.univ.sup S ≠ ⊥ := fun h => hj0 (le_bot_iff.mp (h ▸ hle))
  have ht : Finset.univ.sup S ≠ ⊤ := hj ▸ hS j
  exact ⟨(Finset.univ.sup S).toReal, (EReal.coe_toReal ht hb).symm⟩

theorem Weighs.ne_top {s : EReal} {w : ℝ} (h : Weighs s w) : s ≠ ⊤ := by
  rcases h with ⟨rfl, _⟩ | ⟨y, rfl, _⟩
  · exact bot_ne_top
  · exact EReal.coe_ne_top y

/-- What the running maximum `m`, the running denominator `l` and the running numerator `a` hold after the first
    `N` keys: nothing yet, or the weights summed and scaled by `2 ^ (-m)`. -/
def Held (v : ℕ → EReal) (e : ℕ → ℝ) (N : ℕ) (m l a : EReal) : Prop :=
  (N = 0 ∧ m = ⊥ ∧ l = 0 ∧ a = 0) ∨
  ∃ μ : ℝ, m = (μ : EReal) ∧ l = (((2 : ℝ) ^ (-μ) * ∑ j ∈ Finset.range N, e j : ℝ) : EReal)
    ∧ a = ∑ j ∈ Finset.range N, v j * (((2 : ℝ) ^ (-μ) * e j : ℝ) : EReal)

/-- Before any key. -/
theorem Held.start (v : ℕ → EReal) (e : ℕ → ℝ) : Held v e 0 ⊥ 0 0 := .inl ⟨rfl, rfl, rfl, rfl⟩

/-- One update of the online softmax by a block of `n` further keys. -/
theorem Held.update {v : ℕ → EReal} {e : ℕ → ℝ} {N : ℕ} {m l a : EReal} (h : Held v e N m l a)
    {n : ℕ} (S V : Fin n → EReal) (hS : ∀ j : Fin n, Weighs (S j) (e (N + j.val)))
    (hV : ∀ j : Fin n, V j = v (N + j.val)) (hex : ∃ j, S j ≠ ⊥) (m' : EReal)
    (hm' : m' = max m (Finset.univ.fold max ⊥ S)) :
    Held v e (N + n) m' (Ideal.exp2 (m - m') * l + ∑ j, Ideal.exp2 (S j - m'))
      (Ideal.exp2 (m - m') * a + ∑ j, V j * Ideal.exp2 (S j - m')) := by
  obtain ⟨μ1, hμ1⟩ := fold_max_real S (fun j => (hS j).ne_top) hex
  have key : ∀ μ' : ℝ, ∑ j, Ideal.exp2 (S j - (μ' : EReal))
      = (((2 : ℝ) ^ (-μ') * ∑ j ∈ Finset.range n, e (N + j) : ℝ) : EReal) := by
    intro μ'
    rw [Finset.mul_sum, coe_sum, Finset.sum_range]
    exact Finset.sum_congr rfl fun j _ => (hS j).exp2_sub μ'
  have keyV : ∀ μ' : ℝ, ∑ j, V j * Ideal.exp2 (S j - (μ' : EReal))
      = ∑ j ∈ Finset.range n, v (N + j) * (((2 : ℝ) ^ (-μ') * e (N + j) : ℝ) : EReal) := by
    intro μ'
    rw [Finset.sum_range]
    exact Finset.sum_congr rfl fun j _ => by rw [(hS j).exp2_sub μ', hV j]
  right
  rcases h with ⟨rfl, rfl, rfl, rfl⟩ | ⟨μ, rfl, rfl, rfl⟩
  · have hm : m' = (μ1 : EReal) := by rw [hm', hμ1]; exact max_eq_right bot_le
    subst hm
    refine ⟨μ1, rfl, ?_, ?_⟩
    · rw [key, mul_zero, zero_add, zero_add]; simp only [Nat.zero_add]
    · rw [keyV, mul_zero, zero_add, zero_add]; simp only [Nat.zero_add]
  · have hm : m' = ((max μ μ1 : ℝ) : EReal) := by rw [hm', hμ1]; exact (EReal.coe_strictMono.monotone.map_max).symm
    clear hm'
    subst hm
    generalize max μ μ1 = μ'
    have hα : Ideal.exp2 ((μ : EReal) - (μ' : EReal)) = (((2 : ℝ) ^ (μ - μ') : ℝ) : EReal) := by
      rw [← EReal.coe_sub, Ideal.exp2_coe]; rfl
    have hpow : ∀ w : ℝ, (2 : ℝ) ^ (μ - μ') * ((2 : ℝ) ^ (-μ) * w) = (2 : ℝ) ^ (-μ') * w := by
      intro w
      rw [← mul_assoc, ← Real.rpow_add (by norm_num)]
      congr 2; ring
    refine ⟨μ', rfl, ?_, ?_⟩
    · rw [key, hα, ← EReal.coe_mul, hpow, ← EReal.coe_add, ← mul_add, Finset.sum_range_add]
    · rw [keyV, hα, coe_mul_sum _ _ (by positivity), Finset.sum_range_add]
      congr 1
      refine Finset.sum_congr rfl fun j _ => ?_
      rw [mul_left_comm, ← EReal.coe_mul, hpow]

/-- The last division: the numerator over the denominator is the weighted mean of the value column. -/
theorem Held.div {v : ℕ → EReal} {e : ℕ → ℝ} {N : ℕ} {m l a : EReal} (h : Held v e N m l a)
    (hpos : 0 < ∑ j ∈ Finset.range N, e j) :
    Ideal.div a l = ∑ j ∈ Finset.range N, v j * ((e j / ∑ k ∈ Finset.range N, e k : ℝ) : EReal) := by
  rcases h with ⟨rfl, _⟩ | ⟨μ, rfl, rfl, rfl⟩
  · simp at hpos
  · have hp : (0 : ℝ) < (2 : ℝ) ^ (-μ) := by positivity
    have hy : (0 : ℝ) < (2 : ℝ) ^ (-μ) * ∑ j ∈ Finset.range N, e j := mul_pos hp hpos
    rw [Ideal.div_coe hy.ne', mul_comm, coe_mul_sum _ _ (by positivity)]
    refine Finset.sum_congr rfl fun j _ => ?_
    rw [mul_left_comm, ← EReal.coe_mul]
    congr 2
    field_simp

/-- A mean over the first `N` keys is the mean over more keys when the further ones weigh nothing. -/
theorem mean_extend {v : ℕ → EReal} {e : ℕ → ℝ} {N L : ℕ} (hNL : N ≤ L) (h0 : ∀ j, N ≤ j → e j = 0) :
    ∑ j ∈ Finset.range N, v j * ((e j / ∑ k ∈ Finset.range N, e k : ℝ) : EReal)
      = ∑ j ∈ Finset.range L, v j * ((e j / ∑ k ∈ Finset.range L, e k : ℝ) : EReal) := by
  have hsub : Finset.range N ⊆ Finset.range L := Finset.range_subset_range.mpr hNL
  have hE : ∑ k ∈ Finset.range N, e k = ∑ k ∈ Finset.range L, e k :=
    Finset.sum_subset hsub fun j _ hj => h0 j (by simpa using hj)
  rw [hE]
  refine Finset.sum_subset hsub fun j _ hj => ?_
  rw [h0 j (by simpa using hj), zero_div, EReal.coe_zero, mul_zero]

/-- A natural-base logit `s` and its weight `w`: `s` is `-∞` and `w` is 0, or `s` is real and `w = exp s`. -/
def WeighsExp (s : EReal) (w : ℝ) : Prop := (s = ⊥ ∧ w = 0) ∨ ∃ y : ℝ, s = (y : EReal) ∧ w = Real.exp y

theorem WeighsExp.ne_top {s : EReal} {w : ℝ} (h : WeighsExp s w) : s ≠ ⊤ := by
  rcases h with ⟨rfl, _⟩ | ⟨y, rfl, _⟩
  · exact bot_ne_top
  · exact EReal.coe_ne_top y

theorem WeighsExp.exp_sub {s : EReal} {w : ℝ} (h : WeighsExp s w) (μ : ℝ) :
    Ideal.exp (s - (μ : EReal)) = ((Real.exp (-μ) * w : ℝ) : EReal) := by
  rcases h with ⟨rfl, rfl⟩ | ⟨y, rfl, rfl⟩
  · simp
  · rw [← EReal.coe_sub, Ideal.exp_coe, ← Real.exp_add]
    congr 2; ring

/-- The plain softmax: exponentials less the row maximum over their sum are the weights over their sum. -/
theorem softmax_eq {n : ℕ} (S : Fin n → EReal) (e : ℕ → ℝ) (hS : ∀ j : Fin n, WeighsExp (S j) (e j.val))
    (hex : ∃ j, S j ≠ ⊥) (hpos : 0 < ∑ j ∈ Finset.range n, e j) (M : EReal)
    (hM : M = Finset.univ.fold max ⊥ S) (j : Fin n) :
    Ideal.div (Ideal.exp (S j - M)) (∑ k, Ideal.exp (S k - M))
      = ((e j.val / ∑ k ∈ Finset.range n, e k : ℝ) : EReal) := by
  obtain ⟨μ, hμ⟩ := fold_max_real S (fun j => (hS j).ne_top) hex
  rw [hM, hμ]
  have hsum : ∑ k, Ideal.exp (S k - (μ : EReal))
      = ((Real.exp (-μ) * ∑ k ∈ Finset.range n, e k : ℝ) : EReal) := by
    rw [Finset.mul_sum, coe_sum, Finset.sum_range]
    exact Finset.sum_congr rfl fun j _ => (hS j).exp_sub μ
  have hp : (0 : ℝ) < Real.exp (-μ) := Real.exp_pos _
  rw [hsum, (hS j).exp_sub μ, Ideal.div_coe (mul_pos hp hpos).ne', ← EReal.coe_mul]
  congr 1
  field_simp

/-- `log₂ e` turns natural logits into base-two ones. -/
theorem two_pow_log2e (x : ℝ) : (2 : ℝ) ^ (x * (1 / Real.log 2)) = Real.exp x := by
  have h2 : Real.log 2 ≠ 0 := (Real.log_pos (by norm_num)).ne'
  rw [Real.rpow_def_of_pos (by norm_num)]
  congr 1
  field_simp

end Cert.Proof

end
-- ==== Proof.Spec.lean ====
/- What both programs compute, on the reals: the forgetting-attention logits of one head, the causal weights, and the
   weighted mean of a value column. Indices: `b` the batch, `h` the head, `t` the query's position, `s` the key's. -/
module

public import proofs.«01_k».proof.Proof.Softmax
public import Idealize.ShloMosaic.Lib.Pointwise

@[expose] public section

noncomputable section

namespace Cert.Proof

open Idealize.ShloMosaic

/-- The index of a `[2, 8192, 8, 128]` array, and of a `[2, 8192, 8]` one. -/
abbrev HeadIdx : Type := (⟨4, ![2, 8192, 8, 128]⟩ : Shape).Idx
abbrev GateIdx : Type := (⟨3, ![2, 8192, 8]⟩ : Shape).Idx

/-- The logit of key `s` for query `t`: the scaled inner product, plus the decay between the two positions. -/
def natLogit (σ : ℝ) (Q K : HeadIdx → ℝ) (F : GateIdx → ℝ) (b : Fin 2) (h : Fin 8) (t s : Fin 8192) : ℝ :=
  (∑ d : Fin 128, Q (ix4 b t h d) * K (ix4 b s h d)) * σ + F (ix3 b t h) - F (ix3 b s h)

/-- The weight of key `s` for query `t`, over all natural numbers: 0 past the query. -/
def weight (x : Fin 8192 → ℝ) (t : Fin 8192) (s : ℕ) : ℝ :=
  if h : s < 8192 then (if s ≤ t.val then Real.exp (x ⟨s, h⟩) else 0) else 0

/-- A column of 8192 entries over all natural numbers. -/
def column (v : Fin 8192 → EReal) (s : ℕ) : EReal := if h : s < 8192 then v ⟨s, h⟩ else 0

/-- The mean of `v` under the causal weights of query `t`. -/
def attend (x : Fin 8192 → ℝ) (t : Fin 8192) (v : Fin 8192 → EReal) : EReal :=
  ∑ s ∈ Finset.range 8192, column v s * ((weight x t s / ∑ k ∈ Finset.range 8192, weight x t k : ℝ) : EReal)

/-- The SiLU gate. -/
def gate (g : EReal) : EReal := g * Ideal.logistic g

theorem weight_past (x : Fin 8192 → ℝ) (t : Fin 8192) {s : ℕ} (hs : t.val < s) : weight x t s = 0 := by
  unfold weight
  split
  · rw [if_neg (by omega)]
  · rfl

theorem weight_nonneg (x : Fin 8192 → ℝ) (t : Fin 8192) (s : ℕ) : 0 ≤ weight x t s := by
  unfold weight
  split
  · split
    · exact (Real.exp_pos _).le
    · exact le_rfl
  · exact le_rfl

/-- The weights of the keys up to any bound sum to something positive: key 0 is always seen. -/
theorem weight_sum_pos (x : Fin 8192 → ℝ) (t : Fin 8192) {N : ℕ} (hN : 0 < N) :
    0 < ∑ s ∈ Finset.range N, weight x t s := by
  refine Finset.sum_pos' (fun s _ => weight_nonneg x t s) ⟨0, Finset.mem_range.mpr hN, ?_⟩
  unfold weight
  rw [dif_pos (by norm_num), if_pos (Nat.zero_le _)]
  exact Real.exp_pos _

/-- The base-two logit of a seen key, and `-∞` for an unseen one, weigh what `weight` says. -/
theorem weighs_weight (x : Fin 8192 → ℝ) (t s : Fin 8192) (S : EReal)
    (hS : S = if s.val ≤ t.val then ((x s * (1 / Real.log 2) : ℝ) : EReal) else ⊥) :
    Weighs S (weight x t s.val) := by
  subst hS
  unfold weight
  rw [dif_pos s.isLt]
  split
  · exact .inr ⟨_, rfl, (two_pow_log2e _).symm⟩
  · exact .inl ⟨rfl, rfl⟩

/-- The same with the natural-base logit. -/
theorem weighsExp_weight (x : Fin 8192 → ℝ) (t s : Fin 8192) (S : EReal)
    (hS : S = if s.val ≤ t.val then ((x s : ℝ) : EReal) else ⊥) :
    WeighsExp S (weight x t s.val) := by
  subst hS
  unfold weight
  rw [dif_pos s.isLt]
  split
  · exact .inr ⟨_, rfl, rfl⟩
  · exact .inl ⟨rfl, rfl⟩

/-- The mean over a prefix that holds every seen key is the whole mean. -/
theorem attend_prefix (x : Fin 8192 → ℝ) (t : Fin 8192) (v : Fin 8192 → EReal) {N : ℕ} (ht : t.val < N)
    (hN : N ≤ 8192) :
    ∑ s ∈ Finset.range N, column v s * ((weight x t s / ∑ k ∈ Finset.range N, weight x t k : ℝ) : EReal)
      = attend x t v :=
  mean_extend hN fun _ hj => weight_past x t (by omega)

/-- Small numbers as words keep their order. -/
theorem le_word {s t : ℕ} (hs : s < 16384) (ht : t < 16384) :
    IntOp.cmpi .sle (BitVec.ofNat 32 s) (BitVec.ofNat 32 t) = if s ≤ t then 1#1 else 0#1 := by
  have h : ∀ n : ℕ, n < 16384 → (BitVec.ofNat 32 n).toInt = n := by
    intro n hn
    rw [BitVec.toInt_eq_toNat_of_lt (by rw [BitVec.toNat_ofNat]; omega), BitVec.toNat_ofNat]
    omega
  simp only [IntOp.cmpi, BitVec.sle, h s hs, h t ht, Nat.cast_le]
  split <;> rename_i hc <;> simp [hc]

/-- The sum of two small numbers as words. -/
theorem add_word (a b : ℕ) : IntOp.addi (BitVec.ofNat 32 a) (BitVec.ofNat 32 b) = BitVec.ofNat 32 (a + b) := by
  simp [IntOp.addi, BitVec.ofNat_add]

/-! ## One query's row through a block of keys -/

/-- A block of keys that the query sees in full: the running quantities take it up. -/
theorem Held.full {x : Fin 8192 → ℝ} {t : Fin 8192} {vc : Fin 8192 → EReal} {N n : ℕ} {m l a : EReal}
    (hH : Held (column vc) (weight x t) N m l a) (hn : 0 < n) (ht : N + n ≤ t.val + 1) (S V : Fin n → EReal)
    (hS : ∀ j : Fin n, S j = ((x ⟨N + j.val, by omega⟩ * (1 / Real.log 2) : ℝ) : EReal))
    (hV : ∀ j : Fin n, V j = vc ⟨N + j.val, by omega⟩) (m' : EReal)
    (hm' : m' = max m (Finset.univ.fold max ⊥ S)) :
    Held (column vc) (weight x t) (N + n) m' (Ideal.exp2 (m - m') * l + ∑ j, Ideal.exp2 (S j - m'))
      (Ideal.exp2 (m - m') * a + ∑ j, V j * Ideal.exp2 (S j - m')) := by
  refine hH.update S V (fun j => ?_) (fun j => ?_) ⟨⟨0, hn⟩, ?_⟩ m' hm'
  · refine weighs_weight x t ⟨N + j.val, by omega⟩ _ ?_
    rw [hS, if_pos (show N + j.val ≤ t.val by omega)]
  · rw [hV, column, dif_pos]
  · rw [hS]; exact EReal.coe_ne_bot _

/-- The block that holds the query itself, later keys masked: the last update and the division give the mean. -/
theorem Held.diagonal {x : Fin 8192 → ℝ} {t : Fin 8192} {vc : Fin 8192 → EReal} {N n : ℕ} {m l a : EReal}
    (hH : Held (column vc) (weight x t) N m l a) (hNt : N ≤ t.val) (ht : t.val < N + n) (hN : N + n ≤ 8192)
    (S V : Fin n → EReal)
    (hS : ∀ j : Fin n, S j = if N + j.val ≤ t.val
      then ((x ⟨N + j.val, by omega⟩ * (1 / Real.log 2) : ℝ) : EReal) else ⊥)
    (hV : ∀ j : Fin n, V j = vc ⟨N + j.val, by omega⟩) (m' : EReal)
    (hm' : m' = max m (Finset.univ.fold max ⊥ S)) :
    Ideal.div (Ideal.exp2 (m - m') * a + ∑ j, V j * Ideal.exp2 (S j - m'))
      (Ideal.exp2 (m - m') * l + ∑ j, Ideal.exp2 (S j - m')) = attend x t vc := by
  have h := hH.update S V (fun j => weighs_weight x t ⟨N + j.val, by omega⟩ _ (hS j))
    (fun j => by rw [hV, column, dif_pos]) ⟨⟨0, by omega⟩, by
      rw [hS, if_pos (show N + 0 ≤ t.val by omega)]; exact EReal.coe_ne_bot _⟩ m' hm'
  rw [h.div (weight_sum_pos x t (by omega)), attend_prefix x t vc ht hN]

/-! ## The columns that carry the decay through the matrix product -/

/-- The `j`-th extra entry of a key's row: three ones, the key's decay negated and its two roundings' remainders
    (0 on the reals), zeros. -/
def augKey (f : ℝ) (j : ℕ) : ℝ :=
  if j < 6 then if j < 1 then 1 else if j - 1 < 1 then 1 else if j - 1 - 1 < 1 then 1 else
    if j - 1 - 1 - 1 < 1 then -f else 0 else 0

/-- The `j`-th extra entry of a query's column. -/
def augQuery (f : ℝ) (j : ℕ) : ℝ :=
  if j < 6 then if j < 1 then f else if j - 1 < 1 then 0 else if j - 1 - 1 < 1 then 0 else 1 else 0

/-- The extra entries add the difference of the two decays. -/
theorem aug_sum (fq fk : ℝ) : ∑ j ∈ Finset.range 128, augKey fk j * augQuery fq j = fq - fk := by
  rw [show (128 : ℕ) = 6 + 122 from rfl, Finset.sum_range_add]
  rw [Finset.sum_eq_zero (s := Finset.range 122) fun j _ => by simp [augKey]]
  simp [Finset.sum_range_succ, augKey, augQuery]
  ring

/-- The inner product of an augmented key row and an augmented query column is the base-two logit. -/
theorem aug_logit (σ : ℝ) (Q K : HeadIdx → ℝ) (F : GateIdx → ℝ) (b : Fin 2) (h : Fin 8) (t s : Fin 8192)
    (kr qc : Fin 256 → ℝ)
    (hk : ∀ e : Fin 256, kr e = if he : e.val < 128 then K (ix4 b s h ⟨e.val, he⟩)
      else augKey (F (ix3 b s h) * (1 / Real.log 2)) (e.val - 128))
    (hq : ∀ e : Fin 256, qc e = if he : e.val < 128 then Q (ix4 b t h ⟨e.val, he⟩) * (σ * (1 / Real.log 2))
      else augQuery (F (ix3 b t h) * (1 / Real.log 2)) (e.val - 128)) :
    ∑ e, kr e * qc e = natLogit σ Q K F b h t s * (1 / Real.log 2) := by
  rw [show (∑ e : Fin 256, kr e * qc e) = ∑ e : Fin (128 + 128), kr e * qc e from rfl, Fin.sum_univ_add]
  have h1 : ∀ d : Fin 128, kr (Fin.castAdd 128 d) * qc (Fin.castAdd 128 d)
      = Q (ix4 b t h d) * K (ix4 b s h d) * (σ * (1 / Real.log 2)) := by
    intro d
    rw [hk, hq, dif_pos (show (Fin.castAdd 128 d).val < 128 from d.isLt),
      dif_pos (show (Fin.castAdd 128 d).val < 128 from d.isLt)]
    show K (ix4 b s h d) * (Q (ix4 b t h d) * _) = _
    ring
  have h2 : ∀ j : Fin 128, kr (Fin.natAdd 128 j) * qc (Fin.natAdd 128 j)
      = augKey (F (ix3 b s h) * (1 / Real.log 2)) j.val * augQuery (F (ix3 b t h) * (1 / Real.log 2)) j.val := by
    intro j
    have hj : ¬ (Fin.natAdd 128 j).val < 128 := by simp
    rw [hk, hq, dif_neg hj, dif_neg hj]
    simp
  rw [Finset.sum_congr rfl fun d _ => h1 d, Finset.sum_congr rfl fun j _ => h2 j, ← Finset.sum_mul,
    ← Finset.sum_range (fun j => augKey (F (ix3 b s h) * (1 / Real.log 2)) j
      * augQuery (F (ix3 b t h) * (1 / Real.log 2)) j), aug_sum]
  unfold natLogit
  ring

end Cert.Proof

end
-- ==== Proof.Consts.lean ====
/- The float constants of the two programs as the extended reals that their bit patterns denote. -/
module

public import Idealize.ShloMosaic.PureOps.Ideal

@[expose] public section

noncomputable section

namespace Cert.Proof.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The logits' scale is a real number (`128 ^ (-1/2)` rounded). -/
theorem ofBits_scale : ∃ σ : ℝ, Ideal.ofBits .f32 0x3DB504F3#32 = (σ : EReal) := by
  simp [Ideal.ofBits, Ideal.ieee, -EReal.coe_mul]

end Cert.Proof.Consts

end
-- ==== Proof.RowMax.lean ====
/- The running maximum's update, read at a query, for a block of any number of keys. -/
module

public import proofs.«01_k».proof.Proof.Gen.KernelIdeal.Skeleton
public import proofs.«01_k».proof.Proof.Spec
public import proofs.«01_k».proof.Proof.Consts
public import Idealize.ShloMosaic.Lib.Pointwise

@[expose] public section

set_option maxRecDepth 8192

noncomputable section

namespace Cert.Proof.Tiles

open Cert.KernelIdeal Cert.KernelIdeal.Gen Idealize.ShloMosaic Idealize.ShloMosaic.TcCoe Idealize.SL.Sem

/-- The new maximum of a query: the old one against the largest logit of the block. -/
theorem newMax {n : ℕ} (x : FVec Ideal ⟨2, ![n, 512]⟩ .f32) (m : FVec Ideal S1x512 .f32)
    (h : Shape.Reduces (⟨2, ![n, 512]⟩ : Shape) [0] S512) (hs : Shape.ShapeCasts S512 S1x512) (r : Fin 512) :
    maximumf m (shapeCast S1x512 (multiReduction .maximumf [0] S512 x 0xFF800000#32 h (.inl rfl) rfl) hs) (ix2 0 r)
      = max (m (ix2 0 r)) (Finset.univ.fold max ⊥ fun j : Fin n => x (ix2 j r) : EReal) := by
  pointwise []
  rw [Consts.ofBits_neg_inf]

end Cert.Proof.Tiles

end
-- ==== Proof.TilePast.lean ====
/- The kernel's blocks of 4096 past keys, and its values before any key, read at an index. -/
module

public import proofs.«01_k».proof.Proof.Gen.KernelIdeal.Skeleton
public import proofs.«01_k».proof.Proof.Spec
public import proofs.«01_k».proof.Proof.RowMax
public import Idealize.ShloMosaic.Lib.Pointwise

@[expose] public section

set_option maxRecDepth 8192

noncomputable section

namespace Cert.Proof.Tiles

open Cert.KernelIdeal Cert.KernelIdeal.Gen Idealize.ShloMosaic Idealize.ShloMosaic.TcCoe Idealize.SL.Sem

/-- The query block is used as it is loaded. -/
theorem query_block (q : Vec Ideal S256x512 .bf16) : k0_pay57 q = q := shapeCast_self _ _

/-- The maximum before any key. -/
theorem max_start (r : Fin 512) : k0_pay59 (F := Ideal) (ix2 0 r) = (⊥ : EReal) := rfl

/-- The sum of weights before any key. -/
theorem sum_start (r : Fin 512) : k0_pay60 (F := Ideal) (ix2 0 r) = (0 : EReal) := Consts.ofBits_zero

/-- The numerators before any key. -/
theorem acc_start (d : Fin 128) (r : Fin 512) : k0_pay58 (F := Ideal) (ix2 d r) = (0 : EReal) := by
  pointwise [k0_pay58]
  try exact Consts.ofBits_zero

/-- A past block's logits. -/
theorem past_logits (q : Vec Ideal S256x512 .bf16) (k : Vec Ideal S4096x256 .bf16) (j : Fin 4096) (r : Fin 512) :
    k0_pay61 q k (ix2 j r) = (∑ e : Fin 256, k (ix2 j e) * q (ix2 e r) : EReal) := by
  pointwise [k0_pay61, k0_pay57]

/-- The new maxima. -/
theorem past_max (q : Vec Ideal S256x512 .bf16) (m : FVec Ideal S1x512 .f32) (k : Vec Ideal S4096x256 .bf16)
    (r : Fin 512) :
    k0_pay62 q m k (ix2 0 r)
      = max (m (ix2 0 r)) (Finset.univ.fold max ⊥ fun j : Fin 4096 => k0_pay61 q k (ix2 j r) : EReal) :=
  newMax (k0_pay61 q k) m _ _ r

/-- The new sums of weights. -/
theorem past_sum (q : Vec Ideal S256x512 .bf16) (m l : FVec Ideal S1x512 .f32) (k : Vec Ideal S4096x256 .bf16)
    (r : Fin 512) :
    k0_pay65 q m l k (ix2 0 r)
      = Ideal.exp2 (m (ix2 0 r) - k0_pay62 q m k (ix2 0 r)) * l (ix2 0 r)
        + ∑ j : Fin 4096, Ideal.exp2 (k0_pay61 q k (ix2 j r) - k0_pay62 q m k (ix2 0 r)) := by
  pointwise [k0_pay65, k0_pay64, k0_pay63]
  rfl

/-- The new numerators. -/
theorem past_acc (q : Vec Ideal S256x512 .bf16) (m : FVec Ideal S1x512 .f32) (k : Vec Ideal S4096x256 .bf16)
    (a : Vec Ideal S128x512 .f32) (v : Vec Ideal S128x4096 .bf16) (d : Fin 128) (r : Fin 512) :
    k0_pay66 q m k a v (ix2 d r)
      = Ideal.exp2 (m (ix2 0 r) - k0_pay62 q m k (ix2 0 r)) * a (ix2 d r)
        + ∑ j : Fin 4096, v (ix2 d j) * Ideal.exp2 (k0_pay61 q k (ix2 j r) - k0_pay62 q m k (ix2 0 r)) := by
  pointwise [k0_pay66, k0_pay64, k0_pay63]
  rfl

/-- A past block taken up, for one query and one value column. -/
theorem past {x : Fin 8192 → ℝ} {t : Fin 8192} {vc : Fin 8192 → EReal} {N : ℕ}
    (q : Vec Ideal S256x512 .bf16) (m l : FVec Ideal S1x512 .f32) (k : Vec Ideal S4096x256 .bf16)
    (a : Vec Ideal S128x512 .f32) (v : Vec Ideal S128x4096 .bf16) (d : Fin 128) (r : Fin 512)
    (hH : Held (column vc) (weight x t) N (m (ix2 0 r)) (l (ix2 0 r)) (a (ix2 d r)))
    (ht : N + 4096 ≤ t.val)
    (hS : ∀ j : Fin 4096, (∑ e : Fin 256, k (ix2 j e) * q (ix2 e r) : EReal)
      = ((x ⟨N + j.val, by omega⟩ * (1 / Real.log 2) : ℝ) : EReal))
    (hV : ∀ j : Fin 4096, v (ix2 d j) = vc ⟨N + j.val, by omega⟩) :
    Held (column vc) (weight x t) (N + 4096) (k0_pay62 q m k (ix2 0 r)) (k0_pay65 q m l k (ix2 0 r))
      (k0_pay66 q m k a v (ix2 d r)) := by
  rw [past_sum, past_acc]
  exact hH.full (by omega) (by omega) (fun j => k0_pay61 q k (ix2 j r)) (fun j => v (ix2 d j))
    (fun j => by rw [past_logits, hS]) hV _ (past_max q m k r)

end Cert.Proof.Tiles

end
-- ==== Proof.LoopRun.lean ====
/- The kernel's loop over the past blocks of 4096 keys of a grid point, run. -/
module

public import proofs.«01_k».proof.Proof.Gen.KernelIdeal.Value
public import proofs.«01_k».proof.Proof.TilePast
public import Idealize.ShloMosaic.Lib.VecWindow

@[expose] public section

set_option maxRecDepth 8192

noncomputable section

namespace Cert.Proof.Grid

open Cert.KernelIdeal Cert.KernelIdeal.Gen Idealize.ShloMosaic Idealize.ShloMosaic.TcCoe Idealize.SL.Sem

/-! ## The grid point's words -/

/-- The loop over past blocks runs once from the ninth block of queries on, and not before. -/
theorem trips_past (i : grid0.Coords) :
    Scf.trips (k0_t1_loop i).lb (k0_t1_loop i).ub (k0_t1_loop i).st = (i 2).val / 8 := by
  dsimp only [k0_t1_loop]
  generalize (i 2) = n
  revert n; decide

/-- The loop over a remainder never runs. -/
theorem trips_rest (i : grid0.Coords) :
    Scf.trips (k0_t2_loop i).lb (k0_t2_loop i).ub (k0_t2_loop i).st = 0 := by
  dsimp only [k0_t2_loop]
  generalize (i 2) = n
  revert n; decide

/-- The past block's keys start at the first row. -/
theorem off_past_keys (i : grid0.Coords) (k : Fin (k0_t1_loop i).trips) : k0_off1 i k = ![0, 0] := by
  have hk : k.val = 0 := by have := Nat.lt_of_lt_of_le k.isLt (k0_t1_abs i).2.1; omega
  dsimp only [k0_off1]
  rw [hk]
  rfl

/-- The past block's values start at the first column. -/
theorem off_past_values (i : grid0.Coords) (k : Fin (k0_t1_loop i).trips) : k0_off2 i k = ![0, 0] := by
  have hk : k.val = 0 := by have := Nat.lt_of_lt_of_le k.isLt (k0_t1_abs i).2.1; omega
  dsimp only [k0_off2]
  rw [hk]
  rfl

theorem hz : (![0, 0] : Fin 2 → Nat) = fun _ => 0 := funext fun a => by fin_cases a <;> rfl

/-- Rows loaded from a keys array, read at an index. -/
theorem ld_rows (x : Vec Ideal S8192x256 .bf16) {n N : ℕ} {off : Fin 2 → ℕ}
    (inb : ∀ a, off a + (⟨2, ![n, 256]⟩ : Shape).size a ≤ S8192x256.size a) (h : off = ![N, 0]) (j : Fin n) (e : Fin 256)
    (hN : N + n ≤ 8192) :
    View.ld x (Rect.unit off (⟨2, ![n, 256]⟩ : Shape).size inb) (ix2 j e) = x (ix2 ⟨N + j.val, by omega⟩ e) := by
  subst h
  show x _ = x _
  refine congrArg x (funext fun a => Fin.ext ?_)
  match a with
  | ⟨0, _⟩ => show N + 1 * j.val = N + j.val; omega
  | ⟨1, _⟩ => show 0 + 1 * e.val = e.val; omega

/-- Columns loaded from a values array, read at an index. -/
theorem ld_cols (x : Vec Ideal S128x8192 .bf16) {n N : ℕ} {off : Fin 2 → ℕ}
    (inb : ∀ a, off a + (⟨2, ![128, n]⟩ : Shape).size a ≤ S128x8192.size a) (h : off = ![0, N]) (d : Fin 128) (j : Fin n)
    (hN : N + n ≤ 8192) :
    View.ld x (Rect.unit off (⟨2, ![128, n]⟩ : Shape).size inb) (ix2 d j) = x (ix2 d ⟨N + j.val, by omega⟩) := by
  subst h
  show x _ = x _
  refine congrArg x (funext fun a => Fin.ext ?_)
  match a with
  | ⟨0, _⟩ => show 0 + 1 * d.val = d.val; omega
  | ⟨1, _⟩ => show N + 1 * j.val = N + j.val; omega

/-! ## The loops -/

variable (c : Dev nD) (i : grid0.Coords)
  (arg3 : Memref sig .tc .vmem S256x512 .bf16) (harg3 : arg3.IsWhole)
  (arg4 : Memref sig .tc .vmem S8192x256 .bf16) (harg4 : arg4.IsWhole)
  (arg5 : Memref sig .tc .vmem S128x8192 .bf16) (harg5 : arg5.IsWhole)
  (arg6 : Memref sig .tc .vmem S512x128 .f32) (harg6 : arg6.IsWhole)
  (arg7 : Memref sig .tc .vmem S512x128 .bf16) (harg7 : arg7.IsWhole)
  (arg8 : Memref sig .tc .vmem S128x512 .f32) (harg8 : arg8.IsWhole)

/-- The numerators cleared: the one store before the loops. -/
abbrev cleared : List (View.Piece (Elt Ideal) S128x512 .f32) :=
  [⟨Rect.unit ![0, 0] S128x512.size inb_S128x512_S128x512_0_0, k0_pay58 (F := Ideal)⟩]

/-- The numerators read after a store of them all are what was stored. -/
theorem read_last (w : Vec Ideal S128x512 .f32) (L : List (View.Piece (Elt Ideal) S128x512 .f32)) :
    arg8.view.readCov (⟨Rect.unit ![0, 0] ![128, 512] inb_S128x512_S128x512_0_0, w⟩ :: L)
      (Rect.unit ![0, 0] ![128, 512] inb_S128x512_S128x512_0_0).toLoadRect = w :=
  View.readCov_full arg8.view inb_S128x512_S128x512_0_0 inb_S128x512_S128x512_0_0 w L

/-- The loop over a remainder changes nothing. -/
theorem rest_none (v0 : Vec Ideal S256x512 .bf16) (X4 : BufTy.Contents (Elt Ideal) arg4.view.ty)
    (X5 : BufTy.Contents (Elt Ideal) arg5.view.ty) (G : BufTy.Contents (Elt Ideal) arg8.view.ty)
    (s : FVec Ideal S1x512 .f32 × FVec Ideal S1x512 .f32) :
    st_k0_t2 Variants.none c none i arg3 harg3 arg4 harg4 arg5 harg5 arg6 harg6 arg7 harg7 arg8 harg8 v0 X4 X5 G s 0
      = (s, []) := rfl

/-- After the loop over past blocks the running quantities of a query hold the keys before its own part of the row. -/
theorem carried {x : Fin 8192 → ℝ} {t : Fin 8192} {vc : Fin 8192 → EReal}
    (x0 : Vec Ideal S256x512 .bf16) (x1 : Vec Ideal S8192x256 .bf16) (x2 : Vec Ideal S128x8192 .bf16)
    (d : Fin 128) (r : Fin 512) (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s)
    (S : (FVec Ideal S1x512 .f32 × FVec Ideal S1x512 .f32) × List (View.Piece (Elt Ideal) S128x512 .f32))
    (hst : S = st_k0_t1 Variants.none c none i arg3 harg3 arg4 harg4 arg5 harg5 arg6 harg6 arg7 harg7 arg8 harg8 x0
      (harg4.unread x1) (harg5.unread x2) (arg8.view.writes (Elt Ideal) arg8.view.junk
        cleared)
      (k0_pay59, k0_pay60) ((i 2).val / 8)) :
    Held (column vc) (weight x t) ((i 2).val / 8 * 4096) (S.1.1 (ix2 0 r)) (S.1.2 (ix2 0 r))
      (arg8.view.readCov (S.2 ++ cleared)
        (Rect.unit ![0, 0] S128x512.size inb_S128x512_S128x512_0_0).toLoadRect (ix2 d r)) := by
  have hi : (i 2).val < 16 := (i 2).isLt
  have h0 : Held (column vc) (weight x t) 0 (k0_pay59 (F := Ideal) (ix2 0 r)) (k0_pay60 (F := Ideal) (ix2 0 r))
      (k0_pay58 (F := Ideal) (ix2 d r)) := by
    rw [Tiles.max_start, Tiles.sum_start, Tiles.acc_start]; exact Held.start _ _
  subst hst
  have htr := trips_past i
  rcases (by omega : (i 2).val / 8 = 0 ∨ (i 2).val / 8 = 1) with h | h
  · rw [h]
    show Held _ _ 0 (k0_pay59 (F := Ideal) (ix2 0 r)) (k0_pay60 (F := Ideal) (ix2 0 r)) _
    exact (congrFun (read_last arg8 (k0_pay58 (F := Ideal)) []) (ix2 d r)).symm ▸ h0
  · have hk : 0 < (k0_t1_loop i).trips := by rw [show (k0_t1_loop i).trips = _ from htr, h]; omega
    have hs := st_k0_t1_succ (F := Ideal) Variants.none c none i arg3 harg3 arg4 harg4 arg5 harg5 arg6 harg6 arg7 harg7
      arg8 harg8 x0 (harg4.unread x1) (harg5.unread x2) (arg8.view.writes (Elt Ideal) arg8.view.junk
        cleared) (k0_pay59, k0_pay60) ⟨0, hk⟩
    unfold tripR_k0_t1 tripL_k0_t1 trip_k0_t1 at hs
    dsimp only at hs
    rw [h, hs]
    dsimp only
    rw [List.cons_append, List.cons_append, read_last]
    have hm : ∀ G, (st_k0_t1 (F := Ideal) Variants.none c none i arg3 harg3 arg4 harg4 arg5 harg5 arg6 harg6 arg7 harg7
      arg8 harg8 x0 (harg4.unread x1) (harg5.unread x2) G (k0_pay59, k0_pay60) 0) = ((k0_pay59, k0_pay60), []) := fun _ => rfl
    have ha := read_last arg8 (k0_pay58 (F := Ideal)) []
    simp only [hm, View.writes_nil]
    rw [show View.readAt (Elt Ideal) arg8.view (Rect.unit ![0, 0] ![128, 512] inb_S128x512_S128x512_0_0).toLoadRect
      (arg8.view.writes (Elt Ideal) arg8.view.junk cleared) = k0_pay58 (F := Ideal) from ha]
    simp only [View.readAt_eq_ld, harg4.read_unread, harg5.read_unread]
    refine Tiles.past (x := x) (t := t) (vc := vc) (N := 0) x0 k0_pay59 k0_pay60 _ (k0_pay58 (F := Ideal)) _ d r h0 (by omega) (fun j => ?_) (fun j => ?_)
    · rw [← hS]
      exact Finset.sum_congr rfl fun e _ => by
        rw [ld_rows x1 _ (off_past_keys i _) j e (by omega)]
    · rw [ld_cols x2 _ (off_past_values i _) d j (by omega), hV]

end Cert.Proof.Grid

end
-- ==== Proof.TilesA.lean ====
/- The kernel's diagonal blocks of up to 2048 keys read at an index. -/
module

public import proofs.«01_k».proof.Proof.Gen.KernelIdeal.Skeleton
public import proofs.«01_k».proof.Proof.Spec
public import proofs.«01_k».proof.Proof.RowMax
public import Idealize.ShloMosaic.Lib.Pointwise

@[expose] public section

set_option maxRecDepth 8192

noncomputable section

namespace Cert.Proof.Tiles

open Cert.KernelIdeal Cert.KernelIdeal.Gen Idealize.ShloMosaic Idealize.ShloMosaic.TcCoe Idealize.SL.Sem

/-! ## Case A: 512 keys, the query's block at offset 0 -/

/-- The masked logits. -/
theorem logits_A (q : FVec Ideal S256x512 .bf16) (k : Vec Ideal S512x256 .bf16) (j : Fin 512) (r : Fin 512) :
    k0_pay9 q k (ix2 j r) = if j.val ≤ r.val then ∑ e : Fin 256, k (ix2 j e) * q (ix2 e r) else (⊥ : EReal) := by
  pointwise [k0_pay9]
  rw [add_word, le_word (by omega) (by omega)]
  simp only [Nat.add_zero]
  split <;> rfl

/-- The new maxima. -/
theorem max_A (q : FVec Ideal S256x512 .bf16) (m : FVec Ideal S1x512 .f32) (k : Vec Ideal S512x256 .bf16)
    (r : Fin 512) :
    k0_pay10 q m k (ix2 0 r)
      = max (m (ix2 0 r)) (Finset.univ.fold max ⊥ fun j : Fin 512 => k0_pay9 q k (ix2 j r) : EReal) :=
  newMax (k0_pay9 q k) m _ _ r

/-- The new numerators. -/
theorem acc_A (q : FVec Ideal S256x512 .bf16) (m : FVec Ideal S1x512 .f32) (k : Vec Ideal S512x256 .bf16)
    (a : Vec Ideal S128x512 .f32) (v : Vec Ideal S128x512 .bf16) (d : Fin 128) (r : Fin 512) :
    k0_pay13 q m k a v (ix2 d r)
      = Ideal.exp2 (m (ix2 0 r) - k0_pay10 q m k (ix2 0 r)) * a (ix2 d r)
        + ∑ j : Fin 512, v (ix2 d j) * Ideal.exp2 (k0_pay9 q k (ix2 j r) - k0_pay10 q m k (ix2 0 r)) := by
  pointwise [k0_pay13, k0_pay12, k0_pay11]
  rfl

/-- The gated quotient. -/
theorem quot_A (q : FVec Ideal S256x512 .bf16) (m l : FVec Ideal S1x512 .f32) (k : Vec Ideal S512x256 .bf16)
    (a : Vec Ideal S128x512 .f32) (g : Vec Ideal S512x128 .f32) (d : Fin 128) (r : Fin 512) :
    k0_pay14 q m l k a g (ix2 r d)
      = Ideal.div (a (ix2 d r)) (Ideal.exp2 (m (ix2 0 r) - k0_pay10 q m k (ix2 0 r)) * l (ix2 0 r)
        + ∑ j : Fin 512, Ideal.exp2 (k0_pay9 q k (ix2 j r) - k0_pay10 q m k (ix2 0 r))) * gate (g (ix2 r d)) := by
  pointwise [k0_pay14, k0_pay12, k0_pay11]
  rfl

/-- The whole case, for one query and one value column. -/
theorem case_A {x : Fin 8192 → ℝ} {t : Fin 8192} {vc : Fin 8192 → EReal} {N : ℕ}
    (q : FVec Ideal S256x512 .bf16) (m l : FVec Ideal S1x512 .f32) (k : Vec Ideal S512x256 .bf16)
    (a : Vec Ideal S128x512 .f32) (v : Vec Ideal S128x512 .bf16) (g : Vec Ideal S512x128 .f32) (d : Fin 128) (r : Fin 512)
    (hH : Held (column vc) (weight x t) N (m (ix2 0 r)) (l (ix2 0 r)) (a (ix2 d r)))
    (ht : t.val = N + r.val) (hN : N + 512 ≤ 8192)
    (hS : ∀ j : Fin 512, (∑ e : Fin 256, k (ix2 j e) * q (ix2 e r) : EReal)
      = ((x ⟨N + j.val, by omega⟩ * (1 / Real.log 2) : ℝ) : EReal))
    (hV : ∀ j : Fin 512, v (ix2 d j) = vc ⟨N + j.val, by omega⟩) :
    k0_pay14 q m l k (k0_pay13 q m k a v) g (ix2 r d) = attend x t vc * gate (g (ix2 r d)) := by
  rw [quot_A, acc_A]
  refine congrArg (fun z : EReal => z * gate (g (ix2 r d))) ?_
  refine hH.diagonal (by omega) (by omega) hN (fun j => k0_pay9 q k (ix2 j r)) (fun j => v (ix2 d j)) (fun j => ?_) hV _
    (max_A q m k r)
  rw [logits_A, hS]
  by_cases hj : j.val ≤ r.val
  · rw [if_pos hj, if_pos (by omega)]
  · rw [if_neg hj, if_neg (by omega)]

/-! ## Case B: 1024 keys, the query's block at offset 512 -/

/-- The masked logits. -/
theorem logits_B (q : FVec Ideal S256x512 .bf16) (k : Vec Ideal S1024x256 .bf16) (j : Fin 1024) (r : Fin 512) :
    k0_pay15 q k (ix2 j r) = if j.val ≤ r.val + 512 then ∑ e : Fin 256, k (ix2 j e) * q (ix2 e r) else (⊥ : EReal) := by
  pointwise [k0_pay15]
  rw [add_word, le_word (by omega) (by omega)]
  split <;> rfl

/-- The new maxima. -/
theorem max_B (q : FVec Ideal S256x512 .bf16) (m : FVec Ideal S1x512 .f32) (k : Vec Ideal S1024x256 .bf16)
    (r : Fin 512) :
    k0_pay16 q m k (ix2 0 r)
      = max (m (ix2 0 r)) (Finset.univ.fold max ⊥ fun j : Fin 1024 => k0_pay15 q k (ix2 j r) : EReal) :=
  newMax (k0_pay15 q k) m _ _ r

/-- The new numerators. -/
theorem acc_B (q : FVec Ideal S256x512 .bf16) (m : FVec Ideal S1x512 .f32) (k : Vec Ideal S1024x256 .bf16)
    (a : Vec Ideal S128x512 .f32) (v : Vec Ideal S128x1024 .bf16) (d : Fin 128) (r : Fin 512) :
    k0_pay19 q m k a v (ix2 d r)
      = Ideal.exp2 (m (ix2 0 r) - k0_pay16 q m k (ix2 0 r)) * a (ix2 d r)
        + ∑ j : Fin 1024, v (ix2 d j) * Ideal.exp2 (k0_pay15 q k (ix2 j r) - k0_pay16 q m k (ix2 0 r)) := by
  pointwise [k0_pay19, k0_pay18, k0_pay17]
  rfl

/-- The gated quotient. -/
theorem quot_B (q : FVec Ideal S256x512 .bf16) (m l : FVec Ideal S1x512 .f32) (k : Vec Ideal S1024x256 .bf16)
    (a : Vec Ideal S128x512 .f32) (g : Vec Ideal S512x128 .f32) (d : Fin 128) (r : Fin 512) :
    k0_pay20 q m l k a g (ix2 r d)
      = Ideal.div (a (ix2 d r)) (Ideal.exp2 (m (ix2 0 r) - k0_pay16 q m k (ix2 0 r)) * l (ix2 0 r)
        + ∑ j : Fin 1024, Ideal.exp2 (k0_pay15 q k (ix2 j r) - k0_pay16 q m k (ix2 0 r))) * gate (g (ix2 r d)) := by
  pointwise [k0_pay20, k0_pay18, k0_pay17]
  rfl

/-- The whole case, for one query and one value column. -/
theorem case_B {x : Fin 8192 → ℝ} {t : Fin 8192} {vc : Fin 8192 → EReal} {N : ℕ}
    (q : FVec Ideal S256x512 .bf16) (m l : FVec Ideal S1x512 .f32) (k : Vec Ideal S1024x256 .bf16)
    (a : Vec Ideal S128x512 .f32) (v : Vec Ideal S128x1024 .bf16) (g : Vec Ideal S512x128 .f32) (d : Fin 128) (r : Fin 512)
    (hH : Held (column vc) (weight x t) N (m (ix2 0 r)) (l (ix2 0 r)) (a (ix2 d r)))
    (ht : t.val = N + 512 + r.val) (hN : N + 1024 ≤ 8192)
    (hS : ∀ j : Fin 1024, (∑ e : Fin 256, k (ix2 j e) * q (ix2 e r) : EReal)
      = ((x ⟨N + j.val, by omega⟩ * (1 / Real.log 2) : ℝ) : EReal))
    (hV : ∀ j : Fin 1024, v (ix2 d j) = vc ⟨N + j.val, by omega⟩) :
    k0_pay20 q m l k (k0_pay19 q m k a v) g (ix2 r d) = attend x t vc * gate (g (ix2 r d)) := by
  rw [quot_B, acc_B]
  refine congrArg (fun z : EReal => z * gate (g (ix2 r d))) ?_
  refine hH.diagonal (by omega) (by omega) hN (fun j => k0_pay15 q k (ix2 j r)) (fun j => v (ix2 d j)) (fun j => ?_) hV _
    (max_B q m k r)
  rw [logits_B, hS]
  by_cases hj : j.val ≤ r.val + 512
  · rw [if_pos hj, if_pos (by omega)]
  · rw [if_neg hj, if_neg (by omega)]

/-! ## Case C: 1536 keys, the query's block at offset 1024 -/

/-- The masked logits. -/
theorem logits_C (q : FVec Ideal S256x512 .bf16) (k : Vec Ideal S1536x256 .bf16) (j : Fin 1536) (r : Fin 512) :
    k0_pay21 q k (ix2 j r) = if j.val ≤ r.val + 1024 then ∑ e : Fin 256, k (ix2 j e) * q (ix2 e r) else (⊥ : EReal) := by
  pointwise [k0_pay21]
  rw [add_word, le_word (by omega) (by omega)]
  split <;> rfl

/-- The new maxima. -/
theorem max_C (q : FVec Ideal S256x512 .bf16) (m : FVec Ideal S1x512 .f32) (k : Vec Ideal S1536x256 .bf16)
    (r : Fin 512) :
    k0_pay22 q m k (ix2 0 r)
      = max (m (ix2 0 r)) (Finset.univ.fold max ⊥ fun j : Fin 1536 => k0_pay21 q k (ix2 j r) : EReal) :=
  newMax (k0_pay21 q k) m _ _ r

/-- The new numerators. -/
theorem acc_C (q : FVec Ideal S256x512 .bf16) (m : FVec Ideal S1x512 .f32) (k : Vec Ideal S1536x256 .bf16)
    (a : Vec Ideal S128x512 .f32) (v : Vec Ideal S128x1536 .bf16) (d : Fin 128) (r : Fin 512) :
    k0_pay25 q m k a v (ix2 d r)
      = Ideal.exp2 (m (ix2 0 r) - k0_pay22 q m k (ix2 0 r)) * a (ix2 d r)
        + ∑ j : Fin 1536, v (ix2 d j) * Ideal.exp2 (k0_pay21 q k (ix2 j r) - k0_pay22 q m k (ix2 0 r)) := by
  pointwise [k0_pay25, k0_pay24, k0_pay23]
  rfl

/-- The gated quotient. -/
theorem quot_C (q : FVec Ideal S256x512 .bf16) (m l : FVec Ideal S1x512 .f32) (k : Vec Ideal S1536x256 .bf16)
    (a : Vec Ideal S128x512 .f32) (g : Vec Ideal S512x128 .f32) (d : Fin 128) (r : Fin 512) :
    k0_pay26 q m l k a g (ix2 r d)
      = Ideal.div (a (ix2 d r)) (Ideal.exp2 (m (ix2 0 r) - k0_pay22 q m k (ix2 0 r)) * l (ix2 0 r)
        + ∑ j : Fin 1536, Ideal.exp2 (k0_pay21 q k (ix2 j r) - k0_pay22 q m k (ix2 0 r))) * gate (g (ix2 r d)) := by
  pointwise [k0_pay26, k0_pay24, k0_pay23]
  rfl

/-- The whole case, for one query and one value column. -/
theorem case_C {x : Fin 8192 → ℝ} {t : Fin 8192} {vc : Fin 8192 → EReal} {N : ℕ}
    (q : FVec Ideal S256x512 .bf16) (m l : FVec Ideal S1x512 .f32) (k : Vec Ideal S1536x256 .bf16)
    (a : Vec Ideal S128x512 .f32) (v : Vec Ideal S128x1536 .bf16) (g : Vec Ideal S512x128 .f32) (d : Fin 128) (r : Fin 512)
    (hH : Held (column vc) (weight x t) N (m (ix2 0 r)) (l (ix2 0 r)) (a (ix2 d r)))
    (ht : t.val = N + 1024 + r.val) (hN : N + 1536 ≤ 8192)
    (hS : ∀ j : Fin 1536, (∑ e : Fin 256, k (ix2 j e) * q (ix2 e r) : EReal)
      = ((x ⟨N + j.val, by omega⟩ * (1 / Real.log 2) : ℝ) : EReal))
    (hV : ∀ j : Fin 1536, v (ix2 d j) = vc ⟨N + j.val, by omega⟩) :
    k0_pay26 q m l k (k0_pay25 q m k a v) g (ix2 r d) = attend x t vc * gate (g (ix2 r d)) := by
  rw [quot_C, acc_C]
  refine congrArg (fun z : EReal => z * gate (g (ix2 r d))) ?_
  refine hH.diagonal (by omega) (by omega) hN (fun j => k0_pay21 q k (ix2 j r)) (fun j => v (ix2 d j)) (fun j => ?_) hV _
    (max_C q m k r)
  rw [logits_C, hS]
  by_cases hj : j.val ≤ r.val + 1024
  · rw [if_pos hj, if_pos (by omega)]
  · rw [if_neg hj, if_neg (by omega)]

/-! ## Case D: 2048 keys, the query's block at offset 1536 -/

/-- The masked logits. -/
theorem logits_D (q : FVec Ideal S256x512 .bf16) (k : Vec Ideal S2048x256 .bf16) (j : Fin 2048) (r : Fin 512) :
    k0_pay27 q k (ix2 j r) = if j.val ≤ r.val + 1536 then ∑ e : Fin 256, k (ix2 j e) * q (ix2 e r) else (⊥ : EReal) := by
  pointwise [k0_pay27]
  rw [add_word, le_word (by omega) (by omega)]
  split <;> rfl

/-- The new maxima. -/
theorem max_D (q : FVec Ideal S256x512 .bf16) (m : FVec Ideal S1x512 .f32) (k : Vec Ideal S2048x256 .bf16)
    (r : Fin 512) :
    k0_pay28 q m k (ix2 0 r)
      = max (m (ix2 0 r)) (Finset.univ.fold max ⊥ fun j : Fin 2048 => k0_pay27 q k (ix2 j r) : EReal) :=
  newMax (k0_pay27 q k) m _ _ r

/-- The new numerators. -/
theorem acc_D (q : FVec Ideal S256x512 .bf16) (m : FVec Ideal S1x512 .f32) (k : Vec Ideal S2048x256 .bf16)
    (a : Vec Ideal S128x512 .f32) (v : Vec Ideal S128x2048 .bf16) (d : Fin 128) (r : Fin 512) :
    k0_pay31 q m k a v (ix2 d r)
      = Ideal.exp2 (m (ix2 0 r) - k0_pay28 q m k (ix2 0 r)) * a (ix2 d r)
        + ∑ j : Fin 2048, v (ix2 d j) * Ideal.exp2 (k0_pay27 q k (ix2 j r) - k0_pay28 q m k (ix2 0 r)) := by
  pointwise [k0_pay31, k0_pay30, k0_pay29]
  rfl

/-- The gated quotient. -/
theorem quot_D (q : FVec Ideal S256x512 .bf16) (m l : FVec Ideal S1x512 .f32) (k : Vec Ideal S2048x256 .bf16)
    (a : Vec Ideal S128x512 .f32) (g : Vec Ideal S512x128 .f32) (d : Fin 128) (r : Fin 512) :
    k0_pay32 q m l k a g (ix2 r d)
      = Ideal.div (a (ix2 d r)) (Ideal.exp2 (m (ix2 0 r) - k0_pay28 q m k (ix2 0 r)) * l (ix2 0 r)
        + ∑ j : Fin 2048, Ideal.exp2 (k0_pay27 q k (ix2 j r) - k0_pay28 q m k (ix2 0 r))) * gate (g (ix2 r d)) := by
  pointwise [k0_pay32, k0_pay30, k0_pay29]
  rfl

/-- The whole case, for one query and one value column. -/
theorem case_D {x : Fin 8192 → ℝ} {t : Fin 8192} {vc : Fin 8192 → EReal} {N : ℕ}
    (q : FVec Ideal S256x512 .bf16) (m l : FVec Ideal S1x512 .f32) (k : Vec Ideal S2048x256 .bf16)
    (a : Vec Ideal S128x512 .f32) (v : Vec Ideal S128x2048 .bf16) (g : Vec Ideal S512x128 .f32) (d : Fin 128) (r : Fin 512)
    (hH : Held (column vc) (weight x t) N (m (ix2 0 r)) (l (ix2 0 r)) (a (ix2 d r)))
    (ht : t.val = N + 1536 + r.val) (hN : N + 2048 ≤ 8192)
    (hS : ∀ j : Fin 2048, (∑ e : Fin 256, k (ix2 j e) * q (ix2 e r) : EReal)
      = ((x ⟨N + j.val, by omega⟩ * (1 / Real.log 2) : ℝ) : EReal))
    (hV : ∀ j : Fin 2048, v (ix2 d j) = vc ⟨N + j.val, by omega⟩) :
    k0_pay32 q m l k (k0_pay31 q m k a v) g (ix2 r d) = attend x t vc * gate (g (ix2 r d)) := by
  rw [quot_D, acc_D]
  refine congrArg (fun z : EReal => z * gate (g (ix2 r d))) ?_
  refine hH.diagonal (by omega) (by omega) hN (fun j => k0_pay27 q k (ix2 j r)) (fun j => v (ix2 d j)) (fun j => ?_) hV _
    (max_D q m k r)
  rw [logits_D, hS]
  by_cases hj : j.val ≤ r.val + 1536
  · rw [if_pos hj, if_pos (by omega)]
  · rw [if_neg hj, if_neg (by omega)]

end Cert.Proof.Tiles

end
-- ==== Proof.CasesA.lean ====
/- What a grid point writes: the first four cases, by the place of the query block among the eight of 4096 rows. -/
module

public import proofs.«01_k».proof.Proof.LoopRun
public import proofs.«01_k».proof.Proof.TilesA

@[expose] public section

set_option maxRecDepth 8192

noncomputable section

namespace Cert.Proof.Grid

open Cert.KernelIdeal Cert.KernelIdeal.Gen Idealize.ShloMosaic Idealize.ShloMosaic.TcCoe Idealize.SL.Sem

variable (c : Dev nD) (i : grid0.Coords)
  (arg3 : Memref sig .tc .vmem S256x512 .bf16) (harg3 : arg3.IsWhole)
  (arg4 : Memref sig .tc .vmem S8192x256 .bf16) (harg4 : arg4.IsWhole)
  (arg5 : Memref sig .tc .vmem S128x8192 .bf16) (harg5 : arg5.IsWhole)
  (arg6 : Memref sig .tc .vmem S512x128 .f32) (harg6 : arg6.IsWhole)
  (arg7 : Memref sig .tc .vmem S512x128 .bf16) (harg7 : arg7.IsWhole)
  (arg8 : Memref sig .tc .vmem S128x512 .f32) (harg8 : arg8.IsWhole)

/-! ## Case A: 512 keys in the last block -/

theorem off_keys_A (i : grid0.Coords) : k0_off5 i = ![(i 2).val / 8 * 4096, 0] := by
  dsimp only [k0_off5]
  generalize (i 2) = n
  revert n; decide

theorem off_values_A (i : grid0.Coords) : k0_off6 i = ![0, (i 2).val / 8 * 4096] := by
  dsimp only [k0_off6]
  generalize (i 2) = n
  revert n; decide

/-- The output block at a query and a value column. -/
theorem out_A (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 0)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_A_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_A_4
  rw [View.read_writes_eq_canon _ _ _ (cover0_A_4 c i arg3 harg3 arg4 harg4 arg5 harg5 arg6 harg6 arg7 harg7 arg8 harg8 hc0 hc1 hc2 hc3 hc4 hc5 hc6 hc7
    x0 x1 x2 x3)]
  unfold kernelRun0_A
  dsimp only
  rw [View.canon_unit_zero hz]
  unfold kernelRun0_A.sl.r_3 kernelRun0_A.sl.v95 kernelRun0_A.sl.HS0_1_1 kernelRun0_A.sl.v83 kernelRun0_A.sl.r kernelRun0_A.sl.r_1
    kernelRun0_A.sl.r_2 kernelRun0_A.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_A (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_A i) j e (by omega)]
  · rw [ld_cols x2 _ (off_values_A i) d j (by omega), hV]

/-! ## Case B: 1024 keys in the last block -/

theorem off_keys_B (i : grid0.Coords) : k0_off7 i = ![(i 2).val / 8 * 4096, 0] := by
  dsimp only [k0_off7]
  generalize (i 2) = n
  revert n; decide

theorem off_values_B (i : grid0.Coords) : k0_off8 i = ![0, (i 2).val / 8 * 4096] := by
  dsimp only [k0_off8]
  generalize (i 2) = n
  revert n; decide

/-- The output block at a query and a value column. -/
theorem out_B (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 1)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_B_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_B_4
  rw [View.read_writes_eq_canon _ _ _ (cover0_B_4 c i arg3 harg3 arg4 harg4 arg5 harg5 arg6 harg6 arg7 harg7 arg8 harg8 hc0 hc1 hc2 hc3 hc4 hc5 hc6 hc7
    x0 x1 x2 x3)]
  unfold kernelRun0_B
  dsimp only
  rw [View.canon_unit_zero hz]
  unfold kernelRun0_B.sl.r_3 kernelRun0_B.sl.v95 kernelRun0_B.sl.HS0_1_1 kernelRun0_B.sl.v83 kernelRun0_B.sl.r kernelRun0_B.sl.r_1
    kernelRun0_B.sl.r_2 kernelRun0_B.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_B (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_B i) j e (by omega)]
  · rw [ld_cols x2 _ (off_values_B i) d j (by omega), hV]

/-! ## Case C: 1536 keys in the last block -/

theorem off_keys_C (i : grid0.Coords) : k0_off9 i = ![(i 2).val / 8 * 4096, 0] := by
  dsimp only [k0_off9]
  generalize (i 2) = n
  revert n; decide

theorem off_values_C (i : grid0.Coords) : k0_off10 i = ![0, (i 2).val / 8 * 4096] := by
  dsimp only [k0_off10]
  generalize (i 2) = n
  revert n; decide

/-- The output block at a query and a value column. -/
theorem out_C (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 2)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_C_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_C_4
  rw [View.read_writes_eq_canon _ _ _ (cover0_C_4 c i arg3 harg3 arg4 harg4 arg5 harg5 arg6 harg6 arg7 harg7 arg8 harg8 hc0 hc1 hc2 hc3 hc4 hc5 hc6 hc7
    x0 x1 x2 x3)]
  unfold kernelRun0_C
  dsimp only
  rw [View.canon_unit_zero hz]
  unfold kernelRun0_C.sl.r_3 kernelRun0_C.sl.v95 kernelRun0_C.sl.HS0_1_1 kernelRun0_C.sl.v83 kernelRun0_C.sl.r kernelRun0_C.sl.r_1
    kernelRun0_C.sl.r_2 kernelRun0_C.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_C (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_C i) j e (by omega)]
  · rw [ld_cols x2 _ (off_values_C i) d j (by omega), hV]

/-! ## Case D: 2048 keys in the last block -/

theorem off_keys_D (i : grid0.Coords) : k0_off11 i = ![(i 2).val / 8 * 4096, 0] := by
  dsimp only [k0_off11]
  generalize (i 2) = n
  revert n; decide

theorem off_values_D (i : grid0.Coords) : k0_off12 i = ![0, (i 2).val / 8 * 4096] := by
  dsimp only [k0_off12]
  generalize (i 2) = n
  revert n; decide

/-- The output block at a query and a value column. -/
theorem out_D (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 3)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_D_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_D_4
  rw [View.read_writes_eq_canon _ _ _ (cover0_D_4 c i arg3 harg3 arg4 harg4 arg5 harg5 arg6 harg6 arg7 harg7 arg8 harg8 hc0 hc1 hc2 hc3 hc4 hc5 hc6 hc7
    x0 x1 x2 x3)]
  unfold kernelRun0_D
  dsimp only
  rw [View.canon_unit_zero hz]
  unfold kernelRun0_D.sl.r_3 kernelRun0_D.sl.v95 kernelRun0_D.sl.HS0_1_1 kernelRun0_D.sl.v83 kernelRun0_D.sl.r kernelRun0_D.sl.r_1
    kernelRun0_D.sl.r_2 kernelRun0_D.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_D (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_D i) j e (by omega)]
  · rw [ld_cols x2 _ (off_values_D i) d j (by omega), hV]

end Cert.Proof.Grid

end
-- ==== Proof.TilesE.lean ====
/- The kernel's diagonal blocks of 2560 to 4096 keys read at an index. -/
module

public import proofs.«01_k».proof.Proof.Gen.KernelIdeal.Skeleton
public import proofs.«01_k».proof.Proof.Spec
public import proofs.«01_k».proof.Proof.RowMax
public import Idealize.ShloMosaic.Lib.Pointwise

@[expose] public section

set_option maxRecDepth 8192

noncomputable section

namespace Cert.Proof.Tiles

open Cert.KernelIdeal Cert.KernelIdeal.Gen Idealize.ShloMosaic Idealize.ShloMosaic.TcCoe Idealize.SL.Sem

/-! ## Case E: 2560 keys, the query's block at offset 2048 -/

/-- The masked logits. -/
theorem logits_E (q : FVec Ideal S256x512 .bf16) (k : Vec Ideal S2560x256 .bf16) (j : Fin 2560) (r : Fin 512) :
    k0_pay33 q k (ix2 j r) = if j.val ≤ r.val + 2048 then ∑ e : Fin 256, k (ix2 j e) * q (ix2 e r) else (⊥ : EReal) := by
  pointwise [k0_pay33]
  rw [add_word, le_word (by omega) (by omega)]
  split <;> rfl

/-- The new maxima. -/
theorem max_E (q : FVec Ideal S256x512 .bf16) (m : FVec Ideal S1x512 .f32) (k : Vec Ideal S2560x256 .bf16)
    (r : Fin 512) :
    k0_pay34 q m k (ix2 0 r)
      = max (m (ix2 0 r)) (Finset.univ.fold max ⊥ fun j : Fin 2560 => k0_pay33 q k (ix2 j r) : EReal) :=
  newMax (k0_pay33 q k) m _ _ r

/-- The new numerators. -/
theorem acc_E (q : FVec Ideal S256x512 .bf16) (m : FVec Ideal S1x512 .f32) (k : Vec Ideal S2560x256 .bf16)
    (a : Vec Ideal S128x512 .f32) (v : Vec Ideal S128x2560 .bf16) (d : Fin 128) (r : Fin 512) :
    k0_pay37 q m k a v (ix2 d r)
      = Ideal.exp2 (m (ix2 0 r) - k0_pay34 q m k (ix2 0 r)) * a (ix2 d r)
        + ∑ j : Fin 2560, v (ix2 d j) * Ideal.exp2 (k0_pay33 q k (ix2 j r) - k0_pay34 q m k (ix2 0 r)) := by
  pointwise [k0_pay37, k0_pay36, k0_pay35]
  rfl

/-- The gated quotient. -/
theorem quot_E (q : FVec Ideal S256x512 .bf16) (m l : FVec Ideal S1x512 .f32) (k : Vec Ideal S2560x256 .bf16)
    (a : Vec Ideal S128x512 .f32) (g : Vec Ideal S512x128 .f32) (d : Fin 128) (r : Fin 512) :
    k0_pay38 q m l k a g (ix2 r d)
      = Ideal.div (a (ix2 d r)) (Ideal.exp2 (m (ix2 0 r) - k0_pay34 q m k (ix2 0 r)) * l (ix2 0 r)
        + ∑ j : Fin 2560, Ideal.exp2 (k0_pay33 q k (ix2 j r) - k0_pay34 q m k (ix2 0 r))) * gate (g (ix2 r d)) := by
  pointwise [k0_pay38, k0_pay36, k0_pay35]
  rfl

/-- The whole case, for one query and one value column. -/
theorem case_E {x : Fin 8192 → ℝ} {t : Fin 8192} {vc : Fin 8192 → EReal} {N : ℕ}
    (q : FVec Ideal S256x512 .bf16) (m l : FVec Ideal S1x512 .f32) (k : Vec Ideal S2560x256 .bf16)
    (a : Vec Ideal S128x512 .f32) (v : Vec Ideal S128x2560 .bf16) (g : Vec Ideal S512x128 .f32) (d : Fin 128) (r : Fin 512)
    (hH : Held (column vc) (weight x t) N (m (ix2 0 r)) (l (ix2 0 r)) (a (ix2 d r)))
    (ht : t.val = N + 2048 + r.val) (hN : N + 2560 ≤ 8192)
    (hS : ∀ j : Fin 2560, (∑ e : Fin 256, k (ix2 j e) * q (ix2 e r) : EReal)
      = ((x ⟨N + j.val, by omega⟩ * (1 / Real.log 2) : ℝ) : EReal))
    (hV : ∀ j : Fin 2560, v (ix2 d j) = vc ⟨N + j.val, by omega⟩) :
    k0_pay38 q m l k (k0_pay37 q m k a v) g (ix2 r d) = attend x t vc * gate (g (ix2 r d)) := by
  rw [quot_E, acc_E]
  refine congrArg (fun z : EReal => z * gate (g (ix2 r d))) ?_
  refine hH.diagonal (by omega) (by omega) hN (fun j => k0_pay33 q k (ix2 j r)) (fun j => v (ix2 d j)) (fun j => ?_) hV _
    (max_E q m k r)
  rw [logits_E, hS]
  by_cases hj : j.val ≤ r.val + 2048
  · rw [if_pos hj, if_pos (by omega)]
  · rw [if_neg hj, if_neg (by omega)]

/-! ## Case F: 3072 keys, the query's block at offset 2560 -/

/-- The masked logits. -/
theorem logits_F (q : FVec Ideal S256x512 .bf16) (k : Vec Ideal S3072x256 .bf16) (j : Fin 3072) (r : Fin 512) :
    k0_pay39 q k (ix2 j r) = if j.val ≤ r.val + 2560 then ∑ e : Fin 256, k (ix2 j e) * q (ix2 e r) else (⊥ : EReal) := by
  pointwise [k0_pay39]
  rw [add_word, le_word (by omega) (by omega)]
  split <;> rfl

/-- The new maxima. -/
theorem max_F (q : FVec Ideal S256x512 .bf16) (m : FVec Ideal S1x512 .f32) (k : Vec Ideal S3072x256 .bf16)
    (r : Fin 512) :
    k0_pay40 q m k (ix2 0 r)
      = max (m (ix2 0 r)) (Finset.univ.fold max ⊥ fun j : Fin 3072 => k0_pay39 q k (ix2 j r) : EReal) :=
  newMax (k0_pay39 q k) m _ _ r

/-- The new numerators. -/
theorem acc_F (q : FVec Ideal S256x512 .bf16) (m : FVec Ideal S1x512 .f32) (k : Vec Ideal S3072x256 .bf16)
    (a : Vec Ideal S128x512 .f32) (v : Vec Ideal S128x3072 .bf16) (d : Fin 128) (r : Fin 512) :
    k0_pay43 q m k a v (ix2 d r)
      = Ideal.exp2 (m (ix2 0 r) - k0_pay40 q m k (ix2 0 r)) * a (ix2 d r)
        + ∑ j : Fin 3072, v (ix2 d j) * Ideal.exp2 (k0_pay39 q k (ix2 j r) - k0_pay40 q m k (ix2 0 r)) := by
  pointwise [k0_pay43, k0_pay42, k0_pay41]
  rfl

/-- The gated quotient. -/
theorem quot_F (q : FVec Ideal S256x512 .bf16) (m l : FVec Ideal S1x512 .f32) (k : Vec Ideal S3072x256 .bf16)
    (a : Vec Ideal S128x512 .f32) (g : Vec Ideal S512x128 .f32) (d : Fin 128) (r : Fin 512) :
    k0_pay44 q m l k a g (ix2 r d)
      = Ideal.div (a (ix2 d r)) (Ideal.exp2 (m (ix2 0 r) - k0_pay40 q m k (ix2 0 r)) * l (ix2 0 r)
        + ∑ j : Fin 3072, Ideal.exp2 (k0_pay39 q k (ix2 j r) - k0_pay40 q m k (ix2 0 r))) * gate (g (ix2 r d)) := by
  pointwise [k0_pay44, k0_pay42, k0_pay41]
  rfl

/-- The whole case, for one query and one value column. -/
theorem case_F {x : Fin 8192 → ℝ} {t : Fin 8192} {vc : Fin 8192 → EReal} {N : ℕ}
    (q : FVec Ideal S256x512 .bf16) (m l : FVec Ideal S1x512 .f32) (k : Vec Ideal S3072x256 .bf16)
    (a : Vec Ideal S128x512 .f32) (v : Vec Ideal S128x3072 .bf16) (g : Vec Ideal S512x128 .f32) (d : Fin 128) (r : Fin 512)
    (hH : Held (column vc) (weight x t) N (m (ix2 0 r)) (l (ix2 0 r)) (a (ix2 d r)))
    (ht : t.val = N + 2560 + r.val) (hN : N + 3072 ≤ 8192)
    (hS : ∀ j : Fin 3072, (∑ e : Fin 256, k (ix2 j e) * q (ix2 e r) : EReal)
      = ((x ⟨N + j.val, by omega⟩ * (1 / Real.log 2) : ℝ) : EReal))
    (hV : ∀ j : Fin 3072, v (ix2 d j) = vc ⟨N + j.val, by omega⟩) :
    k0_pay44 q m l k (k0_pay43 q m k a v) g (ix2 r d) = attend x t vc * gate (g (ix2 r d)) := by
  rw [quot_F, acc_F]
  refine congrArg (fun z : EReal => z * gate (g (ix2 r d))) ?_
  refine hH.diagonal (by omega) (by omega) hN (fun j => k0_pay39 q k (ix2 j r)) (fun j => v (ix2 d j)) (fun j => ?_) hV _
    (max_F q m k r)
  rw [logits_F, hS]
  by_cases hj : j.val ≤ r.val + 2560
  · rw [if_pos hj, if_pos (by omega)]
  · rw [if_neg hj, if_neg (by omega)]

/-! ## Case G: 3584 keys, the query's block at offset 3072 -/

/-- The masked logits. -/
theorem logits_G (q : FVec Ideal S256x512 .bf16) (k : Vec Ideal S3584x256 .bf16) (j : Fin 3584) (r : Fin 512) :
    k0_pay45 q k (ix2 j r) = if j.val ≤ r.val + 3072 then ∑ e : Fin 256, k (ix2 j e) * q (ix2 e r) else (⊥ : EReal) := by
  pointwise [k0_pay45]
  rw [add_word, le_word (by omega) (by omega)]
  split <;> rfl

/-- The new maxima. -/
theorem max_G (q : FVec Ideal S256x512 .bf16) (m : FVec Ideal S1x512 .f32) (k : Vec Ideal S3584x256 .bf16)
    (r : Fin 512) :
    k0_pay46 q m k (ix2 0 r)
      = max (m (ix2 0 r)) (Finset.univ.fold max ⊥ fun j : Fin 3584 => k0_pay45 q k (ix2 j r) : EReal) :=
  newMax (k0_pay45 q k) m _ _ r

/-- The new numerators. -/
theorem acc_G (q : FVec Ideal S256x512 .bf16) (m : FVec Ideal S1x512 .f32) (k : Vec Ideal S3584x256 .bf16)
    (a : Vec Ideal S128x512 .f32) (v : Vec Ideal S128x3584 .bf16) (d : Fin 128) (r : Fin 512) :
    k0_pay49 q m k a v (ix2 d r)
      = Ideal.exp2 (m (ix2 0 r) - k0_pay46 q m k (ix2 0 r)) * a (ix2 d r)
        + ∑ j : Fin 3584, v (ix2 d j) * Ideal.exp2 (k0_pay45 q k (ix2 j r) - k0_pay46 q m k (ix2 0 r)) := by
  pointwise [k0_pay49, k0_pay48, k0_pay47]
  rfl

/-- The gated quotient. -/
theorem quot_G (q : FVec Ideal S256x512 .bf16) (m l : FVec Ideal S1x512 .f32) (k : Vec Ideal S3584x256 .bf16)
    (a : Vec Ideal S128x512 .f32) (g : Vec Ideal S512x128 .f32) (d : Fin 128) (r : Fin 512) :
    k0_pay50 q m l k a g (ix2 r d)
      = Ideal.div (a (ix2 d r)) (Ideal.exp2 (m (ix2 0 r) - k0_pay46 q m k (ix2 0 r)) * l (ix2 0 r)
        + ∑ j : Fin 3584, Ideal.exp2 (k0_pay45 q k (ix2 j r) - k0_pay46 q m k (ix2 0 r))) * gate (g (ix2 r d)) := by
  pointwise [k0_pay50, k0_pay48, k0_pay47]
  rfl

/-- The whole case, for one query and one value column. -/
theorem case_G {x : Fin 8192 → ℝ} {t : Fin 8192} {vc : Fin 8192 → EReal} {N : ℕ}
    (q : FVec Ideal S256x512 .bf16) (m l : FVec Ideal S1x512 .f32) (k : Vec Ideal S3584x256 .bf16)
    (a : Vec Ideal S128x512 .f32) (v : Vec Ideal S128x3584 .bf16) (g : Vec Ideal S512x128 .f32) (d : Fin 128) (r : Fin 512)
    (hH : Held (column vc) (weight x t) N (m (ix2 0 r)) (l (ix2 0 r)) (a (ix2 d r)))
    (ht : t.val = N + 3072 + r.val) (hN : N + 3584 ≤ 8192)
    (hS : ∀ j : Fin 3584, (∑ e : Fin 256, k (ix2 j e) * q (ix2 e r) : EReal)
      = ((x ⟨N + j.val, by omega⟩ * (1 / Real.log 2) : ℝ) : EReal))
    (hV : ∀ j : Fin 3584, v (ix2 d j) = vc ⟨N + j.val, by omega⟩) :
    k0_pay50 q m l k (k0_pay49 q m k a v) g (ix2 r d) = attend x t vc * gate (g (ix2 r d)) := by
  rw [quot_G, acc_G]
  refine congrArg (fun z : EReal => z * gate (g (ix2 r d))) ?_
  refine hH.diagonal (by omega) (by omega) hN (fun j => k0_pay45 q k (ix2 j r)) (fun j => v (ix2 d j)) (fun j => ?_) hV _
    (max_G q m k r)
  rw [logits_G, hS]
  by_cases hj : j.val ≤ r.val + 3072
  · rw [if_pos hj, if_pos (by omega)]
  · rw [if_neg hj, if_neg (by omega)]

/-! ## Case H: 4096 keys, the query's block at offset 3584 -/

/-- The masked logits. -/
theorem logits_H (q : FVec Ideal S256x512 .bf16) (k : Vec Ideal S4096x256 .bf16) (j : Fin 4096) (r : Fin 512) :
    k0_pay51 q k (ix2 j r) = if j.val ≤ r.val + 3584 then ∑ e : Fin 256, k (ix2 j e) * q (ix2 e r) else (⊥ : EReal) := by
  pointwise [k0_pay51]
  rw [add_word, le_word (by omega) (by omega)]
  split <;> rfl

/-- The new maxima. -/
theorem max_H (q : FVec Ideal S256x512 .bf16) (m : FVec Ideal S1x512 .f32) (k : Vec Ideal S4096x256 .bf16)
    (r : Fin 512) :
    k0_pay52 q m k (ix2 0 r)
      = max (m (ix2 0 r)) (Finset.univ.fold max ⊥ fun j : Fin 4096 => k0_pay51 q k (ix2 j r) : EReal) :=
  newMax (k0_pay51 q k) m _ _ r

/-- The new numerators. -/
theorem acc_H (q : FVec Ideal S256x512 .bf16) (m : FVec Ideal S1x512 .f32) (k : Vec Ideal S4096x256 .bf16)
    (a : Vec Ideal S128x512 .f32) (v : Vec Ideal S128x4096 .bf16) (d : Fin 128) (r : Fin 512) :
    k0_pay55 q m k a v (ix2 d r)
      = Ideal.exp2 (m (ix2 0 r) - k0_pay52 q m k (ix2 0 r)) * a (ix2 d r)
        + ∑ j : Fin 4096, v (ix2 d j) * Ideal.exp2 (k0_pay51 q k (ix2 j r) - k0_pay52 q m k (ix2 0 r)) := by
  pointwise [k0_pay55, k0_pay54, k0_pay53]
  rfl

/-- The gated quotient. -/
theorem quot_H (q : FVec Ideal S256x512 .bf16) (m l : FVec Ideal S1x512 .f32) (k : Vec Ideal S4096x256 .bf16)
    (a : Vec Ideal S128x512 .f32) (g : Vec Ideal S512x128 .f32) (d : Fin 128) (r : Fin 512) :
    k0_pay56 q m l k a g (ix2 r d)
      = Ideal.div (a (ix2 d r)) (Ideal.exp2 (m (ix2 0 r) - k0_pay52 q m k (ix2 0 r)) * l (ix2 0 r)
        + ∑ j : Fin 4096, Ideal.exp2 (k0_pay51 q k (ix2 j r) - k0_pay52 q m k (ix2 0 r))) * gate (g (ix2 r d)) := by
  pointwise [k0_pay56, k0_pay54, k0_pay53]
  rfl

/-- The whole case, for one query and one value column. -/
theorem case_H {x : Fin 8192 → ℝ} {t : Fin 8192} {vc : Fin 8192 → EReal} {N : ℕ}
    (q : FVec Ideal S256x512 .bf16) (m l : FVec Ideal S1x512 .f32) (k : Vec Ideal S4096x256 .bf16)
    (a : Vec Ideal S128x512 .f32) (v : Vec Ideal S128x4096 .bf16) (g : Vec Ideal S512x128 .f32) (d : Fin 128) (r : Fin 512)
    (hH : Held (column vc) (weight x t) N (m (ix2 0 r)) (l (ix2 0 r)) (a (ix2 d r)))
    (ht : t.val = N + 3584 + r.val) (hN : N + 4096 ≤ 8192)
    (hS : ∀ j : Fin 4096, (∑ e : Fin 256, k (ix2 j e) * q (ix2 e r) : EReal)
      = ((x ⟨N + j.val, by omega⟩ * (1 / Real.log 2) : ℝ) : EReal))
    (hV : ∀ j : Fin 4096, v (ix2 d j) = vc ⟨N + j.val, by omega⟩) :
    k0_pay56 q m l k (k0_pay55 q m k a v) g (ix2 r d) = attend x t vc * gate (g (ix2 r d)) := by
  rw [quot_H, acc_H]
  refine congrArg (fun z : EReal => z * gate (g (ix2 r d))) ?_
  refine hH.diagonal (by omega) (by omega) hN (fun j => k0_pay51 q k (ix2 j r)) (fun j => v (ix2 d j)) (fun j => ?_) hV _
    (max_H q m k r)
  rw [logits_H, hS]
  by_cases hj : j.val ≤ r.val + 3584
  · rw [if_pos hj, if_pos (by omega)]
  · rw [if_neg hj, if_neg (by omega)]

end Cert.Proof.Tiles

end
-- ==== Proof.CasesE.lean ====
/- What a grid point writes: the last four cases, by the place of the query block among the eight of 4096 rows. -/
module

public import proofs.«01_k».proof.Proof.LoopRun
public import proofs.«01_k».proof.Proof.TilesE

@[expose] public section

set_option maxRecDepth 8192

noncomputable section

namespace Cert.Proof.Grid

open Cert.KernelIdeal Cert.KernelIdeal.Gen Idealize.ShloMosaic Idealize.ShloMosaic.TcCoe Idealize.SL.Sem

variable (c : Dev nD) (i : grid0.Coords)
  (arg3 : Memref sig .tc .vmem S256x512 .bf16) (harg3 : arg3.IsWhole)
  (arg4 : Memref sig .tc .vmem S8192x256 .bf16) (harg4 : arg4.IsWhole)
  (arg5 : Memref sig .tc .vmem S128x8192 .bf16) (harg5 : arg5.IsWhole)
  (arg6 : Memref sig .tc .vmem S512x128 .f32) (harg6 : arg6.IsWhole)
  (arg7 : Memref sig .tc .vmem S512x128 .bf16) (harg7 : arg7.IsWhole)
  (arg8 : Memref sig .tc .vmem S128x512 .f32) (harg8 : arg8.IsWhole)

/-! ## Case E: 2560 keys in the last block -/

theorem off_keys_E (i : grid0.Coords) : k0_off13 i = ![(i 2).val / 8 * 4096, 0] := by
  dsimp only [k0_off13]
  generalize (i 2) = n
  revert n; decide

theorem off_values_E (i : grid0.Coords) : k0_off14 i = ![0, (i 2).val / 8 * 4096] := by
  dsimp only [k0_off14]
  generalize (i 2) = n
  revert n; decide

/-- The output block at a query and a value column. -/
theorem out_E (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 4)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_E_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_E_4
  rw [View.read_writes_eq_canon _ _ _ (cover0_E_4 c i arg3 harg3 arg4 harg4 arg5 harg5 arg6 harg6 arg7 harg7 arg8 harg8 hc0 hc1 hc2 hc3 hc4 hc5 hc6 hc7
    x0 x1 x2 x3)]
  unfold kernelRun0_E
  dsimp only
  rw [View.canon_unit_zero hz]
  unfold kernelRun0_E.sl.r_3 kernelRun0_E.sl.v95 kernelRun0_E.sl.HS0_1_1 kernelRun0_E.sl.v83 kernelRun0_E.sl.r kernelRun0_E.sl.r_1
    kernelRun0_E.sl.r_2 kernelRun0_E.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_E (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_E i) j e (by omega)]
  · rw [ld_cols x2 _ (off_values_E i) d j (by omega), hV]

/-! ## Case F: 3072 keys in the last block -/

theorem off_keys_F (i : grid0.Coords) : k0_off15 i = ![(i 2).val / 8 * 4096, 0] := by
  dsimp only [k0_off15]
  generalize (i 2) = n
  revert n; decide

theorem off_values_F (i : grid0.Coords) : k0_off16 i = ![0, (i 2).val / 8 * 4096] := by
  dsimp only [k0_off16]
  generalize (i 2) = n
  revert n; decide

/-- The output block at a query and a value column. -/
theorem out_F (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 5)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_F_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_F_4
  rw [View.read_writes_eq_canon _ _ _ (cover0_F_4 c i arg3 harg3 arg4 harg4 arg5 harg5 arg6 harg6 arg7 harg7 arg8 harg8 hc0 hc1 hc2 hc3 hc4 hc5 hc6 hc7
    x0 x1 x2 x3)]
  unfold kernelRun0_F
  dsimp only
  rw [View.canon_unit_zero hz]
  unfold kernelRun0_F.sl.r_3 kernelRun0_F.sl.v95 kernelRun0_F.sl.HS0_1_1 kernelRun0_F.sl.v83 kernelRun0_F.sl.r kernelRun0_F.sl.r_1
    kernelRun0_F.sl.r_2 kernelRun0_F.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_F (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_F i) j e (by omega)]
  · rw [ld_cols x2 _ (off_values_F i) d j (by omega), hV]

/-! ## Case G: 3584 keys in the last block -/

theorem off_keys_G (i : grid0.Coords) : k0_off17 i = ![(i 2).val / 8 * 4096, 0] := by
  dsimp only [k0_off17]
  generalize (i 2) = n
  revert n; decide

theorem off_values_G (i : grid0.Coords) : k0_off18 i = ![0, (i 2).val / 8 * 4096] := by
  dsimp only [k0_off18]
  generalize (i 2) = n
  revert n; decide

/-- The output block at a query and a value column. -/
theorem out_G (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 6)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_G_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_G_4
  rw [View.read_writes_eq_canon _ _ _ (cover0_G_4 c i arg3 harg3 arg4 harg4 arg5 harg5 arg6 harg6 arg7 harg7 arg8 harg8 hc0 hc1 hc2 hc3 hc4 hc5 hc6 hc7
    x0 x1 x2 x3)]
  unfold kernelRun0_G
  dsimp only
  rw [View.canon_unit_zero hz]
  unfold kernelRun0_G.sl.r_3 kernelRun0_G.sl.v95 kernelRun0_G.sl.HS0_1_1 kernelRun0_G.sl.v83 kernelRun0_G.sl.r kernelRun0_G.sl.r_1
    kernelRun0_G.sl.r_2 kernelRun0_G.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_G (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_G i) j e (by omega)]
  · rw [ld_cols x2 _ (off_values_G i) d j (by omega), hV]

/-! ## Case H: 4096 keys in the last block -/

theorem off_keys_H (i : grid0.Coords) : k0_off19 i = ![(i 2).val / 8 * 4096, 0] := by
  dsimp only [k0_off19]
  generalize (i 2) = n
  revert n; decide

theorem off_values_H (i : grid0.Coords) : k0_off20 i = ![0, (i 2).val / 8 * 4096] := by
  dsimp only [k0_off20]
  generalize (i 2) = n
  revert n; decide

/-- The output block at a query and a value column. -/
theorem out_H (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    {x : Fin 8192 → ℝ} {t : Fin 8192} {vc : Fin 8192 → EReal}
    (x0 : Vec Ideal S256x512 .bf16) (x1 : Vec Ideal S8192x256 .bf16) (x2 : Vec Ideal S128x8192 .bf16)
    (x3 : Vec Ideal S512x128 .f32) (d : Fin 128) (r : Fin 512) (hi : (i 2).val % 8 = 7)
    (ht : t.val = (i 2).val * 512 + r.val)
    (hS : ∀ s : Fin 8192, (∑ e : Fin 256, x1 (ix2 s e) * x0 (ix2 e r) : EReal)
      = ((x s * (1 / Real.log 2) : ℝ) : EReal))
    (hV : ∀ s : Fin 8192, x2 (ix2 d s) = vc s) :
    out0_H_4 c i arg3 harg3 arg4 harg4 arg5 harg5 arg6 harg6 arg7 harg7 arg8 harg8 hc0 hc1 hc2 hc3 hc4 hc5 hc6 hc7
      x0 x1 x2 x3 (ix2 r d) = attend x t vc * gate (x3 (ix2 r d)) := by
  have h16 : (i 2).val < 16 := (i 2).isLt
  unfold out0_H_4
  rw [View.read_writes_eq_canon _ _ _ (cover0_H_4 c i arg3 harg3 arg4 harg4 arg5 harg5 arg6 harg6 arg7 harg7 arg8 harg8 hc0 hc1 hc2 hc3 hc4 hc5 hc6 hc7
    x0 x1 x2 x3)]
  unfold kernelRun0_H
  dsimp only
  rw [View.canon_unit_zero hz]
  unfold kernelRun0_H.sl.r_3 kernelRun0_H.sl.v95 kernelRun0_H.sl.HS0_1_1 kernelRun0_H.sl.v83 kernelRun0_H.sl.r kernelRun0_H.sl.r_1
    kernelRun0_H.sl.r_2 kernelRun0_H.sl.HS0_1
  rw [trips_past, trips_rest]
  rw [rest_none]
  simp only [List.nil_append, View.readAt_eq_ld, harg3.read_unread, harg4.read_unread, harg5.read_unread,
    harg6.read_unread, View.ld_unit_zero (S := S256x512) hz, View.ld_unit_zero (S := S512x128) hz, Tiles.query_block]
  generalize hst : st_k0_t1 Variants.none c none i arg3 harg3 arg4 harg4 arg5 harg5 arg6 harg6 arg7 harg7 arg8 harg8 x0
      (harg4.unread x1) (harg5.unread x2) _ (k0_pay59, k0_pay60) ((i 2).val / 8) = S
  have hH := carried c i arg3 harg3 arg4 harg4 arg5 harg5 arg6 harg6 arg7 harg7 arg8 harg8 x0 x1 x2 d r ht hS hV S hst.symm
  rw [read_last]
  refine Tiles.case_H (x := x) (t := t) (vc := vc) (N := (i 2).val / 8 * 4096) x0 S.1.1 S.1.2 _ _ _ x3 d r hH
    (by omega) (by omega) (fun j => ?_) (fun j => ?_)
  · rw [← hS]
    exact Finset.sum_congr rfl fun e _ => by
      rw [ld_rows x1 _ (off_keys_H i) j e (by omega)]
  · rw [ld_cols x2 _ (off_values_H i) d j (by omega), hV]

end Cert.Proof.Grid

end
-- ==== Proof.Operands.lean ====
/- What the kernel's three laid-out operands hold when the region is entered, index by index, for finite queries, keys
   and running log-gate sums. -/
module

public import proofs.«01_k».proof.Proof.Gen.KernelIdeal.Frame.Runs
public import proofs.«01_k».proof.Proof.Spec
public import proofs.«01_k».proof.Proof.Consts
public import Idealize.ShloMosaic.Lib.Pointwise
public import Idealize.ShloMosaic.Lib.StableHlo.ReadAt

@[expose] public section

set_option maxRecDepth 8192

noncomputable section

namespace Cert.Proof.Operands

open Cert.KernelIdeal Cert.KernelIdeal.Gen Idealize.ShloMosaic Idealize.ShloMosaic.TcCoe Idealize.SL.Sem

/-- The running sums of the log forget gates. -/
def cum (lf : FVec Ideal S2x8192x8 .f32) : FVec Ideal S2x8192x8 .f32 :=
  Host.reduceWindowAdd ![1, 8192, 1] ![1, 1, 1] ![0, 8191, 0] ![0, 0, 0] lf
    (broadcastInDim S_ ![] bcast_S_S_ (constant S_ .f32 0x00000000#32))
    reduceWindows_S2x8192x8_S2x8192x8_w1s1p0_0_w8192s1p8191_0_w1s1p0_0 h_S_

/-- The host's `1 / log 2` is the real one. -/
theorem log2e : Ideal.div 1 (Ideal.log (Ideal.ofBits .f32 0x40000000#32)) = ((1 / Real.log 2 : ℝ) : EReal) := by
  have h2 : Real.log 2 ≠ 0 := (Real.log_pos (by norm_num)).ne'
  rw [Consts.ofBits_two, Ideal.log_coe, if_neg (by norm_num), Ideal.div_coe h2, one_mul]

/-- A finite value less itself. -/
theorem coe_sub_self (x : ℝ) : (x : EReal) - (x : EReal) = 0 := by
  rw [← EReal.coe_sub, sub_self, EReal.coe_zero]

variable (m : (ℓ : Loc nD τ sig) → Buf (Elt Ideal) ℓ) (c : Dev nD)

/-- The transposed values. -/
theorem vt_apply (r : Fin 1024) (s : Fin 16384) :
    V (F := Ideal) m c main_v44 (ix2 r s)
      = (m ((c : Thread nD τ).loc main_arg2) (ix4 (⟨s.val / 8192, by omega⟩ : Fin 2)
          (⟨s.val % 8192, by omega⟩ : Fin 8192) (⟨r.val / 128, by omega⟩ : Fin 8)
          (⟨r.val % 128, by omega⟩ : Fin 128)) : EReal) := by
  unfold V
  after_reads_at

/-- The augmented keys. -/
theorem ka_apply (K : HeadIdx → ℝ) (F : GateIdx → ℝ)
    (hk : ∀ i : HeadIdx, m ((c : Thread nD τ).loc main_arg1) i = ((K i : ℝ) : EReal))
    (hF : ∀ i : GateIdx, cum (m ((c : Thread nD τ).loc main_arg3)) i = ((F i : ℝ) : EReal))
    (r : Fin 16384) (s : Fin 2048) :
    V (F := Ideal) m c main_v41 (ix2 r s) = (((if he : s.val % 256 < 128 then
        K (ix4 (⟨r.val / 8192, by omega⟩ : Fin 2) (⟨r.val % 8192, by omega⟩ : Fin 8192) (⟨s.val / 256, by omega⟩ : Fin 8)
          (⟨s.val % 256, he⟩ : Fin 128))
      else augKey (F (ix3 (⟨r.val / 8192, by omega⟩ : Fin 2) (⟨r.val % 8192, by omega⟩ : Fin 8192)
          (⟨s.val / 256, by omega⟩ : Fin 8)) * (1 / Real.log 2)) (s.val % 256 - 128) : ℝ)) : EReal) := by
  have hk' : ∀ i : HeadIdx, m (c, Proc.tc.devRef main_arg1) i = ((K i : ℝ) : EReal) := hk
  have hF' : ∀ i : GateIdx, Host.reduceWindowAdd (F := Ideal) ![1, 8192, 1] ![1, 1, 1] ![0, 8191, 0] ![0, 0, 0]
      (m (c, Proc.tc.devRef main_arg3)) (broadcastInDim S_ ![] bcast_S_S_ (constant S_ .f32 0x00000000#32))
      reduceWindows_S2x8192x8_S2x8192x8_w1s1p0_0_w8192s1p8191_0_w1s1p0_0 h_S_ i = ((F i : ℝ) : EReal) := hF
  unfold V
  after_reads_at
  after_reads_at
  after_reads_at
  simp only [hk', hF', log2e, ← EReal.coe_mul, coe_sub_self, sub_zero, neg_zero]
  unfold augKey
  split_ifs <;> simp

/-- The augmented queries, transposed. -/
theorem qt_apply (σ : ℝ) (hσ : Ideal.ofBits .f32 0x3DB504F3#32 = (σ : EReal)) (Q : HeadIdx → ℝ) (F : GateIdx → ℝ)
    (hq : ∀ i : HeadIdx, m ((c : Thread nD τ).loc main_arg0) i = ((Q i : ℝ) : EReal))
    (hF : ∀ i : GateIdx, cum (m ((c : Thread nD τ).loc main_arg3)) i = ((F i : ℝ) : EReal))
    (s : Fin 2048) (r : Fin 16384) :
    V (F := Ideal) m c main_v39 (ix2 s r) = (((if he : s.val % 256 < 128 then
        Q (ix4 (⟨r.val / 8192, by omega⟩ : Fin 2) (⟨r.val % 8192, by omega⟩ : Fin 8192) (⟨s.val / 256, by omega⟩ : Fin 8)
          (⟨s.val % 256, he⟩ : Fin 128)) * (σ * (1 / Real.log 2))
      else augQuery (F (ix3 (⟨r.val / 8192, by omega⟩ : Fin 2) (⟨r.val % 8192, by omega⟩ : Fin 8192)
          (⟨s.val / 256, by omega⟩ : Fin 8)) * (1 / Real.log 2)) (s.val % 256 - 128) : ℝ)) : EReal) := by
  have hq' : ∀ i : HeadIdx, m (c, Proc.tc.devRef main_arg0) i = ((Q i : ℝ) : EReal) := hq
  have hF' : ∀ i : GateIdx, Host.reduceWindowAdd (F := Ideal) ![1, 8192, 1] ![1, 1, 1] ![0, 8191, 0] ![0, 0, 0]
      (m (c, Proc.tc.devRef main_arg3)) (broadcastInDim S_ ![] bcast_S_S_ (constant S_ .f32 0x00000000#32))
      reduceWindows_S2x8192x8_S2x8192x8_w1s1p0_0_w8192s1p8191_0_w1s1p0_0 h_S_ i = ((F i : ℝ) : EReal) := hF
  unfold V
  after_reads_at
  after_reads_at
  after_reads_at
  simp only [hq', hF', log2e, hσ, ← EReal.coe_mul, coe_sub_self, sub_zero]
  unfold augQuery
  split_ifs <;> simp

end Cert.Proof.Operands

end
-- ==== Proof.Array.lean ====
/- The kernel's result array: what each grid point writes, and where. -/
module

public import proofs.«01_k».proof.Proof.CasesA
public import proofs.«01_k».proof.Proof.CasesE
public import proofs.«01_k».proof.Proof.Operands
public import Idealize.ShloMosaic.Lib.Pipeline.Value
public import Idealize.ShloMosaic.Lib.Pipeline.Kit

@[expose] public section

set_option maxRecDepth 8192

noncomputable section

namespace Cert.Proof.Grid

open Cert.KernelIdeal Cert.KernelIdeal.Gen Idealize.ShloMosaic Idealize.ShloMosaic.TcCoe Idealize.SL.Sem

/-! ## The grid point's blocks -/

theorem hN : grid0.N = 256 := N_0

/-- The batch of a grid point. -/
theorem coord0 (t : Fin grid0.N) : (grid0.coords t 0).val = t.val / 128 := by
  have := t.isLt; have := hN
  rw [Pipeline.Grid.coords_val t 0 (S := 128) (B := 2) (by decide) rfl]; omega

/-- The head of a grid point. -/
theorem coord1 (t : Fin grid0.N) : (grid0.coords t 1).val = t.val / 16 % 8 :=
  Pipeline.Grid.coords_val t 1 (S := 16) (B := 8) (by decide) rfl

/-- The block of queries of a grid point. -/
theorem coord2 (t : Fin grid0.N) : (grid0.coords t 2).val = t.val % 16 := by
  rw [Pipeline.Grid.coords_val t 2 (S := 1) (B := 16) (by decide) rfl, Nat.div_one]

theorem index0 : ∀ t : Fin grid0.N, win0_0.index t 0 = t.val / 16 % 8 ∧ win0_0.index t 1 = t.val / 128 * 16 + t.val % 16 := by
  decide +kernel

theorem index1 : ∀ t : Fin grid0.N, win0_1.index t 0 = t.val / 128 ∧ win0_1.index t 1 = t.val / 16 % 8 := by
  decide +kernel

theorem index2 : ∀ t : Fin grid0.N, win0_2.index t 0 = t.val / 16 % 8 ∧ win0_2.index t 1 = t.val / 128 := by
  decide +kernel

theorem index3 : ∀ t : Fin grid0.N, win0_3.index t 0 = t.val / 128 * 16 + t.val % 16
    ∧ win0_3.index t 1 = 48 + t.val / 16 % 8 := by
  decide +kernel

theorem index4 : ∀ t : Fin grid0.N, win0_4.index t 0 = t.val / 128 * 16 + t.val % 16
    ∧ win0_4.index t 1 = t.val / 16 % 8 := by
  decide +kernel

variable (m : (ℓ : Loc nD τ sig) → Buf (Elt Ideal) ℓ) (c : Dev nD)

/-- The query block a grid point reads, features by queries. -/
abbrev queryBlock (t : Fin cfg0.N) : FVec Ideal S256x512 .bf16 := iblk m c 0 t

/-- The keys a grid point reads. -/
abbrev keyBlock (t : Fin cfg0.N) : FVec Ideal S8192x256 .bf16 := iblk m c 1 t

/-- The values a grid point reads, features by positions. -/
abbrev valueBlock (t : Fin cfg0.N) : FVec Ideal S128x8192 .bf16 := iblk m c 2 t

/-- The gate a grid point reads. -/
abbrev gateBlock (t : Fin cfg0.N) : FVec Ideal S512x128 .f32 := iblk m c 3 t

/-- The query block's entries. -/
theorem block0 (t : Fin cfg0.N) (e : Fin 256) (r : Fin 512) :
    queryBlock m c t (ix2 e r)
      = V m c main_v39 (ix2 (⟨t.val / 16 % 8 * 256 + e.val, by omega⟩ : Fin 2048)
          (⟨(t.val / 128 * 16 + t.val % 16) * 512 + r.val, by have := t.isLt; have : cfg0.N = 256 := hN; omega⟩ : Fin 16384)) := by
  show iblk m c _ t _ = _
  unfold iblk
  rw [View.read_apply]
  show V m c main_v39 _ = V m c main_v39 _
  refine congrArg (V m c main_v39) (funext fun a => Fin.ext ?_)
  match a with
  | ⟨0, _⟩ => show win0_0.index t 0 * 256 + 1 * e.val = _; rw [(index0 t).1, one_mul]; rfl
  | ⟨1, _⟩ => show win0_0.index t 1 * 512 + 1 * r.val = _; rw [(index0 t).2, one_mul]; rfl

/-- The keys' entries. -/
theorem block1 (t : Fin cfg0.N) (s : Fin 8192) (e : Fin 256) :
    keyBlock m c t (ix2 s e)
      = V m c main_v41 (ix2 (⟨t.val / 128 * 8192 + s.val, by have := t.isLt; have : cfg0.N = 256 := hN; omega⟩ : Fin 16384)
          (⟨t.val / 16 % 8 * 256 + e.val, by omega⟩ : Fin 2048)) := by
  show iblk m c _ t _ = _
  unfold iblk
  rw [View.read_apply]
  show V m c main_v41 _ = V m c main_v41 _
  refine congrArg (V m c main_v41) (funext fun a => Fin.ext ?_)
  match a with
  | ⟨0, _⟩ => show win0_1.index t 0 * 8192 + 1 * s.val = _; rw [(index1 t).1, one_mul]; rfl
  | ⟨1, _⟩ => show win0_1.index t 1 * 256 + 1 * e.val = _; rw [(index1 t).2, one_mul]; rfl

/-- The values' entries. -/
theorem block2 (t : Fin cfg0.N) (d : Fin 128) (s : Fin 8192) :
    valueBlock m c t (ix2 d s)
      = V m c main_v44 (ix2 (⟨t.val / 16 % 8 * 128 + d.val, by omega⟩ : Fin 1024)
          (⟨t.val / 128 * 8192 + s.val, by have := t.isLt; have : cfg0.N = 256 := hN; omega⟩ : Fin 16384)) := by
  show iblk m c _ t _ = _
  unfold iblk
  rw [View.read_apply]
  show V m c main_v44 _ = V m c main_v44 _
  refine congrArg (V m c main_v44) (funext fun a => Fin.ext ?_)
  match a with
  | ⟨0, _⟩ => show win0_2.index t 0 * 128 + 1 * d.val = _; rw [(index2 t).1, one_mul]; rfl
  | ⟨1, _⟩ => show win0_2.index t 1 * 8192 + 1 * s.val = _; rw [(index2 t).2, one_mul]; rfl

/-- The gate's entries. -/
theorem block3 (t : Fin cfg0.N) (r : Fin 512) (d : Fin 128) :
    gateBlock m c t (ix2 r d)
      = m ((c : Thread nD τ).loc main_arg4)
          (ix2 (⟨(t.val / 128 * 16 + t.val % 16) * 512 + r.val, by have := t.isLt; have : cfg0.N = 256 := hN; omega⟩ : Fin 16384)
          (⟨(48 + t.val / 16 % 8) * 128 + d.val, by omega⟩ : Fin 19200)) := by
  show iblk m c _ t _ = _
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t 0 * 512 + 1 * r.val = _; rw [(index3 t).1, one_mul]; rfl
  | ⟨1, _⟩ => show win0_3.index t 1 * 128 + 1 * d.val = _; rw [(index3 t).2, one_mul]; rfl

/-! ## What a grid point writes -/

variable (σ : ℝ) (Q K : HeadIdx → ℝ) (F : GateIdx → ℝ)

/-- The result array: per row and column the gated mean of the value column under the causal weights. -/
def result (v : FVec Ideal S2x8192x8x128 .f32) (g : FVec Ideal S16384x19200 .f32) : FVec Ideal S16384x1024 .bf16 :=
  fun i =>
    have hr : (i 0).val < 16384 := (i 0).isLt
    have hc : (i 1).val < 1024 := (i 1).isLt
    attend (natLogit σ Q K F ⟨(i 0).val / 8192, by omega⟩ ⟨(i 1).val / 128, by omega⟩ ⟨(i 0).val % 8192, by omega⟩)
        ⟨(i 0).val % 8192, by omega⟩
        (fun s => v (ix4 (⟨(i 0).val / 8192, by omega⟩ : Fin 2) s (⟨(i 1).val / 128, by omega⟩ : Fin 8)
          (⟨(i 1).val % 128, by omega⟩ : Fin 128)))
      * gate (g (ix2 (⟨(i 0).val, hr⟩ : Fin 16384) (⟨6144 + (i 1).val, by omega⟩ : Fin 19200)))

variable (hσ : Ideal.ofBits .f32 0x3DB504F3#32 = (σ : EReal))
  (hq : ∀ i : HeadIdx, m ((c : Thread nD τ).loc main_arg0) i = ((Q i : ℝ) : EReal))
  (hk : ∀ i : HeadIdx, m ((c : Thread nD τ).loc main_arg1) i = ((K i : ℝ) : EReal))
  (hF : ∀ i : GateIdx, Operands.cum (m ((c : Thread nD τ).loc main_arg3)) i = ((F i : ℝ) : EReal))

include hσ hq hk hF in
/-- The products of a grid point's keys with one of its queries are the logits, over `log 2`. -/
theorem products (t : Fin cfg0.N) (r : Fin 512) (s : Fin 8192) (b : Fin 2) (h : Fin 8) (q : Fin 8192)
    (hb : b.val = t.val / 128) (hh : h.val = t.val / 16 % 8) (hq' : q.val = t.val % 16 * 512 + r.val) :
    (∑ e : Fin 256, keyBlock m c t (ix2 s e) * queryBlock m c t (ix2 e r) : EReal)
      = ((natLogit σ Q K F b h q s * (1 / Real.log 2) : ℝ) : EReal) := by
  have hlt : t.val < 256 := by have := t.isLt; have : cfg0.N = 256 := hN; omega
  rw [← aug_logit σ Q K F b h q s
    (fun e => if he : e.val < 128 then K (ix4 b s h ⟨e.val, he⟩)
      else augKey (F (ix3 b s h) * (1 / Real.log 2)) (e.val - 128))
    (fun e => if he : e.val < 128 then Q (ix4 b q h ⟨e.val, he⟩) * (σ * (1 / Real.log 2))
      else augQuery (F (ix3 b q h) * (1 / Real.log 2)) (e.val - 128)) (fun _ => rfl) (fun _ => rfl), coe_sum]
  refine Finset.sum_congr rfl fun e _ => ?_
  rw [block0, block1, Operands.ka_apply m c K F hk hF, Operands.qt_apply m c σ hσ Q F hq hF, ← EReal.coe_mul]
  have e1 : (t.val / 16 % 8 * 256 + e.val) % 256 = e.val := by omega
  have e2 : (t.val / 16 % 8 * 256 + e.val) / 256 = h.val := by omega
  have e3 : (t.val / 128 * 8192 + s.val) / 8192 = b.val := by omega
  have e4 : (t.val / 128 * 8192 + s.val) % 8192 = s.val := by omega
  have e5 : ((t.val / 128 * 16 + t.val % 16) * 512 + r.val) / 8192 = b.val := by omega
  have e6 : ((t.val / 128 * 16 + t.val % 16) * 512 + r.val) % 8192 = q.val := by omega
  simp only [e1, e2, e3, e4, e5, e6, Fin.eta]

include hσ hq hk hF in
/-- What a grid point writes back, at an entry of its block. -/
theorem flushed_apply (t : Fin cfg0.N) (r : Fin 512) (d : Fin 128) (R : Fin 16384) (C : Fin 1024)
    (hR : R.val = (t.val / 128 * 16 + t.val % 16) * 512 + r.val) (hC : C.val = t.val / 16 % 8 * 128 + d.val) :
    (dats m 0 c).flushed 4 t (ix2 r d)
      = result σ Q K F (m ((c : Thread nD τ).loc main_arg2)) (m ((c : Thread nD τ).loc main_arg4)) (ix2 R C) := by
  have hlt : t.val < 256 := by have := t.isLt; have : cfg0.N = 256 := hN; omega
  have hi2 := coord2 t
  have hE : attend (natLogit σ Q K F ⟨R.val / 8192, by omega⟩ ⟨C.val / 128, by omega⟩ ⟨R.val % 8192, by omega⟩)
        ⟨R.val % 8192, by omega⟩
        (fun s => m ((c : Thread nD τ).loc main_arg2) (ix4 (⟨R.val / 8192, by omega⟩ : Fin 2) s (⟨C.val / 128, by omega⟩ : Fin 8)
          (⟨C.val % 128, by omega⟩ : Fin 128)))
      * gate (gateBlock m c t (ix2 r d))
      = result σ Q K F (m ((c : Thread nD τ).loc main_arg2)) (m ((c : Thread nD τ).loc main_arg4)) (ix2 R C) := by
    rw [block3]
    unfold result
    refine congrArg (fun z : EReal => _ * gate z) (congrArg (m ((c : Thread nD τ).loc main_arg4)) (funext fun a => Fin.ext ?_))
    match a with
    | ⟨0, _⟩ => exact hR.symm
    | ⟨1, _⟩ => show (48 + t.val / 16 % 8) * 128 + d.val = 6144 + C.val; omega
  have hS := fun s =>
    products m c σ Q K F hσ hq hk hF t r s ⟨R.val / 8192, by omega⟩ ⟨C.val / 128, by omega⟩ ⟨R.val % 8192, by omega⟩
      (by show R.val / 8192 = _; omega) (by show C.val / 128 = _; omega) (by show R.val % 8192 = _; omega)
  have hV : ∀ s : Fin 8192, valueBlock m c t (ix2 d s)
      = m ((c : Thread nD τ).loc main_arg2) (ix4 (⟨R.val / 8192, by omega⟩ : Fin 2) s (⟨C.val / 128, by omega⟩ : Fin 8)
          (⟨C.val % 128, by omega⟩ : Fin 128)) := by
    intro s
    rw [block2, Operands.vt_apply]
    have e1 : (t.val / 16 % 8 * 128 + d.val) / 128 = C.val / 128 := by omega
    have e2 : (t.val / 16 % 8 * 128 + d.val) % 128 = C.val % 128 := by omega
    have e3 : (t.val / 128 * 8192 + s.val) / 8192 = R.val / 8192 := by omega
    have e4 : (t.val / 128 * 8192 + s.val) % 8192 = s.val := by omega
    simp only [e1, e2, e3, e4, Fin.eta]
  have ht : R.val % 8192 = (grid0.coords t 2).val * 512 + r.val := by rw [hi2]; omega
  have hx : (cfg0.win 4).xinj (grid0.coords t) (ix2 r d) = (ix2 r d : S512x128.Idx) := by
    funext a
    match a with
    | ⟨0, _⟩ => rfl
    | ⟨1, _⟩ => rfl
  rcases (by omega : t.val % 8 = 0 ∨ t.val % 8 = 1 ∨ t.val % 8 = 2 ∨ t.val % 8 = 3 ∨ t.val % 8 = 4 ∨ t.val % 8 = 5
    ∨ t.val % 8 = 6 ∨ t.val % 8 = 7) with h0 | h1 | h2 | h3 | h4 | h5 | h6 | h7
  · rw [Value.flushed4_A m c t h0 (by omega) (by omega) (by omega) (by omega) (by omega) (by omega) (by omega)]
    refine (congrArg _ hx).trans (Eq.trans ?_ hE)
    exact out_A c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_B m c t (by omega) h1 (by omega) (by omega) (by omega) (by omega) (by omega) (by omega)]
    refine (congrArg _ hx).trans (Eq.trans ?_ hE)
    exact out_B c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_C m c t (by omega) (by omega) h2 (by omega) (by omega) (by omega) (by omega) (by omega)]
    refine (congrArg _ hx).trans (Eq.trans ?_ hE)
    exact out_C c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_D m c t (by omega) (by omega) (by omega) h3 (by omega) (by omega) (by omega) (by omega)]
    refine (congrArg _ hx).trans (Eq.trans ?_ hE)
    exact out_D c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_E m c t (by omega) (by omega) (by omega) (by omega) h4 (by omega) (by omega) (by omega)]
    refine (congrArg _ hx).trans (Eq.trans ?_ hE)
    exact out_E c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_F m c t (by omega) (by omega) (by omega) (by omega) (by omega) h5 (by omega) (by omega)]
    refine (congrArg _ hx).trans (Eq.trans ?_ hE)
    exact out_F c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_G m c t (by omega) (by omega) (by omega) (by omega) (by omega) (by omega) h6 (by omega)]
    refine (congrArg _ hx).trans (Eq.trans ?_ hE)
    exact out_G c (grid0.coords t) _ _ _ _ _ _ _ _ _ _ _ _ _ _ _ _ _ _ _ _ (queryBlock m c t) (keyBlock m c t) (valueBlock m c t) (gateBlock m c t) d r (by rw [hi2]; omega) ht hS hV
  · rw [Value.flushed4_H m c t (by omega) (by omega) (by omega) (by omega) (by omega) (by omega) (by omega) h7]
    refine (congrArg _ hx).trans (Eq.trans ?_ hE)
    exact out_H c (grid0.coords t) _ _ _ _ _ _ _ _ _ _ _ _ _ _ _ _ _ _ _ _ (queryBlock m c t) (keyBlock m c t) (valueBlock m c t) (gateBlock m c t) d r (by rw [hi2]; omega) ht hS hV

include hσ hq hk hF in
/-- A grid point writes back its block of the result. -/
theorem flushed_eq (t : Fin cfg0.N) (_ : (cfg0.win 4).flush t = true) :
    (dats m 0 c).flushed 4 t = ((cfg0.win 4).blk t).view.read (Elt Ideal)
      (result σ Q K F (m ((c : Thread nD τ).loc main_arg2)) (m ((c : Thread nD τ).loc main_arg4))) := by
  have hlt : t.val < 256 := by have := t.isLt; have : cfg0.N = 256 := hN; omega
  funext y
  rw [View.read_apply]
  obtain ⟨r, hr⟩ : ∃ r : Fin 512, r = y 0 := ⟨y 0, rfl⟩
  obtain ⟨d, hd⟩ : ∃ d : Fin 128, d = y 1 := ⟨y 1, rfl⟩
  have hy : y = ix2 r d := funext fun a => by
    match a with
    | ⟨0, _⟩ => exact hr.symm
    | ⟨1, _⟩ => exact hd.symm
  rw [hy]
  refine (flushed_apply m c σ Q K F hσ hq hk hF t r d
    ⟨(t.val / 128 * 16 + t.val % 16) * 512 + r.val, by omega⟩ ⟨t.val / 16 % 8 * 128 + d.val, by omega⟩ rfl rfl).trans ?_
  refine congrArg (result σ Q K F (m ((c : Thread nD τ).loc main_arg2)) (m ((c : Thread nD τ).loc main_arg4)))
    (funext fun a => Fin.ext ?_)
  match a with
  | ⟨0, _⟩ => show _ = win0_4.index t 0 * 512 + 1 * r.val; rw [(index4 t).1, one_mul]; rfl
  | ⟨1, _⟩ => show _ = win0_4.index t 1 * 128 + 1 * d.val; rw [(index4 t).2, one_mul]; rfl

include hσ hq hk hF in
/-- So the result array ends holding the result: the blocks cover it. -/
theorem final : (dats m 0 c).arrAt 4 cfg0.N
    = result σ Q K F (m ((c : Thread nD τ).loc main_arg2)) (m ((c : Thread nD τ).loc main_arg4)) :=
  (dats m 0 c).arrAt_eq_of_cover 4 _ (flushed_eq m c σ Q K F hσ hq hk hF) fun i => by
    have h0 : (i 0 : Nat) < 16384 := (i 0).isLt
    have h1 : (i 1 : Nat) < 1024 := (i 1).isLt
    refine ⟨⟨(i 0).val / 8192 * 128 + (i 1).val / 128 * 16 + (i 0).val % 8192 / 512, by
      rw [show cfg0.N = 256 from hN]; omega⟩, flush0_4 _, ?_⟩
    generalize hT : (⟨(i 0).val / 8192 * 128 + (i 1).val / 128 * 16 + (i 0).val % 8192 / 512, _⟩ : Fin cfg0.N) = T
    have hv : T.val = (i 0).val / 8192 * 128 + (i 1).val / 128 * 16 + (i 0).val % 8192 / 512 := by rw [← hT]
    show i ∈ ((View.whole main_v45).slice (win0_4.rect T)).set
    rw [View.set_slice_whole, Rect.mem_set_unit]
    intro a
    match a with
    | ⟨0, _⟩ =>
      show win0_4.index T 0 * 512 ≤ (i 0 : Nat) ∧ (i 0 : Nat) < win0_4.index T 0 * 512 + 512
      rw [(index4 T).1]; omega
    | ⟨1, _⟩ =>
      show win0_4.index T 1 * 128 ≤ (i 1 : Nat) ∧ (i 1 : Nat) < win0_4.index T 1 * 128 + 128
      rw [(index4 T).2]; omega

end Cert.Proof.Grid

end
-- ==== Proof.Finite.lean ====
/- The precondition read back: finite queries and keys, and finite running sums of the log forget gates. -/
module

public import proofs.«01_k».proof.Defs
public import proofs.«01_k».proof.Proof.Operands
public import proofs.«01_k».proof.Proof.Gen.Pre_finite_logits
public import Idealize.ShloMosaic.Lib.ReduceAll

@[expose] public section

noncomputable section

namespace Cert.Proof.Finite

open Idealize.ShloMosaic Idealize.ShloMosaic.TcCoe Cert.Pre_finite_logits Cert.Pre_finite_logits.Gen

theorem ofBits_inf : Ideal.ofBits .f32 0x7F800000#32 = ⊤ := by
  simp [Ideal.ofBits, Ideal.ieee]

/-- An extended real below `+∞` in absolute value is a real number. -/
theorem real_of_lt (x : EReal) (h : Ideal.cmp .olt (max x (-x)) (Ideal.ofBits .f32 0x7F800000#32) = 1#1) :
    x = ((x.toReal : ℝ) : EReal) := by
  rw [ofBits_inf] at h
  unfold Ideal.cmp at h
  have hlt : max x (-x) < ⊤ := by
    by_contra hn
    simp [hn] at h
  rw [max_lt_iff] at hlt
  refine (EReal.coe_toReal hlt.1.ne ?_).symm
  rintro rfl
  simp at hlt

/-- An array whose entries are all below `+∞` in absolute value holds real numbers. -/
theorem real_of_all {s : Shape} {axes : List (Fin s.rank)} (x : FVec Ideal s .f32) (b : S_.BroadcastsInDim s ![])
    (h : s.ReducesTo axes S_) (hu : 0 < S_.numel) (j : S_.Idx)
    (e : Host.reduce IntOp.andi (cmpf .olt (Host.absf x) (broadcastInDim s ![] b (constant S_ .f32 0x7F800000#32)))
      (constantI S_ 1 1#1) h hu j = 1#1) (i : s.Idx) : x i = (((x i : EReal).toReal : ℝ) : EReal) := by
  haveI : Subsingleton S_.Idx := ⟨fun a b => funext fun k => k.elim0⟩
  exact real_of_lt _ (Host.reduce_andi_all _ _ h hu j e i)

/-- The precondition's content. -/
theorem reals (q k v : FVec Ideal S2x8192x8x128 .f32) (lf : FVec Ideal S2x8192x8 .f32) (g : FVec Ideal S16384x19200 .f32)
    (h : fn (F := Ideal) q k v lf g = fun _ => 1#1) :
    (∀ i, q i = (((q i : EReal).toReal : ℝ) : EReal)) ∧ (∀ i, k i = (((k i : EReal).toReal : ℝ) : EReal))
      ∧ ∀ i, Operands.cum lf i = (((Operands.cum lf i : EReal).toReal : ℝ) : EReal) := by
  have e := congrFun h (fun k => k.elim0)
  unfold fn at e
  obtain ⟨e1, e2⟩ := IntOp.andi_eq_one.1 e
  obtain ⟨e3, e4⟩ := IntOp.andi_eq_one.1 e1
  exact ⟨real_of_all q _ _ _ _ e3, real_of_all k _ _ _ _ e4, real_of_all (Operands.cum lf) _ _ _ _ e2⟩

end Cert.Proof.Finite

end
-- ==== Proof.Ref.lean ====
module

public import proofs.«01_k».proof.Proof.Gen.ReferenceIdeal.Run
public import proofs.«01_k».proof.Proof.Spec
public import proofs.«01_k».proof.Proof.Consts
public import Idealize.ShloMosaic.Lib.Pointwise

@[expose] public section

noncomputable section

namespace Cert.Proof.Ref

open Cert.ReferenceIdeal Cert.ReferenceIdeal.Gen Cert.ReferenceIdeal.Value Idealize.ShloMosaic Idealize.ShloMosaic.TcCoe Idealize.SL.Sem

/-- The running sums of the log forget gates. -/
def cum (lf : FVec Ideal S2x8192x8 .f32) : FVec Ideal S2x8192x8 .f32 :=
  Host.reduceWindowAdd ![1, 8192, 1] ![1, 1, 1] ![0, 8191, 0] ![0, 0, 0] lf
    (broadcastInDim S_ ![] bcast_S_S_ (constant S_ .f32 0x00000000#32))
    reduceWindows_S2x8192x8_S2x8192x8_w1s1p0_0_w8192s1p8191_0_w1s1p0_0 h_S_

/-- The logits before the mask. -/
def raw (q k : FVec Ideal S2x8192x8x128 .f32) (f : FVec Ideal S2x8192x8 .f32) : FVec Ideal S2x8x8192x8192 .f32 :=
  subf (addf (mulf (Host.dotGeneral dot_S2x8192x8x128_S2x8192x8x128_S2x8x8192x8192_3_3_1_1_02_02 none q k)
      (broadcastInDim S2x8x8192x8192 ![] bcast_S_S2x8x8192x8192 (constant S_ .f32 0x3DB504F3#32)))
      (broadcastInDim S2x8x8192x8192 ![0, 1, 2, 3] bcast_S2x8x8192x1_S2x8x8192x8192_0_1_2_3
        (broadcastInDim S2x8x8192x1 ![0, 1, 2] bcast_S2x8x8192_S2x8x8192x1_0_1_2
          (transpose S2x8x8192 [0, 2, 1] f transposes_S2x8192x8_S2x8x8192_0_2_1))))
    (broadcastInDim S2x8x8192x8192 ![0, 1, 2, 3] bcast_S2x8x1x8192_S2x8x8192x8192_0_1_2_3
      (broadcastInDim S2x8x1x8192 ![0, 1, 3] bcast_S2x8x8192_S2x8x1x8192_0_1_3
        (transpose S2x8x8192 [0, 2, 1] f transposes_S2x8192x8_S2x8x8192_0_2_1)))

/-- Which keys a query may read. -/
def seen : IVec S8192x8192 1 :=
  cmpi .sle (broadcastInDim S8192x8192 ![0, 1] bcast_S1x8192_S8192x8192_0_1
      (broadcastInDim S1x8192 ![1] bcast_S8192_S1x8192_1 (iotaInDim S8192 32 0)))
    (broadcastInDim S8192x8192 ![0, 1] bcast_S8192x1_S8192x8192_0_1
      (broadcastInDim S8192x1 ![0] bcast_S8192_S8192x1_0 (iotaInDim S8192 32 0)))

/-- The logits, `-∞` where the key comes after the query. -/
def logits (x : FVec Ideal S2x8x8192x8192 .f32) : FVec Ideal S2x8x8192x8192 .f32 :=
  select (broadcastInDim S2x8x8192x8192 ![2, 3] bcast_S8192x8192_S2x8x8192x8192_2_3 seen) x
    (broadcastInDim S2x8x8192x8192 ![] bcast_S_S2x8x8192x8192 (id (constant S_ .f32 0xFF800000#32)))

/-- The row maxima. -/
def rowMax (x : FVec Ideal S2x8x8192x8192 .f32) : FVec Ideal S2x8x8192 .f32 :=
  maximumf (broadcastInDim S2x8x8192 ![] bcast_S_S2x8x8192 (constant S_ .f32 0xFF800000#32))
    (Host.reduce FloatOps.maximumf x (constant S_ .f32 0xFF800000#32) reducesTo_S2x8x8192x8192_S2x8x8192_d3 h_S_)

/-- The exponentials of the logits less their row's maximum `mx`. -/
def expo (x : FVec Ideal S2x8x8192x8192 .f32) (mx : FVec Ideal S2x8x8192 .f32) : FVec Ideal S2x8x8192x8192 .f32 :=
  Host.exp (subf x (broadcastInDim S2x8x8192x8192 ![0, 1, 2, 3] bcast_S2x8x8192x1_S2x8x8192x8192_0_1_2_3
    (broadcastInDim S2x8x8192x1 ![0, 1, 2] bcast_S2x8x8192_S2x8x8192x1_0_1_2 mx)))

/-- The exponentials over their row's sum. -/
def probs (x : FVec Ideal S2x8x8192x8192 .f32) : FVec Ideal S2x8x8192x8192 .f32 :=
  Host.divf x (broadcastInDim S2x8x8192x8192 ![0, 1, 2, 3] bcast_S2x8x8192x1_S2x8x8192x8192_0_1_2_3
    (broadcastInDim S2x8x8192x1 ![0, 1, 2] bcast_S2x8x8192_S2x8x8192x1_0_1_2
      (Host.reduceAdd x (constant S_ .f32 0x00000000#32) reducesTo_S2x8x8192x8192_S2x8x8192_d3 h_S_)))

/-- The gated mean of the value rows. -/
def out (v : FVec Ideal S2x8192x8x128 .f32) (p : FVec Ideal S2x8x8192x8192 .f32) (g : FVec Ideal S16384x19200 .f32) :
    FVec Ideal S16384x1024 .bf16 :=
  truncf .bf16 (mulf (shapeCast S16384x1024 (transpose S2x8192x8x128 [0, 3, 1, 2]
      (Host.dotGeneral dot_S2x8192x8x128_S2x8x8192x8192_S2x8x128x8192_1_3_3_2_02_01 none v p)
      transposes_S2x8x128x8192_S2x8192x8x128_0_3_1_2) shapeCasts_S2x8192x8x128_S16384x1024)
    (mulf (extractStridedSlice S16384x1024 ![0, 6144] g slices_S16384x19200_S16384x1024_0_6144)
      (Host.divf (broadcastInDim S16384x1024 ![] bcast_S_S16384x1024 (constant S_ .f32 0x3F800000#32))
        (addf (broadcastInDim S16384x1024 ![] bcast_S_S16384x1024 (constant S_ .f32 0x3F800000#32))
          (Host.exp (Host.negf (extractStridedSlice S16384x1024 ![0, 6144] g
            slices_S16384x19200_S16384x1024_0_6144))))))) bitsLt_bf16_f32

set_option maxRecDepth 8192 in
/-- The reference's result is these steps composed. -/
theorem res_eq (m : (ℓ : Loc nD τ sig) → Buf (Elt Ideal) ℓ) (c : Dev nD) :
    res_main_v35 (F := Ideal) m c = out (m ((c.tc : Thread nD τ).loc main_arg2))
      (probs (expo (logits (raw (m ((c.tc : Thread nD τ).loc main_arg0)) (m ((c.tc : Thread nD τ).loc main_arg1))
          (cum (m ((c.tc : Thread nD τ).loc main_arg3)))))
        (rowMax (logits (raw (m ((c.tc : Thread nD τ).loc main_arg0)) (m ((c.tc : Thread nD τ).loc main_arg1))
          (cum (m ((c.tc : Thread nD τ).loc main_arg3))))))))
      (m ((c.tc : Thread nD τ).loc main_arg4)) := rfl

theorem raw_apply (q k f) (b : Fin 2) (h : Fin 8) (t s : Fin 8192) : raw q k f (ix4 b h t s)
    = (∑ d : Fin 128, q (ix4 b t h d) * k (ix4 b s h d)) * Ideal.ofBits .f32 0x3DB504F3#32
      + f (ix3 b t h) - f (ix3 b s h) := by
  pointwise [raw]

theorem logits_apply (x) (b : Fin 2) (h : Fin 8) (t s : Fin 8192) :
    logits x (ix4 b h t s) = if s.val ≤ t.val then x (ix4 b h t s) else ⊥ := by
  pointwise [logits, seen]
  rw [le_word (by omega) (by omega)]
  split
  · rfl
  · exact Consts.ofBits_neg_inf

/-- A maximum over the last of four axes, read at an index. -/
theorem hostMax_last {n0 n1 n2 n3 : ℕ} (x : FVec Ideal ⟨4, ![n0, n1, n2, n3]⟩ .f32)
    (hb : S_.BroadcastsInDim ⟨3, ![n0, n1, n2]⟩ ![])
    (h' : (⟨4, ![n0, n1, n2, n3]⟩ : Shape).ReducesTo [3] ⟨3, ![n0, n1, n2]⟩) (hu : 0 < S_.numel)
    (b : Fin n0) (h : Fin n1) (t : Fin n2) :
    maximumf (broadcastInDim ⟨3, ![n0, n1, n2]⟩ ![] hb (constant S_ .f32 0xFF800000#32))
        (Host.reduce FloatOps.maximumf x (constant S_ .f32 0xFF800000#32) h' hu) (ix3 b h t)
      = Finset.univ.fold max ⊥ fun k : Fin n3 => x (ix4 b h t k) := by
  pointwise
  rw [Consts.ofBits_neg_inf, max_eq_right bot_le]

theorem rowMax_apply (x) (b : Fin 2) (h : Fin 8) (t : Fin 8192) :
    rowMax x (ix3 b h t) = Finset.univ.fold max ⊥ fun k : Fin 8192 => x (ix4 b h t k) :=
  hostMax_last x bcast_S_S2x8x8192 reducesTo_S2x8x8192x8192_S2x8x8192_d3 h_S_ b h t

theorem expo_apply (x y) (b : Fin 2) (h : Fin 8) (t s : Fin 8192) :
    expo x y (ix4 b h t s) = Ideal.exp (x (ix4 b h t s) - y (ix3 b h t)) := by
  pointwise [expo]

theorem probs_apply (x) (b : Fin 2) (h : Fin 8) (t s : Fin 8192) :
    probs x (ix4 b h t s) = Ideal.div (x (ix4 b h t s)) (∑ k : Fin 8192, x (ix4 b h t k)) := by
  pointwise [probs]

theorem out_apply (v p g) (r : Fin 16384) (c : Fin 1024) : out v p g (ix2 r c)
    = (∑ s : Fin 8192, v (ix4 (⟨r.val / 8192, by omega⟩ : Fin 2) s (⟨c.val / 128, by omega⟩ : Fin 8)
          (⟨c.val % 128, by omega⟩ : Fin 128))
        * p (ix4 (⟨r.val / 8192, by omega⟩ : Fin 2) (⟨c.val / 128, by omega⟩ : Fin 8)
          (⟨r.val % 8192, by omega⟩ : Fin 8192) s))
      * gate (g (ix2 r (⟨6144 + c.val, by omega⟩ : Fin 19200))) := by
  pointwise [out]
  rfl

/-- The product of the probabilities with a value column is the mean under the causal weights. -/
theorem mean_apply (σ : ℝ) (hσ : Ideal.ofBits .f32 0x3DB504F3#32 = (σ : EReal)) (Q K : HeadIdx → ℝ)
    (F : GateIdx → ℝ) (q k v : FVec Ideal S2x8192x8x128 .f32) (f : FVec Ideal S2x8192x8 .f32)
    (hq : ∀ i, q i = ((Q i : ℝ) : EReal)) (hk : ∀ i, k i = ((K i : ℝ) : EReal))
    (hf : ∀ i, f i = ((F i : ℝ) : EReal)) (b : Fin 2) (h : Fin 8) (t : Fin 8192) (d : Fin 128) :
    (∑ s : Fin 8192, v (ix4 b s h d) * probs (expo (logits (raw q k f)) (rowMax (logits (raw q k f)))) (ix4 b h t s))
      = attend (natLogit σ Q K F b h t) t (fun s => v (ix4 b s h d)) := by
  have hraw : ∀ s, raw q k f (ix4 b h t s) = ((natLogit σ Q K F b h t s : ℝ) : EReal) := by
    intro s
    rw [raw_apply, hσ]
    simp only [hq, hk, hf, ← EReal.coe_mul]
    rw [← coe_sum, ← EReal.coe_mul, ← EReal.coe_add, ← EReal.coe_sub]
    rfl
  have hS : ∀ s : Fin 8192, WeighsExp (logits (raw q k f) (ix4 b h t s)) (weight (natLogit σ Q K F b h t) t s.val) := by
    intro s
    refine weighsExp_weight _ _ _ _ ?_
    rw [logits_apply, hraw]
  have hex : ∃ s, logits (raw q k f) (ix4 b h t s) ≠ ⊥ := by
    refine ⟨⟨0, by norm_num⟩, ?_⟩
    rw [logits_apply, if_pos (Nat.zero_le _), hraw]
    exact EReal.coe_ne_bot _
  have hp : ∀ s : Fin 8192, probs (expo (logits (raw q k f)) (rowMax (logits (raw q k f)))) (ix4 b h t s)
      = ((weight (natLogit σ Q K F b h t) t s.val
          / ∑ j ∈ Finset.range 8192, weight (natLogit σ Q K F b h t) t j : ℝ) : EReal) := by
    intro s
    rw [probs_apply]
    simp only [expo_apply]
    exact softmax_eq _ _ hS hex (weight_sum_pos _ _ (by norm_num)) _ (rowMax_apply _ b h t) s
  unfold attend
  rw [Finset.sum_range]
  refine Finset.sum_congr rfl fun s _ => ?_
  rw [hp]
  unfold column
  rw [dif_pos s.isLt]

/-- The reference's result at an index: the mean of the value column under the causal weights, gated. -/
theorem result_apply (σ : ℝ) (hσ : Ideal.ofBits .f32 0x3DB504F3#32 = (σ : EReal)) (Q K : HeadIdx → ℝ)
    (F : GateIdx → ℝ) (q k v : FVec Ideal S2x8192x8x128 .f32) (f : FVec Ideal S2x8192x8 .f32)
    (g : FVec Ideal S16384x19200 .f32) (hq : ∀ i, q i = ((Q i : ℝ) : EReal)) (hk : ∀ i, k i = ((K i : ℝ) : EReal))
    (hf : ∀ i, f i = ((F i : ℝ) : EReal)) (r : Fin 16384) (c : Fin 1024) :
    out v (probs (expo (logits (raw q k f)) (rowMax (logits (raw q k f))))) g (ix2 r c)
      = attend (natLogit σ Q K F ⟨r.val / 8192, by omega⟩ ⟨c.val / 128, by omega⟩ ⟨r.val % 8192, by omega⟩)
          ⟨r.val % 8192, by omega⟩
          (fun s => v (ix4 (⟨r.val / 8192, by omega⟩ : Fin 2) s (⟨c.val / 128, by omega⟩ : Fin 8)
            (⟨c.val % 128, by omega⟩ : Fin 128)))
        * gate (g (ix2 r (⟨6144 + c.val, by omega⟩ : Fin 19200))) := by
  rw [out_apply, mean_apply σ hσ Q K F q k v f hq hk hf]

end Cert.Proof.Ref

end
-- ==== Proof.Fox.lean ====
/- The claims about the forgetting attention. -/
module

public import proofs.«01_k».proof.Defs
public import proofs.«01_k».proof.Proof.Array
public import proofs.«01_k».proof.Proof.Finite
public import proofs.«01_k».proof.Proof.Ref
public import proofs.«01_k».proof.Proof.Gen.Kernel.Frame
public import Idealize.ShloMosaic.Adequacy

@[expose] public section

noncomputable section

namespace Cert.Proof.Fox

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_logits := fun m ρ _ => Cert.KernelIdeal.Gen.frame m ρ

/-- The reference runs, keeps its arguments and has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_logits := fun m ρ _ => frame_ri m ρ trivial

/-- The mask's constant stands for minus infinity. -/
theorem preserves : Cert.preserves_Kernel_KernelIdeal :=
  IdealRules.named_const.statement Cert.KernelIdeal.κ "mask" .f32 0xF149F2CA#32 ⊥ rfl

/-- The kernel's array and the reference's are the same function of the arguments. -/
theorem algebraic : Cert.algebraic_KernelIdeal_ReferenceIdeal_pre_finite_logits := by
  intro m g m' g' hpre hagree
  refine ⟨fun c => (Cert.KernelIdeal.Gen.dats m 0 c).arrAt 4 Cert.KernelIdeal.cfg0.N,
    Cert.KernelIdeal.Value.run_blocks m g, ?_⟩
  refine (θ_run Cert.ReferenceIdeal.defs _ _).mono (fun _ h c => ⟨(h c).1.trans ?_, (h c).2⟩)
    (Cert.ReferenceIdeal.Value.run (F := Ideal) m' g')
  obtain ⟨a0, a1, a2, a3, a4⟩ := hagree c
  obtain ⟨hq, hk, hF⟩ := Finite.reals _ _ _ _ _ (hpre c)
  obtain ⟨σ, hσ⟩ := Consts.ofBits_scale
  refine Eq.trans ?_ (Grid.final m c σ _ _ _ hσ hq hk hF).symm
  rw [Ref.res_eq, a0, a1, a2, a3, a4]
  funext i
  obtain ⟨r, hr⟩ : ∃ r : Fin 16384, r = i 0 := ⟨i 0, rfl⟩
  obtain ⟨d, hd⟩ : ∃ d : Fin 1024, d = i 1 := ⟨i 1, rfl⟩
  have hi : i = ix2 r d := funext fun a => by
    match a with
    | ⟨0, _⟩ => exact hr.symm
    | ⟨1, _⟩ => exact hd.symm
  rw [hi]
  exact Ref.result_apply σ hσ _ _ _ _ _ _ _ _ hq hk hF r d

end Cert.Proof.Fox

end
-- ==== Proof.AdaArray.lean ====
/- The adaptive conditioning: what a grid point computes from its blocks, and what the array ends holding. -/
module

public import proofs.«01_k».proof.Proof.Gen.AdaIdeal.Value
public import Idealize.ShloMosaic.Lib.Pipeline.Value
public import Idealize.ShloMosaic.Lib.Pipeline.Kit
public import Idealize.ShloMosaic.Lib.VecWindow
public import Idealize.ShloMosaic.Lib.Pointwise
public import Idealize.ShloMosaic.Lib.Routing.OpsSet
public import Idealize.ShloMosaic.Lib.Routing.OpsOne
public import Idealize.ShloMosaic.Lib.StableHlo.ReadAt

@[expose] public section

set_option maxRecDepth 8192

noncomputable section

namespace Cert.Proof.Ada

open Cert.AdaIdeal Cert.AdaIdeal.Gen Idealize.ShloMosaic Idealize.ShloMosaic.TcCoe Idealize.SL.Sem

/-- A number times its own logistic. -/
def silu (x : EReal) : EReal := x * Ideal.logistic x

/-- The two conditioning vectors, followed by rows of zeros. -/
def row (v : FVec Ideal S2x2048 .f32) (r : ℕ) (k : Fin 2048) : EReal :=
  if h : r < 2 then v (ix2 (⟨r, h⟩ : Fin 2) k) else 0

/-- An entry of the conditioning of layer `l`. -/
def entry (v : FVec Ideal S2x2048 .f32) (w : FVec Ideal S2x2048x6144 .f32) (b : FVec Ideal S2x6144 .f32)
    (l : Fin 2) (r : ℕ) (d : Fin 6144) : EReal :=
  (∑ k : Fin 2048, silu (row v r k) * w (ix3 l k d)) + b (ix2 l d)

/-- One block of the body at an index. -/
theorem pay_apply (x : Vec Ideal S8x2048 .f32) (w : Vec Ideal S1x2048x512 .f32) (b : Vec Ideal S1x1x512 .f32)
    (r : Fin 8) (d : Fin 512) :
    k0_pay1 (F := Ideal) x w b (ix3 (0 : Fin 1) r d)
      = (∑ k : Fin 2048, silu (x (ix2 r k)) * w (ix3 (0 : Fin 1) k d)) + b (ix3 (0 : Fin 1) (0 : Fin 1) d) := by
  pointwise [k0_pay1, silu]

theorem zero2 : (![0, 0] : Fin 2 → ℕ) = fun _ => 0 := funext fun n => by revert n; decide

theorem zero3 : (![0, 0, 0] : Fin 3 → ℕ) = fun _ => 0 := funext fun n => by revert n; decide

/-- What a body leaves in the output block. -/
theorem out_apply (x : Vec Ideal S8x2048 .f32) (w : Vec Ideal S1x2048x512 .f32) (b : Vec Ideal S1x1x512 .f32)
    (r : Fin 8) (d : Fin 512) :
    out0_3 (F := Ideal) x w b (ix3 (0 : Fin 1) r d)
      = (∑ k : Fin 2048, silu (x (ix2 r k)) * w (ix3 (0 : Fin 1) k d)) + b (ix3 (0 : Fin 1) (0 : Fin 1) d) := by
  unfold out0_3
  rw [View.canon_unit_zero zero3]
  rw [View.ld_unit_zero (S := S8x2048) zero2, View.ld_unit_zero (S := S1x2048x512) zero3,
    View.ld_unit_zero (S := S1x1x512) zero3]
  exact pay_apply x w b r d

/-! ## The padded vectors -/

/-- An update of the padding lands at its own place, the start being zero. -/
theorem lands (idx : IVec S1 32) (h : idx = fun _ => 0#32) (j : S2x2048.Idx) (r : Fin 8) (k : Fin 2048) :
    scatter_S8x2048_S1_S2x2048_01_n_0_0.resultIdx? j idx = some (ix2 r k) ↔ (j 0).val = r.val ∧ (j 1).val = k.val := by
  have hs : ∀ a : Fin 2, scatter_S8x2048_S1_S2x2048_01_n_0_0.start j idx a = 0 := fun a => by
    unfold ScatterDims.start
    subst h
    split <;> rfl
  have hw0 : scatter_S8x2048_S1_S2x2048_01_n_0_0.window j (0 : Fin 2) = (j 0).val := rfl
  have hw1 : scatter_S8x2048_S1_S2x2048_01_n_0_0.window j (1 : Fin 2) = (j 1).val := rfl
  refine (Routing.resultIdx?_ix2 scatter_S8x2048_S1_S2x2048_01_n_0_0 j idx r k).trans ?_
  rw [hs, hs, hw0, hw1]
  omega

/-- The padded vectors at an entry. -/
theorem padded (x : S8x2048.Idx → EReal) (hx : ∀ i, x i = 0) (idx : IVec S1 32) (h : idx = fun _ => 0#32)
    (v : S2x2048.Idx → EReal) (r : Fin 8) (k : Fin 2048) :
    Host.scatter scatter_S8x2048_S1_S2x2048_01_n_0_0 (fun _ b => b) x idx v (ix2 r k) = row v r.val k := by
  unfold row
  split
  case isTrue hr =>
    refine Routing.scatter_set_hit _ x idx v _ _ (fun j hj => congrArg v (funext fun a => Fin.ext ?_)) (ix2 ⟨r.val, hr⟩ k)
      ((lands idx h _ r k).2 ⟨rfl, rfl⟩)
    have := (lands idx h j r k).1 hj
    match a with
    | ⟨0, _⟩ => exact this.1
    | ⟨1, _⟩ => exact this.2
  case isFalse hr =>
    refine (Routing.scatter_set_miss _ x idx v _ fun j hj => hr ?_).trans (hx _)
    rw [← ((lands idx h j r k).1 hj).1]
    exact (j 0).isLt

/-! ## The blocks of a grid point -/

theorem hN : cfg0.N = 24 := N_0

theorem index0 : ∀ t : Fin grid0.N, win0_0.index t 0 = 0 ∧ win0_0.index t 1 = 0 := by decide +kernel

theorem index1 : ∀ t : Fin grid0.N, win0_1.index t 0 = t.val / 12 ∧ win0_1.index t 1 = 0
    ∧ win0_1.index t 2 = t.val % 12 := by decide +kernel

theorem index2 : ∀ t : Fin grid0.N, win0_2.index t 0 = t.val / 12 ∧ win0_2.index t 1 = 0
    ∧ win0_2.index t 2 = t.val % 12 := by decide +kernel

theorem index3 : ∀ t : Fin grid0.N, win0_3.index t 0 = t.val / 12 ∧ win0_3.index t 1 = 0
    ∧ win0_3.index t 2 = t.val % 12 := by decide +kernel

variable (m : (ℓ : Loc nD τ sig) → Buf (Elt Ideal) ℓ) (c : Dev nD)

/-- The padded conditioning vectors, which every grid point reads whole. -/
theorem block0 (t : Fin cfg0.N) (r : Fin 8) (k : Fin 2048) :
    (iblk m c 0 t : Vec Ideal S8x2048 .f32) (ix2 r k) = row (m ((c : Thread nD τ).loc main_arg0)) r.val k := by
  have h : V (F := Ideal) m c main_v2 = Host.scatter scatter_S8x2048_S1_S2x2048_01_n_0_0 (fun _ b => b)
      (broadcastInDim S8x2048 ![] bcast_S_S8x2048 (constant (F := Ideal) S_ .f32 0x00000000#32))
      (broadcastInDim S1 ![] bcast_S_S1 (constantI S_ 32 0#32)) (m ((c : Thread nD τ).loc main_arg0)) := by
    unfold V
    after_reads_simp
  refine Eq.trans ?_ ((congrFun h (ix2 r k)).trans (padded _ (fun i => ?_) _ ?_ _ r k))
  · unfold iblk
    rw [View.read_apply]
    show V m c main_v2 _ = _
    refine congrArg (V m c main_v2) (funext fun a => Fin.ext ?_)
    match a with
    | ⟨0, _⟩ => show win0_0.index t 0 * 8 + 1 * r.val = r.val; rw [(index0 t).1]; omega
    | ⟨1, _⟩ => show win0_0.index t 1 * 2048 + 1 * k.val = k.val; rw [(index0 t).2]; omega
  · pointwise
  · rfl

/-- The weight's columns of a grid point. -/
theorem block1 (t : Fin cfg0.N) (k : Fin 2048) (d : Fin 512) (l : Fin 2) (C : Fin 6144) (hl : l.val = t.val / 12)
    (hC : C.val = t.val % 12 * 512 + d.val) :
    (iblk m c 1 t : Vec Ideal S1x2048x512 .f32) (ix3 (0 : Fin 1) k d) = m ((c : Thread nD τ).loc main_arg1) (ix3 l k C) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = l.val; rw [(index1 t).1]; omega
  | ⟨1, _⟩ => show win0_1.index t 1 * 2048 + 1 * k.val = k.val; rw [(index1 t).2.1]; omega
  | ⟨2, _⟩ => show win0_1.index t 2 * 512 + 1 * d.val = C.val; rw [(index1 t).2.2]; omega

/-- The bias' columns of a grid point. -/
theorem block2 (t : Fin cfg0.N) (d : Fin 512) (l : Fin 2) (C : Fin 6144) (hl : l.val = t.val / 12)
    (hC : C.val = t.val % 12 * 512 + d.val) :
    (iblk m c 2 t : Vec Ideal S1x1x512 .f32) (ix3 (0 : Fin 1) (0 : Fin 1) d) = m ((c : Thread nD τ).loc main_arg2) (ix2 l C) := by
  have h : V (F := Ideal) m c main_v3 (ix3 l (0 : Fin 1) C) = m ((c : Thread nD τ).loc main_arg2) (ix2 l C) := by
    unfold V
    after_reads_at
  rw [← h]
  unfold iblk
  rw [View.read_apply]
  show V m c main_v3 _ = _
  refine congrArg (V m c main_v3) (funext fun a => Fin.ext ?_)
  match a with
  | ⟨0, _⟩ => show win0_2.index t 0 * 1 + 1 * 0 = l.val; rw [(index2 t).1]; omega
  | ⟨1, _⟩ => show win0_2.index t 1 * 1 + 1 * 0 = 0; rw [(index2 t).2.1]
  | ⟨2, _⟩ => show win0_2.index t 2 * 512 + 1 * d.val = C.val; rw [(index2 t).2.2]; omega

/-! ## The array -/

/-- The result array. -/
def result : FVec Ideal S2x8x6144 .f32 := fun i =>
  entry (m ((c : Thread nD τ).loc main_arg0)) (m ((c : Thread nD τ).loc main_arg1)) (m ((c : Thread nD τ).loc main_arg2))
    (i 0) (i 1).val (i 2)

/-- What a grid point writes back, at an entry of its block. -/
theorem flushed_apply (t : Fin cfg0.N) (r : Fin 8) (d : Fin 512) (l : Fin 2) (C : Fin 6144) (hl : l.val = t.val / 12)
    (hC : C.val = t.val % 12 * 512 + d.val) :
    (dats m 0 c).flushed 3 t (ix3 (0 : Fin 1) r d) = result m c (ix3 l r C) := by
  rw [Value.flushed3]
  show out0_3 _ _ _ (ix3 (0 : Fin 1) r d) = _
  rw [out_apply, block2 m c t d l C hl hC]
  simp only [block0 m c t r _, block1 m c t _ d l C hl hC]
  rfl

/-- A grid point writes back its block of the result. -/
theorem flushed_eq (t : Fin cfg0.N) (_ : (cfg0.win 3).flush t = true) :
    (dats m 0 c).flushed 3 t = ((cfg0.win 3).blk t).view.read (Elt Ideal) (result m c) := by
  have hlt : t.val < 24 := by have := t.isLt; have := hN; omega
  funext y
  rw [View.read_apply]
  obtain ⟨r, hr⟩ : ∃ r : Fin 8, r = y 1 := ⟨y 1, rfl⟩
  obtain ⟨d, hd⟩ : ∃ d : Fin 512, d = y 2 := ⟨y 2, rfl⟩
  have hy : y = ix3 (0 : Fin 1) r d := funext fun a => by
    match a with
    | ⟨0, _⟩ => exact Subsingleton.elim (α := Fin 1) _ _
    | ⟨1, _⟩ => exact hr.symm
    | ⟨2, _⟩ => exact hd.symm
  rw [hy]
  refine (flushed_apply m c t r d ⟨t.val / 12, by omega⟩ ⟨t.val % 12 * 512 + d.val, by omega⟩ rfl rfl).trans ?_
  refine congrArg (result m c) (funext fun a => Fin.ext ?_)
  match a with
  | ⟨0, _⟩ => show t.val / 12 = win0_3.index t 0 * 1 + 1 * 0; rw [(index3 t).1]; omega
  | ⟨1, _⟩ => show r.val = win0_3.index t 1 * 8 + 1 * r.val; rw [(index3 t).2.1]; omega
  | ⟨2, _⟩ => show _ = win0_3.index t 2 * 512 + 1 * d.val; rw [(index3 t).2.2, one_mul]; rfl

/-- So the array ends holding the result: the blocks cover it. -/
theorem final : (dats m 0 c).arrAt 3 cfg0.N = result m c :=
  (dats m 0 c).arrAt_eq_of_cover 3 _ (flushed_eq m c) fun i => by
    have h0 : (i 0 : Nat) < 2 := (i 0).isLt
    have h1 : (i 1 : Nat) < 8 := (i 1).isLt
    have h2 : (i 2 : Nat) < 6144 := (i 2).isLt
    refine ⟨⟨(i 0).val * 12 + (i 2).val / 512, by rw [hN]; omega⟩, flush0_3 _, ?_⟩
    generalize hT : (⟨(i 0).val * 12 + (i 2).val / 512, _⟩ : Fin cfg0.N) = T
    have hv : T.val = (i 0).val * 12 + (i 2).val / 512 := by rw [← hT]
    show i ∈ ((View.whole main_v4).slice (win0_3.rect T)).set
    rw [View.set_slice_whole, Rect.mem_set_unit]
    intro a
    match a with
    | ⟨0, _⟩ =>
      show win0_3.index T 0 * 1 ≤ (i 0 : Nat) ∧ (i 0 : Nat) < win0_3.index T 0 * 1 + 1
      rw [(index3 T).1]; omega
    | ⟨1, _⟩ =>
      show win0_3.index T 1 * 8 ≤ (i 1 : Nat) ∧ (i 1 : Nat) < win0_3.index T 1 * 8 + 8
      rw [(index3 T).2.1]; omega
    | ⟨2, _⟩ =>
      show win0_3.index T 2 * 512 ≤ (i 2 : Nat) ∧ (i 2 : Nat) < win0_3.index T 2 * 512 + 512
      rw [(index3 T).2.2]; omega

end Cert.Proof.Ada

end
-- ==== Proof.AdaClaims.lean ====
/- The claims about the adaptive conditioning. -/
module

public import proofs.«01_k».proof.Defs
public import proofs.«01_k».proof.Proof.AdaArray
public import proofs.«01_k».proof.Proof.Gen.Ada.Frame
public import proofs.«01_k».proof.Proof.Gen.AdaRefIdeal.Run
public import Idealize.ShloMosaic.Adequacy

@[expose] public section

noncomputable section

namespace Cert.Proof.Ada

open Idealize.ShloMosaic Idealize.ShloMosaic.TcCoe Idealize.SL.Sem

theorem frame_p : Cert.quiescent_Ada := fun m ρ _ => Cert.Ada.Gen.frame m ρ

theorem frame_pi : Cert.quiescent_AdaIdeal := fun m ρ _ => Cert.AdaIdeal.Gen.frame m ρ

/-- The reference runs, keeps its arguments and has no semaphores. -/
theorem frame_ri : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

section Reference

open Cert.AdaRefIdeal Cert.AdaRefIdeal.Gen

/-- The reference's two rows of one layer. -/
def used (v : FVec Ideal S2x2048 .f32) (w : FVec Ideal S1x2048x6144 .f32) (b : FVec Ideal S1x6144 .f32) :
    FVec Ideal S2x6144 .f32 :=
  addf (Host.dotGeneral dot_S2x2048_S2048x6144_S2x6144_1_0_0_1_n_n none
      (mulf v (Host.divf (broadcastInDim S2x2048 ![] bcast_S_S2x2048 (constant S_ .f32 0x3F800000#32))
        (addf (broadcastInDim S2x2048 ![] bcast_S_S2x2048 (constant S_ .f32 0x3F800000#32)) (Host.exp (Host.negf v)))))
      (shapeCast S2048x6144 w shapeCasts_S1x2048x6144_S2048x6144))
    (broadcastInDim S2x6144 ![0, 1] bcast_S1x6144_S2x6144_0_1 (broadcastInDim S1x6144 ![1] bcast_S6144_S1x6144_1
      (shapeCast S6144 b shapeCasts_S1x6144_S6144)))

/-- The reference's six unused rows of one layer. -/
def unused (b : FVec Ideal S1x6144 .f32) : FVec Ideal S6x6144 .f32 :=
  broadcastInDim S6x6144 ![1] bcast_S6144_S6x6144_1 (shapeCast S6144 b shapeCasts_S1x6144_S6144)

/-- The two rows at an entry. -/
theorem used_apply (v : FVec Ideal S2x2048 .f32) (w : FVec Ideal S1x2048x6144 .f32) (b : FVec Ideal S1x6144 .f32)
    (r : Fin 2) (d : Fin 6144) : used v w b (ix2 r d)
      = (∑ k : Fin 2048, silu (v (ix2 r k)) * w (ix3 (0 : Fin 1) k d)) + b (ix2 (0 : Fin 1) d) := by
  pointwise [used, silu]
  rfl

/-- An unused row at an entry. -/
theorem unused_apply (b : FVec Ideal S1x6144 .f32) (r : Fin 6) (d : Fin 6144) :
    unused b (ix2 r d) = b (ix2 (0 : Fin 1) d) := by
  pointwise [unused]

/-- The reference's eight rows of one layer. -/
def layer (v : FVec Ideal S2x2048 .f32) (w : FVec Ideal S1x2048x6144 .f32) (b : FVec Ideal S1x6144 .f32) :
    FVec Ideal S1x8x6144 .f32 :=
  broadcastInDim S1x8x6144 ![1, 2] bcast_S8x6144_S1x8x6144_1_2
    (concatenate S8x6144 0 [⟨S2x6144, used v w b⟩, ⟨S6x6144, unused b⟩] concatenates_S2x6144_S6x6144_S8x6144_d0)

/-- The eight rows at an entry: the unused ones are those of a vector of zeros. -/
theorem layer_apply (v : FVec Ideal S2x2048 .f32) (w : FVec Ideal S1x2048x6144 .f32) (b : FVec Ideal S1x6144 .f32)
    (r : Fin 8) (d : Fin 6144) : layer v w b (ix3 (0 : Fin 1) r d)
      = (∑ k : Fin 2048, silu (row v r.val k) * w (ix3 (0 : Fin 1) k d)) + b (ix2 (0 : Fin 1) d) := by
  by_cases hr : r.val < 2
  · have h : layer v w b (ix3 (0 : Fin 1) r d) = used v w b (ix2 (⟨r.val, hr⟩ : Fin 2) d) := by
      pointwise [layer]
      simp [hr]
    rw [h, used_apply]
    simp only [row, dif_pos hr]
  · have h : layer v w b (ix3 (0 : Fin 1) r d) = unused b (ix2 (⟨r.val - 2, by omega⟩ : Fin 6) d) := by
      pointwise [layer]
      simp [hr]
    rw [h, unused_apply]
    simp only [row, dif_neg hr, silu, zero_mul, Finset.sum_const_zero, zero_add]

/-- The reference's result. -/
def reference (v : FVec Ideal S2x2048 .f32) (w : FVec Ideal S2x2048x6144 .f32) (b : FVec Ideal S2x6144 .f32) :
    FVec Ideal S2x8x6144 .f32 :=
  concatenate S2x8x6144 0
    [⟨S1x8x6144, layer v (extractStridedSlice S1x2048x6144 ![0, 0, 0] w slices_S2x2048x6144_S1x2048x6144_0_0_0)
        (extractStridedSlice S1x6144 ![0, 0] b slices_S2x6144_S1x6144_0_0)⟩,
      ⟨S1x8x6144, layer v (extractStridedSlice S1x2048x6144 ![1, 0, 0] w slices_S2x2048x6144_S1x2048x6144_1_0_0)
        (extractStridedSlice S1x6144 ![1, 0] b slices_S2x6144_S1x6144_1_0)⟩]
    concatenates_S1x8x6144_S1x8x6144_S2x8x6144_d0

/-- The reference's result at an entry. -/
theorem reference_apply (v : FVec Ideal S2x2048 .f32) (w : FVec Ideal S2x2048x6144 .f32) (b : FVec Ideal S2x6144 .f32)
    (l : Fin 2) (r : Fin 8) (d : Fin 6144) : reference v w b (ix3 l r d) = entry v w b l r.val d := by
  match l with
  | ⟨0, _⟩ =>
    have h : reference v w b (ix3 (0 : Fin 2) r d)
        = layer v (extractStridedSlice S1x2048x6144 ![0, 0, 0] w slices_S2x2048x6144_S1x2048x6144_0_0_0)
          (extractStridedSlice S1x6144 ![0, 0] b slices_S2x6144_S1x6144_0_0) (ix3 (0 : Fin 1) r d) := by
      pointwise [reference]
    refine h.trans ((layer_apply _ _ _ r d).trans ?_)
    pointwise [entry]
  | ⟨1, _⟩ =>
    have h : reference v w b (ix3 (1 : Fin 2) r d)
        = layer v (extractStridedSlice S1x2048x6144 ![1, 0, 0] w slices_S2x2048x6144_S1x2048x6144_1_0_0)
          (extractStridedSlice S1x6144 ![1, 0] b slices_S2x6144_S1x6144_1_0) (ix3 (0 : Fin 1) r d) := by
      pointwise [reference]
    refine h.trans ((layer_apply _ _ _ r d).trans ?_)
    pointwise [entry]

end Reference

/-- The kernel's array and the reference's are the same function of the arguments. -/
theorem algebraic : Cert.algebraic_AdaIdeal_AdaRefIdeal := by
  intro m g m' g' _ hagree
  refine ⟨fun c => (Cert.AdaIdeal.Gen.dats m 0 c).arrAt 3 Cert.AdaIdeal.cfg0.N,
    Cert.AdaIdeal.Value.run_blocks m g, ?_⟩
  refine (θ_run Cert.AdaRefIdeal.defs _ _).mono (fun _ h c => ⟨(h c).1.trans ?_, (h c).2⟩)
    (Cert.AdaRefIdeal.Value.run (F := Ideal) m' g')
  obtain ⟨a0, a1, a2⟩ := hagree c
  refine Eq.trans ?_ (final m c).symm
  rw [a0, a1, a2]
  show reference _ _ _ = _
  funext i
  obtain ⟨l, hl⟩ : ∃ l : Fin 2, l = i 0 := ⟨i 0, rfl⟩
  obtain ⟨r, hr⟩ : ∃ r : Fin 8, r = i 1 := ⟨i 1, rfl⟩
  obtain ⟨d, hd⟩ : ∃ d : Fin 6144, d = i 2 := ⟨i 2, rfl⟩
  have hi : i = ix3 l r d := funext fun a => by
    match a with
    | ⟨0, _⟩ => exact hl.symm
    | ⟨1, _⟩ => exact hr.symm
    | ⟨2, _⟩ => exact hd.symm
  rw [hi]
  exact reference_apply _ _ _ l r d

end Cert.Proof.Ada

end
-- ==== Proof.InprojBlock.lean ====
/- The input projection: what a grid point computes from its blocks. -/
module

public import proofs.«01_k».proof.Proof.Gen.InprojIdeal.Value
public import Idealize.ShloMosaic.Lib.Pipeline.Value
public import Idealize.ShloMosaic.Lib.Pipeline.Kit
public import Idealize.ShloMosaic.Lib.Pipeline.CanonAppend
public import Idealize.ShloMosaic.Lib.VecWindow
public import Idealize.ShloMosaic.Lib.Pointwise

@[expose] public section

set_option maxRecDepth 8192

noncomputable section

namespace Cert.Proof.Inproj

open Cert.InprojIdeal Cert.InprojIdeal.Gen Idealize.ShloMosaic Idealize.ShloMosaic.TcCoe Idealize.SL.Sem

/-- Entry `k` of the normalised row `x`: the row divided by its root mean square, times the weight, then scaled and
    shifted. The two words are 2048 and the small number added under the root. -/
def unit (x nw sc sh : Fin 2048 → EReal) (k : Fin 2048) : EReal :=
  x k * Ideal.rsqrt (Ideal.div (∑ l : Fin 2048, x l * x l) (Ideal.ofBits FTy.f32 0x45000000#32)
      + Ideal.ofBits FTy.f32 0x358637BD#32) * nw k * (1 + sc k) + sh k

/-- Sixty-four rows of a trip of the loop, normalised. -/
theorem pay1_apply (nw : Vec Ideal S1x2048 .f32) (sc sh : Vec Ideal S1x1x2048 .f32) (x : Vec Ideal S64x2048 .f32)
    (r : Fin 64) (k : Fin 2048) :
    k0_pay1 (F := Ideal) nw sc sh x (ix2 r k)
      = unit (fun l => x (ix2 r l)) (fun l => nw (ix2 (0 : Fin 1) l)) (fun l => sc (ix3 (0 : Fin 1) (0 : Fin 1) l))
          (fun l => sh (ix3 (0 : Fin 1) (0 : Fin 1) l)) k := by
  pointwise [k0_pay1]
  rfl

/-- The product of the normalised rows and a block of the weight. -/
theorem pay2_apply (u : Vec Ideal S1024x2048 .bf16) (w : Vec Ideal S2048x1280 .bf16)
    (r : Fin 1024) (d : Fin 1280) :
    k0_pay2 (F := Ideal) u w (ix2 r d) = ∑ k : Fin 2048, u (ix2 r k) * w (ix2 k d) := by
  pointwise [k0_pay2]

theorem zero2 : (![0, 0] : Fin 2 → ℕ) = fun _ => 0 := funext fun n => by revert n; decide

theorem zero3 : (![0, 0, 0] : Fin 3 → ℕ) = fun _ => 0 := funext fun n => by revert n; decide

/-- A block of 1024 rows, normalised. -/
def block (x : Vec Ideal S1024x2048 .f32) (nw : Vec Ideal S1x2048 .f32) (sc sh : Vec Ideal S1x1x2048 .f32) :
    Vec Ideal S1024x2048 .bf16 := fun y =>
  unit (fun l => x (ix2 (y 0 : Fin 1024) l)) (fun l => nw (ix2 (0 : Fin 1) l))
    (fun l => sc (ix3 (0 : Fin 1) (0 : Fin 1) l)) (fun l => sh (ix3 (0 : Fin 1) (0 : Fin 1) l)) (y 1)

/-- Trip `k` of the loop starts at row `64 k`. -/
theorem off_trip : ∀ k : Fin k0_t1_loop.trips, k0_off1 k = ![64 * k.val, 0] := by decide +kernel

variable (c : Dev nD) (i : grid0.Coords)
  (arg2 : Memref sig .tc .vmem S1024x2048 .f32) (harg2 : arg2.IsWhole) (arg3 : Memref sig .tc .vmem S1x2048 .f32)
  (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S2048x1280 .bf16)
  (harg6 : arg6.IsWhole) (arg7 : Memref sig .tc .vmem S1024x1280 .f32) (harg7 : arg7.IsWhole)
  (arg8 : Memref sig .tc .vmem S1024x2048 .bf16) (harg8 : arg8.IsWhole)

/-- Every piece that the loop stores agrees with the normalised block. -/
theorem pieces (h : k0_cond1 i = 1#1) (x : Vec Ideal S1024x2048 .f32) (nw : Vec Ideal S1x2048 .f32)
    (sc sh : Vec Ideal S1x1x2048 .f32) : ∀ n : ℕ, n ≤ k0_t1_loop.trips →
    ∀ p ∈ pb_k0_t1 (F := Ideal) Variants.none c none i arg2 harg2 arg3 harg3 arg4 harg4 arg5 harg5 arg6 harg6 arg7 harg7
      arg8 harg8 h nw sc sh (harg2.unread x) n,
    ∀ z : p.1.shape.Idx, p.2 z = block x nw sc sh (p.1.emb z) := by
  intro n
  induction n with
  | zero => intro _ p hp; exact absurd hp (List.not_mem_nil)
  | succ n ih =>
    intro hn p hp
    rw [pb_k0_t1_succ (F := Ideal) Variants.none c none i arg2 harg2 arg3 harg3 arg4 harg4 arg5 harg5 arg6 harg6
        arg7 harg7 arg8 harg8 h nw sc sh (harg2.unread x) ⟨n, hn⟩, List.mem_append] at hp
    rcases hp with hp | hp
    · unfold tripL_k0_t1 trip_k0_t1 at hp
      dsimp only at hp
      rw [List.mem_singleton] at hp
      subst hp
      intro z
      obtain ⟨r, hr⟩ : ∃ r : Fin 64, r = z 0 := ⟨z 0, rfl⟩
      obtain ⟨k, hk⟩ : ∃ k : Fin 2048, k = z 1 := ⟨z 1, rfl⟩
      have hz : z = ix2 r k := funext fun a => by
        match a with
        | ⟨0, _⟩ => exact hr.symm
        | ⟨1, _⟩ => exact hk.symm
      have ho := off_trip ⟨n, hn⟩
      rw [hz]
      refine (pay1_apply nw sc sh _ r k).trans ?_
      rw [View.readAt_eq_ld, harg2.read_unread]
      unfold block
      refine congr (congrArg (fun f : Fin 2048 → EReal => unit f (fun l => nw (ix2 (0 : Fin 1) l))
        (fun l => sc (ix3 (0 : Fin 1) (0 : Fin 1) l)) (fun l => sh (ix3 (0 : Fin 1) (0 : Fin 1) l)))
        (funext fun l => congrArg x (funext fun a => Fin.ext ?_))) (Fin.ext ?_)
      · match a with
        | ⟨0, _⟩ => rfl
        | ⟨1, _⟩ =>
          show k0_off1 ⟨n, hn⟩ 1 + 1 * l.val = l.val
          rw [ho]; show 0 + 1 * l.val = l.val; omega
      · show k.val = k0_off1 ⟨n, hn⟩ 1 + 1 * k.val
        rw [ho]; show k.val = 0 + 1 * k.val; omega
    · exact ih (by omega) p hp

/-- What the body of a first column block keeps: the normalised block. -/
theorem kept_first (hc0 : cond0_0 i) (x : Vec Ideal S1024x2048 .f32) (nw : Vec Ideal S1x2048 .f32)
    (sc sh : Vec Ideal S1x1x2048 .f32) (w : Vec Ideal S2048x1280 .bf16) :
    sout0_A_0 (F := Ideal) c i arg2 harg2 arg3 harg3 arg4 harg4 arg5 harg5 arg6 harg6 arg7 harg7 arg8 harg8 hc0 x nw sc
      sh w = block x nw sc sh := by
  have hcov := scover0_A_0 (F := Ideal) c i arg2 harg2 arg3 harg3 arg4 harg4 arg5 harg5 arg6 harg6 arg7 harg7 arg8 harg8
    hc0 x nw sc sh w
  unfold sout0_A_0
  rw [View.read_writes_eq_canon _ _ _ hcov]
  revert hcov
  unfold kernelRun0_A
  dsimp only
  simp only [View.readAt_eq_ld, harg3.read_unread, harg4.read_unread, harg5.read_unread,
    View.ld_unit_zero (S := S1x2048) zero2, View.ld_unit_zero (S := S1x1x2048) zero3]
  intro hcov
  funext y
  have e := View.canon_append_of_pieces (block x nw sc sh) [] _
    (pieces c i arg2 harg2 arg3 harg3 arg4 harg4 arg5 harg5 arg6 harg6 arg7 harg7 arg8 harg8 hc0 x nw sc sh _ le_rfl) y
    (hcov y)
  rw [List.append_nil] at e
  exact e

/-- What the body of a first column block stores: the product with the normalised block. -/
theorem out_first (hc0 : cond0_0 i) (x : Vec Ideal S1024x2048 .f32) (nw : Vec Ideal S1x2048 .f32)
    (sc sh : Vec Ideal S1x1x2048 .f32) (w : Vec Ideal S2048x1280 .bf16) :
    out0_A_5 (F := Ideal) c i arg2 harg2 arg3 harg3 arg4 harg4 arg5 harg5 arg6 harg6 arg7 harg7 arg8 harg8 hc0 x nw sc
      sh w = k0_pay2 (block x nw sc sh) w := by
  have hkept := kept_first c i arg2 harg2 arg3 harg3 arg4 harg4 arg5 harg5 arg6 harg6 arg7 harg7 arg8 harg8
    hc0 x nw sc sh w
  have hcov := scover0_A_0 (F := Ideal) c i arg2 harg2 arg3 harg3 arg4 harg4 arg5 harg5 arg6 harg6 arg7 harg7 arg8 harg8
    hc0 x nw sc sh w
  unfold sout0_A_0 at hkept
  rw [View.read_writes_eq_canon _ _ _ hcov] at hkept
  unfold out0_A_5
  rw [View.read_writes_eq_canon _ _ _ (cover0_A_5 c i arg2 harg2 arg3 harg3 arg4 harg4 arg5 harg5 arg6 harg6 arg7 harg7
    arg8 harg8 hc0 x nw sc sh w)]
  revert hcov hkept
  unfold kernelRun0_A
  dsimp only
  rw [View.canon_unit_zero zero2]
  unfold View.readCov
  simp only [View.readAt_eq_ld, harg6.read_unread]
  intro hkept hcov
  rw [View.read_writes_eq_canon _ _ _ hcov, hkept,
    View.ld_unit_zero (S := S1024x2048) zero2, View.ld_unit_zero (S := S2048x1280) zero2]

/-- What the body of a later column block stores: the product with the block that was kept. -/
theorem out_later (hc0 : ¬cond0_0 i) (x : Vec Ideal S1024x2048 .f32) (nw : Vec Ideal S1x2048 .f32)
    (sc sh : Vec Ideal S1x1x2048 .f32) (w : Vec Ideal S2048x1280 .bf16) (s : Vec Ideal S1024x2048 .bf16) :
    out0_B_5 (F := Ideal) c i arg2 harg2 arg3 harg3 arg4 harg4 arg5 harg5 arg6 harg6 arg7 harg7 arg8 harg8 hc0 x nw sc
      sh w s = k0_pay2 s w := by
  unfold out0_B_5
  rw [View.read_writes_eq_canon _ _ _ (cover0_B_5 c i arg2 harg2 arg3 harg3 arg4 harg4 arg5 harg5 arg6 harg6 arg7 harg7
    arg8 harg8 hc0 x nw sc sh w s)]
  unfold kernelRun0_B
  dsimp only
  rw [View.canon_unit_zero zero2]
  simp only [View.readAt_eq_ld, harg6.read_unread, harg8.read_unread,
    View.ld_unit_zero (S := S1024x2048) zero2, View.ld_unit_zero (S := S2048x1280) zero2]

/-- A later column block keeps what it found. -/
theorem kept_later (hc0 : ¬cond0_0 i) (x : Vec Ideal S1024x2048 .f32) (nw : Vec Ideal S1x2048 .f32)
    (sc sh : Vec Ideal S1x1x2048 .f32) (w : Vec Ideal S2048x1280 .bf16) (s : Vec Ideal S1024x2048 .bf16) :
    sout0_B_0 (F := Ideal) c i arg2 harg2 arg3 harg3 arg4 harg4 arg5 harg5 arg6 harg6 arg7 harg7 arg8 harg8 hc0 x nw sc
      sh w s = s := rfl

end Cert.Proof.Inproj

end
-- ==== Proof.InprojPack.lean ====
/- The input projection's columns: the packed order of the weight's sixteen groups of columns. -/
module

public import proofs.«01_k».proof.Proof.Gen.InprojIdeal.Value
public import Idealize.ShloMosaic.Lib.Pipeline.Value
public import Idealize.ShloMosaic.Lib.Pointwise
public import Idealize.ShloMosaic.Lib.StableHlo.ReadAt

@[expose] public section

set_option maxRecDepth 8192

noncomputable section

namespace Cert.Proof.Inproj

open Idealize.ShloMosaic Idealize.ShloMosaic.TcCoe Idealize.SL.Sem

/-- The weight's column that stands in packed column `C`: the weight's sixteen groups of columns are taken in the
    packed order, the widest ones that share a width first. -/
def source (C : ℕ) : ℕ :=
  if C < 3072 then 9816 + (C - 0)
  else if C < 4096 then 0 + (C - 3072)
  else if C < 5120 then 1024 + (C - 4096)
  else if C < 6144 then 2048 + (C - 5120)
  else if C < 7168 then 3080 + (C - 6144)
  else if C < 8192 then 4104 + (C - 7168)
  else if C < 9216 then 5640 + (C - 8192)
  else if C < 10240 then 6744 + (C - 9216)
  else if C < 12288 then 7768 + (C - 10240)
  else if C < 18432 then 12920 + (C - 12288)
  else if C < 18688 then 5128 + (C - 18432)
  else if C < 18944 then 5384 + (C - 18688)
  else if C < 19008 then 6664 + (C - 18944)
  else if C < 19016 then 3072 + (C - 19008)
  else if C < 19032 then 6728 + (C - 19016)
  else 12888 + (C - 19032)

theorem source_lt {C : ℕ} (h : C < 19064) : source C < 19064 := by
  unfold source
  by_cases h0 : C < 3072
  · rw [if_pos h0]; omega
  rw [if_neg h0]
  by_cases h1 : C < 4096
  · rw [if_pos h1]; omega
  rw [if_neg h1]
  by_cases h2 : C < 5120
  · rw [if_pos h2]; omega
  rw [if_neg h2]
  by_cases h3 : C < 6144
  · rw [if_pos h3]; omega
  rw [if_neg h3]
  by_cases h4 : C < 7168
  · rw [if_pos h4]; omega
  rw [if_neg h4]
  by_cases h5 : C < 8192
  · rw [if_pos h5]; omega
  rw [if_neg h5]
  by_cases h6 : C < 9216
  · rw [if_pos h6]; omega
  rw [if_neg h6]
  by_cases h7 : C < 10240
  · rw [if_pos h7]; omega
  rw [if_neg h7]
  by_cases h8 : C < 12288
  · rw [if_pos h8]; omega
  rw [if_neg h8]
  by_cases h9 : C < 18432
  · rw [if_pos h9]; omega
  rw [if_neg h9]
  by_cases h10 : C < 18688
  · rw [if_pos h10]; omega
  rw [if_neg h10]
  by_cases h11 : C < 18944
  · rw [if_pos h11]; omega
  rw [if_neg h11]
  by_cases h12 : C < 19008
  · rw [if_pos h12]; omega
  rw [if_neg h12]
  by_cases h13 : C < 19016
  · rw [if_pos h13]; omega
  rw [if_neg h13]
  by_cases h14 : C < 19032
  · rw [if_pos h14]; omega
  rw [if_neg h14]
  omega

/-- One group of a concatenation of matrices with 19064 columns, read at a column of the group. -/
theorem group2 (xs : List ((s : Shape) × (s.Idx → EReal)))
    (h : Shape.Concatenates (xs.map (·.1)) (⟨2, ![2048, 19064]⟩ : Shape) 1) (K : ℕ) (hK : K < xs.length) {n o p : ℕ}
    (w : (⟨2, ![2048, 19064]⟩ : Shape).Idx → EReal)
    (hs : (⟨2, ![2048, 19064]⟩ : Shape).Slices ![0, o] (⟨2, ![2048, n]⟩ : Shape))
    (hx : xs[K] = ⟨(⟨2, ![2048, n]⟩ : Shape), extractStridedSlice (⟨2, ![2048, n]⟩ : Shape) ![0, o] w hs⟩)
    (ss : List Shape) (hss : xs.map (·.1) = ss)
    (hp : ((ss.take K).map fun s => if h : s.rank = 2 then s.size ((1 : Fin 2).cast h.symm) else 0).sum = p)
    (k : Fin 2048) (C : Fin 19064) (D : Fin 19064) (hlo : p ≤ C.val) (hhi : C.val < p + n) (hD : D.val = o + (C.val - p)) :
    concatenate (⟨2, ![2048, 19064]⟩ : Shape) 1 xs h (ix2 k C) = w (ix2 k D) := by
  rw [← hss, ← List.map_take] at hp
  refine (concatenate_apply_piece (t := (⟨2, ![2048, 19064]⟩ : Shape)) 1 xs h (ix2 k C) K hK _ _ hx rfl p hp
    (ix2 k (⟨C.val - p, by omega⟩ : Fin n)) ?_ ?_).trans ?_
  · intro b hb
    match b with
    | ⟨0, _⟩ => rfl
    | ⟨1, _⟩ => exact absurd rfl hb
  · show p + (C.val - p) = C.val
    omega
  · refine congrArg w (funext fun a => Fin.ext ?_)
    match a with
    | ⟨0, _⟩ => show 0 + k.val = k.val; omega
    | ⟨1, _⟩ => show o + (C.val - p) = D.val; omega

section Kernel

open Cert.InprojIdeal Cert.InprojIdeal.Gen

/-- The weight with its groups of columns in the packed order. -/
def packed (w : FVec Ideal S2048x19064 .f32) : FVec Ideal S2048x19064 .bf16 :=
  concatenate S2048x19064 1
    [⟨S2048x3072, truncf .bf16 (extractStridedSlice S2048x3072 ![0, 9816] w slices_S2048x19064_S2048x3072_0_9816) bitsLt_bf16_f32⟩,
     ⟨S2048x1024, truncf .bf16 (extractStridedSlice S2048x1024 ![0, 0] w slices_S2048x19064_S2048x1024_0_0) bitsLt_bf16_f32⟩,
     ⟨S2048x1024, truncf .bf16 (extractStridedSlice S2048x1024 ![0, 1024] w slices_S2048x19064_S2048x1024_0_1024) bitsLt_bf16_f32⟩,
     ⟨S2048x1024, truncf .bf16 (extractStridedSlice S2048x1024 ![0, 2048] w slices_S2048x19064_S2048x1024_0_2048) bitsLt_bf16_f32⟩,
     ⟨S2048x1024, truncf .bf16 (extractStridedSlice S2048x1024 ![0, 3080] w slices_S2048x19064_S2048x1024_0_3080) bitsLt_bf16_f32⟩,
     ⟨S2048x1024, truncf .bf16 (extractStridedSlice S2048x1024 ![0, 4104] w slices_S2048x19064_S2048x1024_0_4104) bitsLt_bf16_f32⟩,
     ⟨S2048x1024, truncf .bf16 (extractStridedSlice S2048x1024 ![0, 5640] w slices_S2048x19064_S2048x1024_0_5640) bitsLt_bf16_f32⟩,
     ⟨S2048x1024, truncf .bf16 (extractStridedSlice S2048x1024 ![0, 6744] w slices_S2048x19064_S2048x1024_0_6744) bitsLt_bf16_f32⟩,
     ⟨S2048x2048, truncf .bf16 (extractStridedSlice S2048x2048 ![0, 7768] w slices_S2048x19064_S2048x2048_0_7768) bitsLt_bf16_f32⟩,
     ⟨S2048x6144, truncf .bf16 (extractStridedSlice S2048x6144 ![0, 12920] w slices_S2048x19064_S2048x6144_0_12920) bitsLt_bf16_f32⟩,
     ⟨S2048x256, truncf .bf16 (extractStridedSlice S2048x256 ![0, 5128] w slices_S2048x19064_S2048x256_0_5128) bitsLt_bf16_f32⟩,
     ⟨S2048x256, truncf .bf16 (extractStridedSlice S2048x256 ![0, 5384] w slices_S2048x19064_S2048x256_0_5384) bitsLt_bf16_f32⟩,
     ⟨S2048x64, truncf .bf16 (extractStridedSlice S2048x64 ![0, 6664] w slices_S2048x19064_S2048x64_0_6664) bitsLt_bf16_f32⟩,
     ⟨S2048x8, truncf .bf16 (extractStridedSlice S2048x8 ![0, 3072] w slices_S2048x19064_S2048x8_0_3072) bitsLt_bf16_f32⟩,
     ⟨S2048x16, truncf .bf16 (extractStridedSlice S2048x16 ![0, 6728] w slices_S2048x19064_S2048x16_0_6728) bitsLt_bf16_f32⟩,
     ⟨S2048x32, truncf .bf16 (extractStridedSlice S2048x32 ![0, 12888] w slices_S2048x19064_S2048x32_0_12888) bitsLt_bf16_f32⟩] concatenates_S2048x3072_S2048x1024_S2048x1024_S2048x1024_S2048x1024_S2048x1024_S2048x1024_S2048x1024_S2048x2048_S2048x6144_S2048x256_S2048x256_S2048x64_S2048x8_S2048x16_S2048x32_S2048x19064_d1

/-- The packed weight at a column. -/
theorem packed_apply (w : FVec Ideal S2048x19064 .f32) (k : Fin 2048) (C : Fin 19064) :
    packed w (ix2 k C) = w (ix2 k (⟨source C.val, source_lt C.isLt⟩ : Fin 19064)) := by
  have hC := C.isLt
  unfold packed
  by_cases h0 : C.val < 3072
  · exact group2 _ _ 0 (by simp) (n := 3072) (o := 9816) (p := 0) w slices_S2048x19064_S2048x3072_0_9816 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_pos (by omega)])
  by_cases h1 : C.val < 4096
  · exact group2 _ _ 1 (by simp) (n := 1024) (o := 0) (p := 3072) w slices_S2048x19064_S2048x1024_0_0 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_pos (by omega)])
  by_cases h2 : C.val < 5120
  · exact group2 _ _ 2 (by simp) (n := 1024) (o := 1024) (p := 4096) w slices_S2048x19064_S2048x1024_0_1024 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_pos (by omega)])
  by_cases h3 : C.val < 6144
  · exact group2 _ _ 3 (by simp) (n := 1024) (o := 2048) (p := 5120) w slices_S2048x19064_S2048x1024_0_2048 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_pos (by omega)])
  by_cases h4 : C.val < 7168
  · exact group2 _ _ 4 (by simp) (n := 1024) (o := 3080) (p := 6144) w slices_S2048x19064_S2048x1024_0_3080 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_pos (by omega)])
  by_cases h5 : C.val < 8192
  · exact group2 _ _ 5 (by simp) (n := 1024) (o := 4104) (p := 7168) w slices_S2048x19064_S2048x1024_0_4104 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_pos (by omega)])
  by_cases h6 : C.val < 9216
  · exact group2 _ _ 6 (by simp) (n := 1024) (o := 5640) (p := 8192) w slices_S2048x19064_S2048x1024_0_5640 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_pos (by omega)])
  by_cases h7 : C.val < 10240
  · exact group2 _ _ 7 (by simp) (n := 1024) (o := 6744) (p := 9216) w slices_S2048x19064_S2048x1024_0_6744 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_pos (by omega)])
  by_cases h8 : C.val < 12288
  · exact group2 _ _ 8 (by simp) (n := 2048) (o := 7768) (p := 10240) w slices_S2048x19064_S2048x2048_0_7768 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_pos (by omega)])
  by_cases h9 : C.val < 18432
  · exact group2 _ _ 9 (by simp) (n := 6144) (o := 12920) (p := 12288) w slices_S2048x19064_S2048x6144_0_12920 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_pos (by omega)])
  by_cases h10 : C.val < 18688
  · exact group2 _ _ 10 (by simp) (n := 256) (o := 5128) (p := 18432) w slices_S2048x19064_S2048x256_0_5128 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_pos (by omega)])
  by_cases h11 : C.val < 18944
  · exact group2 _ _ 11 (by simp) (n := 256) (o := 5384) (p := 18688) w slices_S2048x19064_S2048x256_0_5384 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_pos (by omega)])
  by_cases h12 : C.val < 19008
  · exact group2 _ _ 12 (by simp) (n := 64) (o := 6664) (p := 18944) w slices_S2048x19064_S2048x64_0_6664 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_pos (by omega)])
  by_cases h13 : C.val < 19016
  · exact group2 _ _ 13 (by simp) (n := 8) (o := 3072) (p := 19008) w slices_S2048x19064_S2048x8_0_3072 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  by_cases h14 : C.val < 19032
  · exact group2 _ _ 14 (by simp) (n := 16) (o := 6728) (p := 19016) w slices_S2048x19064_S2048x16_0_6728 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  exact group2 _ _ 15 (by simp) (n := 32) (o := 12888) (p := 19032) w slices_S2048x19064_S2048x32_0_12888 rfl [S2048x3072, S2048x1024, S2048x1024, S2048x1024, S2048x1024, S2048x1024, S2048x1024, S2048x1024, S2048x2048, S2048x6144, S2048x256, S2048x256, S2048x64, S2048x8, S2048x16, S2048x32] rfl (by decide +kernel) k C _ (by omega) (by omega)
    (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)])

variable (m : (ℓ : Loc nD τ sig) → Buf (Elt Ideal) ℓ) (c : Dev nD)

/-- What the host operations leave in the packed weight's buffer. -/
theorem packed_buffer (k : Fin 2048) (C : Fin 19064) :
    StableHlo.upto hostOps0 (fun b => m (c, b)) 38 (Proc.tc.devRef main_v36) (ix2 k C)
      = packed (m ((c : Thread nD τ).loc main_arg4)) (ix2 k C) := by
  after_reads_simp
  dsimp only [Matrix.cons_val]
  after_reads_simp
  rfl

/-- The padded weight at a column: the packed weight's, and zero from column 19064. -/
theorem weight_apply (k : Fin 2048) (C : Fin 19200) : V (F := Ideal) m c main_v39 (ix2 k C)
    = (if h : C.val < 19064 then
        m ((c : Thread nD τ).loc main_arg4) (ix2 k (⟨source C.val, source_lt h⟩ : Fin 19064))
      else (0 : EReal) : EReal) := by
  unfold V
  after_reads_at
  by_cases h : C.val < 19064
  · rw [dif_pos (show C.val < 19072 by omega), dif_pos h, dif_pos h]
    exact (packed_buffer m c k ⟨C.val, h⟩).trans (packed_apply _ k ⟨C.val, h⟩)
  · rw [dif_neg h]
    by_cases h' : C.val < 19072
    · rw [dif_pos h', dif_neg h]
      after_reads_at
    · rw [dif_neg h']

end Kernel

end Cert.Proof.Inproj

end
-- ==== Proof.InprojArray.lean ====
/- The input projection: the blocks of a grid point, the rows it keeps, and what the array ends holding. -/
module

public import proofs.«01_k».proof.Proof.InprojBlock
public import proofs.«01_k».proof.Proof.InprojPack

@[expose] public section

set_option maxRecDepth 8192

noncomputable section

namespace Cert.Proof.Inproj

open Cert.InprojIdeal Cert.InprojIdeal.Gen Idealize.ShloMosaic Idealize.ShloMosaic.TcCoe Idealize.SL.Sem

/-- Entry `k` of row `R` of the two sequences put under one another, normalised, scaled and shifted. -/
def row (x : FVec Ideal S2x8192x2048 .f32) (nw : FVec Ideal S2048 .f32) (sc sh : FVec Ideal S2x2048 .f32)
    (R : Fin 16384) (k : Fin 2048) : EReal :=
  unit (fun l => x (ix3 (⟨R.val / 8192, by omega⟩ : Fin 2) (⟨R.val % 8192, by omega⟩ : Fin 8192) l))
    (fun l => nw (ix1 l)) (fun l => sc (ix2 (⟨R.val / 8192, by omega⟩ : Fin 2) l))
    (fun l => sh (ix2 (⟨R.val / 8192, by omega⟩ : Fin 2) l)) k

/-- An entry of the projection: the row's product with the weight's column, and zero in the padding columns. -/
def entry (x : FVec Ideal S2x8192x2048 .f32) (nw : FVec Ideal S2048 .f32) (sc sh : FVec Ideal S2x2048 .f32)
    (w : FVec Ideal S2048x19064 .f32) (R : Fin 16384) (C : Fin 19200) : EReal :=
  if h : C.val < 19064 then
    ∑ k : Fin 2048, row x nw sc sh R k * w (ix2 k (⟨source C.val, source_lt h⟩ : Fin 19064))
  else 0

/-! ## The blocks of a grid point -/

theorem hN : cfg0.N = 240 := N_0

theorem index0 : ∀ t : Fin grid0.N, win0_0.index t 0 = t.val / 15 ∧ win0_0.index t 1 = 0 := by decide +kernel

theorem index1 : ∀ t : Fin grid0.N, win0_1.index t 0 = 0 ∧ win0_1.index t 1 = 0 := by decide +kernel

theorem index2 : ∀ t : Fin grid0.N, win0_2.index t 0 = t.val / 15 / 8 ∧ win0_2.index t 1 = 0 ∧ win0_2.index t 2 = 0 := by
  decide +kernel

theorem index3 : ∀ t : Fin grid0.N, win0_3.index t 0 = t.val / 15 / 8 ∧ win0_3.index t 1 = 0 ∧ win0_3.index t 2 = 0 := by
  decide +kernel

theorem index4 : ∀ t : Fin grid0.N, win0_4.index t 0 = 0 ∧ win0_4.index t 1 = t.val % 15 := by decide +kernel

theorem index5 : ∀ t : Fin grid0.N, win0_5.index t 0 = t.val / 15 ∧ win0_5.index t 1 = t.val % 15 := by decide +kernel

variable (m : (ℓ : Loc nD τ sig) → Buf (Elt Ideal) ℓ) (c : Dev nD)

/-- The rows of a grid point. -/
theorem block0 (t : Fin cfg0.N) (r : Fin 1024) (k : Fin 2048) (R : Fin 16384) (hR : R.val = t.val / 15 * 1024 + r.val) :
    (iblk m c 0 t : Vec Ideal S1024x2048 .f32) (ix2 r k) = m ((c : Thread nD τ).loc main_arg0)
      (ix3 (⟨R.val / 8192, by omega⟩ : Fin 2) (⟨R.val % 8192, by omega⟩ : Fin 8192) k) := by
  have h : V (F := Ideal) m c main_v0 (ix2 R k) = m ((c : Thread nD τ).loc main_arg0)
      (ix3 (⟨R.val / 8192, by omega⟩ : Fin 2) (⟨R.val % 8192, by omega⟩ : Fin 8192) k) := by
    unfold V
    after_reads_at
  rw [← h]
  unfold iblk
  rw [View.read_apply]
  show V m c main_v0 _ = _
  refine congrArg (V m c main_v0) (funext fun a => Fin.ext ?_)
  match a with
  | ⟨0, _⟩ => show win0_0.index t 0 * 1024 + 1 * r.val = R.val; rw [(index0 t).1]; omega
  | ⟨1, _⟩ => show win0_0.index t 1 * 2048 + 1 * k.val = k.val; rw [(index0 t).2]; omega

/-- The normalisation's weight. -/
theorem block1 (t : Fin cfg0.N) (k : Fin 2048) :
    (iblk m c 1 t : Vec Ideal S1x2048 .f32) (ix2 (0 : Fin 1) k) = m ((c : Thread nD τ).loc main_arg1) (ix1 k) := by
  have h : V (F := Ideal) m c main_v40 (ix2 (0 : Fin 1) k) = m ((c : Thread nD τ).loc main_arg1) (ix1 k) := by
    unfold V
    after_reads_at
  rw [← h]
  unfold iblk
  rw [View.read_apply]
  show V m c main_v40 _ = _
  refine congrArg (V m c main_v40) (funext fun a => Fin.ext ?_)
  match a with
  | ⟨0, _⟩ => show win0_1.index t 0 * 1 + 1 * 0 = 0; rw [(index1 t).1]
  | ⟨1, _⟩ => show win0_1.index t 1 * 2048 + 1 * k.val = k.val; rw [(index1 t).2]; omega

/-- The scale of a grid point's sequence. -/
theorem block2 (t : Fin cfg0.N) (k : Fin 2048) (b : Fin 2) (hb : b.val = t.val / 15 / 8) :
    (iblk m c 2 t : Vec Ideal S1x1x2048 .f32) (ix3 (0 : Fin 1) (0 : Fin 1) k)
      = m ((c : Thread nD τ).loc main_arg2) (ix2 b k) := by
  have h : V (F := Ideal) m c main_v2 (ix3 b (0 : Fin 1) k) = m ((c : Thread nD τ).loc main_arg2) (ix2 b k) := by
    unfold V
    after_reads_at
  rw [← h]
  unfold iblk
  rw [View.read_apply]
  show V m c main_v2 _ = _
  refine congrArg (V m c main_v2) (funext fun a => Fin.ext ?_)
  match a with
  | ⟨0, _⟩ => show win0_2.index t 0 * 1 + 1 * 0 = b.val; rw [(index2 t).1]; omega
  | ⟨1, _⟩ => show win0_2.index t 1 * 1 + 1 * 0 = 0; rw [(index2 t).2.1]
  | ⟨2, _⟩ => show win0_2.index t 2 * 2048 + 1 * k.val = k.val; rw [(index2 t).2.2]; omega

/-- The shift of a grid point's sequence. -/
theorem block3 (t : Fin cfg0.N) (k : Fin 2048) (b : Fin 2) (hb : b.val = t.val / 15 / 8) :
    (iblk m c 3 t : Vec Ideal S1x1x2048 .f32) (ix3 (0 : Fin 1) (0 : Fin 1) k)
      = m ((c : Thread nD τ).loc main_arg3) (ix2 b k) := by
  have h : V (F := Ideal) m c main_v1 (ix3 b (0 : Fin 1) k) = m ((c : Thread nD τ).loc main_arg3) (ix2 b k) := by
    unfold V
    after_reads_at
  rw [← h]
  unfold iblk
  rw [View.read_apply]
  show V m c main_v1 _ = _
  refine congrArg (V m c main_v1) (funext fun a => Fin.ext ?_)
  match a with
  | ⟨0, _⟩ => show win0_3.index t 0 * 1 + 1 * 0 = b.val; rw [(index3 t).1]; omega
  | ⟨1, _⟩ => show win0_3.index t 1 * 1 + 1 * 0 = 0; rw [(index3 t).2.1]
  | ⟨2, _⟩ => show win0_3.index t 2 * 2048 + 1 * k.val = k.val; rw [(index3 t).2.2]; omega

/-- The padded weight's columns of a grid point. -/
theorem block4 (t : Fin cfg0.N) (k : Fin 2048) (d : Fin 1280) (C : Fin 19200) (hC : C.val = t.val % 15 * 1280 + d.val) :
    (iblk m c 4 t : Vec Ideal S2048x1280 .bf16) (ix2 k d)
      = (if h : C.val < 19064 then
          m ((c : Thread nD τ).loc main_arg4) (ix2 k (⟨source C.val, source_lt h⟩ : Fin 19064))
        else (0 : EReal) : EReal) := by
  rw [← weight_apply m c k C]
  unfold iblk
  rw [View.read_apply]
  show V m c main_v39 _ = _
  refine congrArg (V m c main_v39) (funext fun a => Fin.ext ?_)
  match a with
  | ⟨0, _⟩ => show win0_4.index t 0 * 2048 + 1 * k.val = k.val; rw [(index4 t).1]; omega
  | ⟨1, _⟩ => show win0_4.index t 1 * 1280 + 1 * d.val = C.val; rw [(index4 t).2]; omega

/-! ## The rows that are kept -/

/-- A row of the two sequences, normalised, from the arguments in memory. -/
def rowOf (R : Fin 16384) (k : Fin 2048) : EReal :=
  row (m ((c : Thread nD τ).loc main_arg0)) (m ((c : Thread nD τ).loc main_arg1)) (m ((c : Thread nD τ).loc main_arg2))
    (m ((c : Thread nD τ).loc main_arg3)) R k

/-- The normalised block of a grid point is its rows, normalised. -/
theorem block_apply (t : Fin cfg0.N) (r : Fin 1024) (k : Fin 2048) (R : Fin 16384) (hR : R.val = t.val / 15 * 1024 + r.val) :
    block (iblk m c 0 t) (iblk m c 1 t) (iblk m c 2 t) (iblk m c 3 t) (ix2 r k) = rowOf m c R k := by
  show unit (fun l => (iblk m c 0 t : Vec Ideal S1024x2048 .f32) (ix2 r l)) _ _ _ k = _
  have hb : (⟨R.val / 8192, by omega⟩ : Fin 2).val = t.val / 15 / 8 := by show R.val / 8192 = _; omega
  simp only [block0 m c t r _ R hR, block1 m c t, block2 m c t _ _ hb, block3 m c t _ _ hb]
  rfl

/-- The rows kept after a grid point are the row block's, normalised. -/
theorem kept : ∀ (n : ℕ) (hn : n < cfg0.N) (r : Fin 1024) (k : Fin 2048) (R : Fin 16384)
    (_ : R.val = n / 15 * 1024 + r.val), (outsAt0 m c n hn).2 (ix2 r k) = rowOf m c R k := by
  intro n
  induction n with
  | zero =>
    intro hn r k R hR
    rw [outsAt0_A m c ⟨0, hn⟩ rfl]
    dsimp only
    rw [kept_first]
    exact block_apply m c ⟨0, hn⟩ r k R hR
  | succ n ih =>
    intro hn r k R hR
    by_cases h0 : (n + 1) % 15 = 0
    · rw [outsAt0_A m c ⟨n + 1, hn⟩ h0]
      dsimp only
      rw [kept_first]
      exact block_apply m c ⟨n + 1, hn⟩ r k R hR
    · rw [outsAt0_B m c ⟨n + 1, hn⟩ h0]
      dsimp only
      rw [kept_later]
      exact ih (Nat.lt_of_succ_lt hn) r k R (by rw [hR]; omega)

/-! ## The array -/

/-- The result array. -/
def result : FVec Ideal S16384x19200 .f32 := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The product of the rows of a grid point and its columns, at an entry. -/
theorem product_apply_block (t : Fin cfg0.N) (u : Vec Ideal S1024x2048 .bf16) (r : Fin 1024) (d : Fin 1280)
    (R : Fin 16384) (C : Fin 19200) (hC : C.val = t.val % 15 * 1280 + d.val)
    (hu : ∀ k : Fin 2048, u (ix2 r k) = rowOf m c R k) :
    k0_pay2 (F := Ideal) u (iblk m c 4 t) (ix2 r d) = result m c (ix2 R C) := by
  rw [pay2_apply]
  simp only [hu, block4 m c t _ d C hC]
  show _ = entry _ _ _ _ _ R C
  unfold entry
  by_cases h : C.val < 19064
  · simp only [dif_pos h]; rfl
  · simp only [dif_neg h, mul_zero, Finset.sum_const_zero]

/-- What a grid point writes back, at an entry of its block. -/
theorem flushed_apply (t : Fin cfg0.N) (r : Fin 1024) (d : Fin 1280) (R : Fin 16384) (C : Fin 19200)
    (hR : R.val = t.val / 15 * 1024 + r.val) (hC : C.val = t.val % 15 * 1280 + d.val) :
    (dats m 0 c).flushed 5 t (ix2 r d) = result m c (ix2 R C) := by
  by_cases h0 : t.val % 15 = 0
  · rw [Value.flushed5_A m c t h0, out_first]
    exact product_apply_block m c t _ r d R C hC fun k => block_apply m c t r k R hR
  · rw [Value.flushed5_B m c t h0, out_later]
    refine product_apply_block m c t _ r d R C hC fun k => kept m c _ _ r k R ?_
    rw [hR]; omega

/-- A grid point writes back its block of the result. -/
theorem flushed_eq (t : Fin cfg0.N) (_ : (cfg0.win 5).flush t = true) :
    (dats m 0 c).flushed 5 t = ((cfg0.win 5).blk t).view.read (Elt Ideal) (result m c) := by
  have hlt : t.val < 240 := by have := t.isLt; have := hN; omega
  funext y
  rw [View.read_apply]
  obtain ⟨r, hr⟩ : ∃ r : Fin 1024, r = y 0 := ⟨y 0, rfl⟩
  obtain ⟨d, hd⟩ : ∃ d : Fin 1280, d = y 1 := ⟨y 1, rfl⟩
  have hy : y = ix2 r d := funext fun a => by
    match a with
    | ⟨0, _⟩ => exact hr.symm
    | ⟨1, _⟩ => exact hd.symm
  rw [hy]
  refine (flushed_apply m c t r d ⟨t.val / 15 * 1024 + r.val, by omega⟩ ⟨t.val % 15 * 1280 + d.val, by omega⟩ rfl rfl).trans ?_
  refine congrArg (result m c) (funext fun a => Fin.ext ?_)
  match a with
  | ⟨0, _⟩ => show _ = win0_5.index t 0 * 1024 + 1 * r.val; rw [(index5 t).1, one_mul]; rfl
  | ⟨1, _⟩ => show _ = win0_5.index t 1 * 1280 + 1 * d.val; rw [(index5 t).2, one_mul]; rfl

/-- So the array ends holding the result: the blocks cover it. -/
theorem final : (dats m 0 c).arrAt 5 cfg0.N = result m c :=
  (dats m 0 c).arrAt_eq_of_cover 5 _ (flushed_eq m c) fun i => by
    have h0 : (i 0 : Nat) < 16384 := (i 0).isLt
    have h1 : (i 1 : Nat) < 19200 := (i 1).isLt
    refine ⟨⟨(i 0).val / 1024 * 15 + (i 1).val / 1280, by rw [hN]; omega⟩, flush0_5 _, ?_⟩
    generalize hT : (⟨(i 0).val / 1024 * 15 + (i 1).val / 1280, _⟩ : Fin cfg0.N) = T
    have hv : T.val = (i 0).val / 1024 * 15 + (i 1).val / 1280 := by rw [← hT]
    show i ∈ ((View.whole main_v41).slice (win0_5.rect T)).set
    rw [View.set_slice_whole, Rect.mem_set_unit]
    intro a
    match a with
    | ⟨0, _⟩ =>
      show win0_5.index T 0 * 1024 ≤ (i 0 : Nat) ∧ (i 0 : Nat) < win0_5.index T 0 * 1024 + 1024
      rw [(index5 T).1]; omega
    | ⟨1, _⟩ =>
      show win0_5.index T 1 * 1280 ≤ (i 1 : Nat) ∧ (i 1 : Nat) < win0_5.index T 1 * 1280 + 1280
      rw [(index5 T).2]; omega

end Cert.Proof.Inproj

end
-- ==== Proof.InprojRef.lean ====
/- The input projection's reference: its sixteen slices of the product, joined in the packed order. -/
module

public import proofs.«01_k».proof.Proof.InprojBlock
public import proofs.«01_k».proof.Proof.InprojPack
public import proofs.«01_k».proof.Proof.Gen.InprojRefIdeal.Run

@[expose] public section

set_option maxRecDepth 8192

noncomputable section

namespace Cert.Proof.Inproj

open Idealize.ShloMosaic Idealize.ShloMosaic.TcCoe Idealize.SL.Sem

/-- One group of a concatenation of arrays with 19064 columns, read at a column of the group. -/
theorem group3 (xs : List ((s : Shape) × (s.Idx → EReal)))
    (h : Shape.Concatenates (xs.map (·.1)) (⟨3, ![2, 8192, 19064]⟩ : Shape) 2) (K : ℕ) (hK : K < xs.length) {n o p : ℕ}
    (w : (⟨3, ![2, 8192, 19064]⟩ : Shape).Idx → EReal)
    (hs : (⟨3, ![2, 8192, 19064]⟩ : Shape).Slices ![0, 0, o] (⟨3, ![2, 8192, n]⟩ : Shape))
    (hx : xs[K] = ⟨(⟨3, ![2, 8192, n]⟩ : Shape), extractStridedSlice (⟨3, ![2, 8192, n]⟩ : Shape) ![0, 0, o] w hs⟩)
    (ss : List Shape) (hss : xs.map (·.1) = ss)
    (hp : ((ss.take K).map fun s => if h : s.rank = 3 then s.size ((2 : Fin 3).cast h.symm) else 0).sum = p)
    (b : Fin 2) (t : Fin 8192) (C : Fin 19064) (D : Fin 19064) (hlo : p ≤ C.val) (hhi : C.val < p + n)
    (hD : D.val = o + (C.val - p)) :
    concatenate (⟨3, ![2, 8192, 19064]⟩ : Shape) 2 xs h (ix3 b t C) = w (ix3 b t D) := by
  rw [← hss, ← List.map_take] at hp
  refine (concatenate_apply_piece (t := (⟨3, ![2, 8192, 19064]⟩ : Shape)) 2 xs h (ix3 b t C) K hK _ _ hx rfl p hp
    (ix3 b t (⟨C.val - p, by omega⟩ : Fin n)) ?_ ?_).trans ?_
  · intro a ha
    match a with
    | ⟨0, _⟩ => rfl
    | ⟨1, _⟩ => rfl
    | ⟨2, _⟩ => exact absurd rfl ha
  · show p + (C.val - p) = C.val
    omega
  · refine congrArg w (funext fun a => Fin.ext ?_)
    match a with
    | ⟨0, _⟩ => show 0 + b.val = b.val; omega
    | ⟨1, _⟩ => show 0 + t.val = t.val; omega
    | ⟨2, _⟩ => show o + (C.val - p) = D.val; omega

open Cert.InprojRefIdeal Cert.InprojRefIdeal.Gen

/-- The reference's joined slices of a product `y`. -/
def joined (y : FVec Ideal S2x8192x19064 .f32) : FVec Ideal S2x8192x19064 .f32 :=
  concatenate S2x8192x19064 2
    [⟨S2x8192x3072, extractStridedSlice S2x8192x3072 ![0, 0, 9816] y slices_S2x8192x19064_S2x8192x3072_0_0_9816⟩,
     ⟨S2x8192x1024, extractStridedSlice S2x8192x1024 ![0, 0, 0] y slices_S2x8192x19064_S2x8192x1024_0_0_0⟩,
     ⟨S2x8192x1024, extractStridedSlice S2x8192x1024 ![0, 0, 1024] y slices_S2x8192x19064_S2x8192x1024_0_0_1024⟩,
     ⟨S2x8192x1024, extractStridedSlice S2x8192x1024 ![0, 0, 2048] y slices_S2x8192x19064_S2x8192x1024_0_0_2048⟩,
     ⟨S2x8192x1024, extractStridedSlice S2x8192x1024 ![0, 0, 3080] y slices_S2x8192x19064_S2x8192x1024_0_0_3080⟩,
     ⟨S2x8192x1024, extractStridedSlice S2x8192x1024 ![0, 0, 4104] y slices_S2x8192x19064_S2x8192x1024_0_0_4104⟩,
     ⟨S2x8192x1024, extractStridedSlice S2x8192x1024 ![0, 0, 5640] y slices_S2x8192x19064_S2x8192x1024_0_0_5640⟩,
     ⟨S2x8192x1024, extractStridedSlice S2x8192x1024 ![0, 0, 6744] y slices_S2x8192x19064_S2x8192x1024_0_0_6744⟩,
     ⟨S2x8192x2048, extractStridedSlice S2x8192x2048 ![0, 0, 7768] y slices_S2x8192x19064_S2x8192x2048_0_0_7768⟩,
     ⟨S2x8192x6144, extractStridedSlice S2x8192x6144 ![0, 0, 12920] y slices_S2x8192x19064_S2x8192x6144_0_0_12920⟩,
     ⟨S2x8192x256, extractStridedSlice S2x8192x256 ![0, 0, 5128] y slices_S2x8192x19064_S2x8192x256_0_0_5128⟩,
     ⟨S2x8192x256, extractStridedSlice S2x8192x256 ![0, 0, 5384] y slices_S2x8192x19064_S2x8192x256_0_0_5384⟩,
     ⟨S2x8192x64, extractStridedSlice S2x8192x64 ![0, 0, 6664] y slices_S2x8192x19064_S2x8192x64_0_0_6664⟩,
     ⟨S2x8192x8, extractStridedSlice S2x8192x8 ![0, 0, 3072] y slices_S2x8192x19064_S2x8192x8_0_0_3072⟩,
     ⟨S2x8192x16, extractStridedSlice S2x8192x16 ![0, 0, 6728] y slices_S2x8192x19064_S2x8192x16_0_0_6728⟩,
     ⟨S2x8192x32, extractStridedSlice S2x8192x32 ![0, 0, 12888] y slices_S2x8192x19064_S2x8192x32_0_0_12888⟩] concatenates_S2x8192x3072_S2x8192x1024_S2x8192x1024_S2x8192x1024_S2x8192x1024_S2x8192x1024_S2x8192x1024_S2x8192x1024_S2x8192x2048_S2x8192x6144_S2x8192x256_S2x8192x256_S2x8192x64_S2x8192x8_S2x8192x16_S2x8192x32_S2x8192x19064_d2

/-- The joined slices at a column. -/
theorem joined_apply (y : FVec Ideal S2x8192x19064 .f32) (b : Fin 2) (t : Fin 8192) (C : Fin 19064) :
    joined y (ix3 b t C) = y (ix3 b t (⟨source C.val, source_lt C.isLt⟩ : Fin 19064)) := by
  have hC := C.isLt
  unfold joined
  by_cases h0 : C.val < 3072
  · exact group3 _ _ 0 (by simp) (n := 3072) (o := 9816) (p := 0) y slices_S2x8192x19064_S2x8192x3072_0_0_9816 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_pos (by omega)])
  by_cases h1 : C.val < 4096
  · exact group3 _ _ 1 (by simp) (n := 1024) (o := 0) (p := 3072) y slices_S2x8192x19064_S2x8192x1024_0_0_0 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_pos (by omega)])
  by_cases h2 : C.val < 5120
  · exact group3 _ _ 2 (by simp) (n := 1024) (o := 1024) (p := 4096) y slices_S2x8192x19064_S2x8192x1024_0_0_1024 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_pos (by omega)])
  by_cases h3 : C.val < 6144
  · exact group3 _ _ 3 (by simp) (n := 1024) (o := 2048) (p := 5120) y slices_S2x8192x19064_S2x8192x1024_0_0_2048 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_pos (by omega)])
  by_cases h4 : C.val < 7168
  · exact group3 _ _ 4 (by simp) (n := 1024) (o := 3080) (p := 6144) y slices_S2x8192x19064_S2x8192x1024_0_0_3080 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_pos (by omega)])
  by_cases h5 : C.val < 8192
  · exact group3 _ _ 5 (by simp) (n := 1024) (o := 4104) (p := 7168) y slices_S2x8192x19064_S2x8192x1024_0_0_4104 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_pos (by omega)])
  by_cases h6 : C.val < 9216
  · exact group3 _ _ 6 (by simp) (n := 1024) (o := 5640) (p := 8192) y slices_S2x8192x19064_S2x8192x1024_0_0_5640 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_pos (by omega)])
  by_cases h7 : C.val < 10240
  · exact group3 _ _ 7 (by simp) (n := 1024) (o := 6744) (p := 9216) y slices_S2x8192x19064_S2x8192x1024_0_0_6744 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_pos (by omega)])
  by_cases h8 : C.val < 12288
  · exact group3 _ _ 8 (by simp) (n := 2048) (o := 7768) (p := 10240) y slices_S2x8192x19064_S2x8192x2048_0_0_7768 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_pos (by omega)])
  by_cases h9 : C.val < 18432
  · exact group3 _ _ 9 (by simp) (n := 6144) (o := 12920) (p := 12288) y slices_S2x8192x19064_S2x8192x6144_0_0_12920 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_pos (by omega)])
  by_cases h10 : C.val < 18688
  · exact group3 _ _ 10 (by simp) (n := 256) (o := 5128) (p := 18432) y slices_S2x8192x19064_S2x8192x256_0_0_5128 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_pos (by omega)])
  by_cases h11 : C.val < 18944
  · exact group3 _ _ 11 (by simp) (n := 256) (o := 5384) (p := 18688) y slices_S2x8192x19064_S2x8192x256_0_0_5384 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_pos (by omega)])
  by_cases h12 : C.val < 19008
  · exact group3 _ _ 12 (by simp) (n := 64) (o := 6664) (p := 18944) y slices_S2x8192x19064_S2x8192x64_0_0_6664 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_pos (by omega)])
  by_cases h13 : C.val < 19016
  · exact group3 _ _ 13 (by simp) (n := 8) (o := 3072) (p := 19008) y slices_S2x8192x19064_S2x8192x8_0_0_3072 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  by_cases h14 : C.val < 19032
  · exact group3 _ _ 14 (by simp) (n := 16) (o := 6728) (p := 19016) y slices_S2x8192x19064_S2x8192x16_0_0_6728 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
      (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])
  exact group3 _ _ 15 (by simp) (n := 32) (o := 12888) (p := 19032) y slices_S2x8192x19064_S2x8192x32_0_0_12888 rfl [S2x8192x3072, S2x8192x1024, S2x8192x1024, S2x8192x1024, S2x8192x1024, S2x8192x1024, S2x8192x1024, S2x8192x1024, S2x8192x2048, S2x8192x6144, S2x8192x256, S2x8192x256, S2x8192x64, S2x8192x8, S2x8192x16, S2x8192x32] rfl (by decide +kernel) b t C _ (by omega) (by omega)
    (by show source C.val = _; unfold source; rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)])

/-- The normalised rows, scaled and shifted. -/
def normed (x : FVec Ideal S2x8192x2048 .f32) (nw : FVec Ideal S2048 .f32) (sc sh : FVec Ideal S2x2048 .f32) :
    FVec Ideal S2x8192x2048 .f32 :=
  addf (mulf (mulf (mulf x (broadcastInDim S2x8192x2048 ![0, 1, 2] bcast_S2x8192x1_S2x8192x2048_0_1_2
    (Host.rsqrt (addf (Host.divf (broadcastInDim S2x8192x1 ![0, 1] bcast_S2x8192_S2x8192x1_0_1
        (Host.reduceAdd (mulf x x) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2
      (broadcastInDim S1x1x2048 ![2] bcast_S2048_S1x1x2048_2 nw)))
    (broadcastInDim S2x8192x2048 ![0, 1, 2] bcast_S2x1x2048_S2x8192x2048_0_1_2
      (addf (broadcastInDim S2x1x2048 ![] bcast_S_S2x1x2048 (constant S_ .f32 0x3F800000#32))
        (broadcastInDim S2x1x2048 ![0, 2] bcast_S2x2048_S2x1x2048_0_2 sc))))
    (broadcastInDim S2x8192x2048 ![0, 1, 2] bcast_S2x1x2048_S2x8192x2048_0_1_2
      (broadcastInDim S2x1x2048 ![0, 2] bcast_S2x2048_S2x1x2048_0_2 sh))

/-- The normalised rows at an entry. -/
theorem normed_apply (x : FVec Ideal S2x8192x2048 .f32) (nw : FVec Ideal S2048 .f32) (sc sh : FVec Ideal S2x2048 .f32)
    (b : Fin 2) (t : Fin 8192) (k : Fin 2048) :
    normed x nw sc sh (ix3 b t k) = unit (fun l => x (ix3 b t l)) (fun l => nw (ix1 l)) (fun l => sc (ix2 b l))
      (fun l => sh (ix2 b l)) k := by
  pointwise [normed]
  rfl

/-- The product of the normalised rows and the weight. -/
def product (u : FVec Ideal S2x8192x2048 .f32) (w : FVec Ideal S2048x19064 .f32) : FVec Ideal S2x8192x19064 .f32 :=
  Host.dotGeneral dot_S2x8192x2048_S2048x19064_S2x8192x19064_2_0_01_1_n_n none u w

theorem product_apply (u : FVec Ideal S2x8192x2048 .f32) (w : FVec Ideal S2048x19064 .f32) (b : Fin 2) (t : Fin 8192)
    (C : Fin 19064) : product u w (ix3 b t C) = ∑ k : Fin 2048, u (ix3 b t k) * w (ix2 k C) := by
  pointwise [product]

/-- Columns of zeros appended, and the rows of the two sequences put under one another. -/
def padded (z : FVec Ideal S2x8192x19064 .f32) : FVec Ideal S16384x19200 .f32 :=
  shapeCast S16384x19200 (concatenate S2x8192x19200 2
    [⟨S2x8192x19064, z⟩, ⟨S2x8192x136, broadcastInDim S2x8192x136 ![] bcast_S_S2x8192x136 (constant S_ .f32 0x00000000#32)⟩]
    concatenates_S2x8192x19064_S2x8192x136_S2x8192x19200_d2) shapeCasts_S2x8192x19200_S16384x19200

theorem padded_apply (z : FVec Ideal S2x8192x19064 .f32) (R : Fin 16384) (C : Fin 19200) :
    padded z (ix2 R C) = if h : C.val < 19064 then
      z (ix3 (⟨R.val / 8192, by omega⟩ : Fin 2) (⟨R.val % 8192, by omega⟩ : Fin 8192) (⟨C.val, h⟩ : Fin 19064)) else 0 := by
  pointwise [padded]

/-- The reference's result is these pieces, one after the other. -/
theorem result_eq (m : (ℓ : Loc nD τ sig) → Buf (Elt Ideal) ℓ) (c : Dev nD) :
    Cert.InprojRefIdeal.Value.res_main_v41 (F := Ideal) m c = padded (joined (product
      (normed (m ((c : Thread nD τ).loc main_arg0)) (m ((c : Thread nD τ).loc main_arg1)) (m ((c : Thread nD τ).loc main_arg2))
        (m ((c : Thread nD τ).loc main_arg3))) (m ((c : Thread nD τ).loc main_arg4)))) := by
  unfold Cert.InprojRefIdeal.Value.res_main_v41
  rfl

end Cert.Proof.Inproj

end
-- ==== Proof.InprojClaims.lean ====
/- The claims about the input projection. -/
module

public import proofs.«01_k».proof.Defs
public import proofs.«01_k».proof.Proof.InprojArray
public import proofs.«01_k».proof.Proof.InprojRef
public import proofs.«01_k».proof.Proof.Gen.Inproj.Frame
public import Idealize.ShloMosaic.Adequacy

@[expose] public section

noncomputable section

namespace Cert.Proof.Inproj

open Idealize.ShloMosaic Idealize.ShloMosaic.TcCoe Idealize.SL.Sem

theorem frame_p : Cert.quiescent_Inproj := fun m ρ _ => Cert.Inproj.Gen.frame m ρ

theorem frame_pi : Cert.quiescent_InprojIdeal := fun m ρ _ => Cert.InprojIdeal.Gen.frame m ρ

/-- The reference runs, keeps its arguments and has no semaphores. -/
theorem frame_ri : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

open Cert.InprojRefIdeal in
/-- The reference's result at an entry. -/
theorem reference_apply (x : FVec Ideal S2x8192x2048 .f32) (nw : FVec Ideal S2048 .f32) (sc sh : FVec Ideal S2x2048 .f32)
    (w : FVec Ideal S2048x19064 .f32) (R : Fin 16384) (C : Fin 19200) :
    padded (joined (product (normed x nw sc sh) w)) (ix2 R C) = entry x nw sc sh w R C := by
  rw [padded_apply]
  unfold entry
  by_cases h : C.val < 19064
  · rw [dif_pos h, dif_pos h, joined_apply, product_apply]
    exact Finset.sum_congr rfl fun k _ => congrArg (· * _) (normed_apply x nw sc sh _ _ k)
  · rw [dif_neg h, dif_neg h]

/-- The kernel's array and the reference's are the same function of the arguments. -/
theorem algebraic : Cert.algebraic_InprojIdeal_InprojRefIdeal := by
  intro m g m' g' _ hagree
  refine ⟨fun c => (Cert.InprojIdeal.Gen.dats m 0 c).arrAt 5 Cert.InprojIdeal.cfg0.N,
    Cert.InprojIdeal.Value.run_blocks m g, ?_⟩
  refine (θ_run Cert.InprojRefIdeal.defs _ _).mono (fun _ h c => ⟨(h c).1.trans ?_, (h c).2⟩)
    (Cert.InprojRefIdeal.Value.run (F := Ideal) m' g')
  obtain ⟨a0, a1, a2, a3, a4⟩ := hagree c
  refine Eq.trans ?_ (final m c).symm
  rw [result_eq, a0, a1, a2, a3, a4]
  funext i
  obtain ⟨r, hr⟩ : ∃ r : Fin 16384, r = i 0 := ⟨i 0, rfl⟩
  obtain ⟨d, hd⟩ : ∃ d : Fin 19200, d = i 1 := ⟨i 1, rfl⟩
  have hi : i = ix2 r d := funext fun a => by
    match a with
    | ⟨0, _⟩ => exact hr.symm
    | ⟨1, _⟩ => exact hd.symm
  rw [hi]
  exact reference_apply _ _ _ _ _ r d

end Cert.Proof.Inproj

end
-- ==== Proof.MergeArray.lean ====
/- The branch merge: what a grid point computes from its blocks, and what the array ends holding. -/
module

public import proofs.«01_k».proof.Proof.Gen.MergeIdeal.Value
public import Idealize.ShloMosaic.Lib.Pipeline.Value
public import Idealize.ShloMosaic.Lib.Pipeline.Kit
public import Idealize.ShloMosaic.Lib.VecWindow
public import Idealize.ShloMosaic.Lib.Pointwise
public import Idealize.ShloMosaic.Lib.StableHlo.ReadAt

@[expose] public section

set_option maxRecDepth 8192

noncomputable section

namespace Cert.Proof.Merge

open Cert.MergeIdeal Cert.MergeIdeal.Gen Idealize.ShloMosaic Idealize.ShloMosaic.TcCoe Idealize.SL.Sem

/-- The three branches' projections of a row, each weighted by the logistic of its own gate, added up. The gates of
    branch `n` are the 2048 columns of `g` from column `12288 + 2048 n`, with row `n` of `z` added. -/
def entry (y0 y1 : FVec Ideal S16384x1024 .bf16) (y2 : FVec Ideal S16384x2048 .bf16) (w0 w1 : FVec Ideal S1024x2048 .f32)
    (w2 : FVec Ideal S2048x2048 .f32) (g : FVec Ideal S16384x19200 .f32) (z : FVec Ideal S3x2048 .f32)
    (r : Fin 16384) (c : Fin 2048) : EReal :=
  Ideal.logistic (g (ix2 r (⟨12288 + c.val, by omega⟩ : Fin 19200)) + z (ix2 (0 : Fin 3) c))
      * ∑ k : Fin 1024, y0 (ix2 r k) * w0 (ix2 k c)
    + Ideal.logistic (g (ix2 r (⟨14336 + c.val, by omega⟩ : Fin 19200)) + z (ix2 (1 : Fin 3) c))
      * ∑ k : Fin 1024, y1 (ix2 r k) * w1 (ix2 k c)
    + Ideal.logistic (g (ix2 r (⟨16384 + c.val, by omega⟩ : Fin 19200)) + z (ix2 (2 : Fin 3) c))
      * ∑ k : Fin 2048, y2 (ix2 r k) * w2 (ix2 k c)

/-- One block of the body at an index. -/
theorem pay_apply (y0 y1 : Vec Ideal S512x1024 .bf16) (y2 : Vec Ideal S512x2048 .bf16) (w0 w1 : Vec Ideal S1024x1024 .bf16)
    (w2 : Vec Ideal S2048x1024 .bf16) (g0 g1 g2 : Vec Ideal S512x1024 .f32) (z0 z1 z2 : Vec Ideal S1x1024 .f32)
    (r : Fin 512) (c : Fin 1024) :
    k0_pay1 (F := Ideal) (k0_pay2 y0 w0 y1 w1 g0 z0 g1 z1) (k0_pay3 y2 w2 g2 z2) (ix2 r c)
      = Ideal.logistic (g0 (ix2 r c) + z0 (ix2 (0 : Fin 1) c)) * ∑ k : Fin 1024, y0 (ix2 r k) * w0 (ix2 k c)
        + Ideal.logistic (g1 (ix2 r c) + z1 (ix2 (0 : Fin 1) c)) * ∑ k : Fin 1024, y1 (ix2 r k) * w1 (ix2 k c)
        + Ideal.logistic (g2 (ix2 r c) + z2 (ix2 (0 : Fin 1) c)) * ∑ k : Fin 2048, y2 (ix2 r k) * w2 (ix2 k c) := by
  pointwise [k0_pay1, k0_pay2, k0_pay3]

theorem zero2 : (![0, 0] : Fin 2 → ℕ) = fun _ => 0 := funext fun n => by revert n; decide

/-- Row `n` of the three bias rows, loaded alone. -/
theorem row_apply (z : Vec Ideal S3x1024 .f32) (n : ℕ) (hn : n < 3)
    (inb : ∀ a, (![n, 0] : Fin 2 → ℕ) a + S1x1024.size a ≤ S3x1024.size a) (c : Fin 1024) :
    View.ld z (Rect.unit (s := S3x1024) ![n, 0] S1x1024.size inb) (ix2 (0 : Fin 1) c)
      = z (ix2 (⟨n, hn⟩ : Fin 3) c) := by
  refine congrArg z (funext fun a => Fin.ext ?_)
  match a with
  | ⟨0, _⟩ => show n + 1 * 0 = n; omega
  | ⟨1, _⟩ => show 0 + 1 * c.val = c.val; omega

/-- What a body leaves in the output block. -/
theorem out_apply (c : Dev nD) (i : grid0.Coords)
    (arg2 : Memref sig .tc .vmem S512x1024 .bf16) (harg2 : arg2.IsWhole) (arg3 : Memref sig .tc .vmem S512x1024 .bf16)
    (harg3 : arg3.IsWhole) (arg4 : Memref sig .tc .vmem S512x2048 .bf16) (harg4 : arg4.IsWhole)
    (arg5 : Memref sig .tc .vmem S1024x1024 .bf16) (harg5 : arg5.IsWhole) (arg6 : Memref sig .tc .vmem S1024x1024 .bf16)
    (harg6 : arg6.IsWhole) (arg7 : Memref sig .tc .vmem S2048x1024 .bf16) (harg7 : arg7.IsWhole)
    (arg8 : Memref sig .tc .vmem S512x1024 .f32) (harg8 : arg8.IsWhole) (arg9 : Memref sig .tc .vmem S512x1024 .f32)
    (harg9 : arg9.IsWhole) (arg10 : Memref sig .tc .vmem S512x1024 .f32) (harg10 : arg10.IsWhole)
    (arg11 : Memref sig .tc .vmem S3x1024 .f32) (harg11 : arg11.IsWhole) (arg12 : Memref sig .tc .vmem S512x1024 .bf16)
    (harg12 : arg12.IsWhole)
    (y0 y1 : Vec Ideal S512x1024 .bf16) (y2 : Vec Ideal S512x2048 .bf16) (w0 w1 : Vec Ideal S1024x1024 .bf16)
    (w2 : Vec Ideal S2048x1024 .bf16) (g0 g1 g2 : Vec Ideal S512x1024 .f32) (z : Vec Ideal S3x1024 .f32)
    (r : Fin 512) (d : Fin 1024) :
    out0_A_10 (F := Ideal) c i arg2 harg2 arg3 harg3 arg4 harg4 arg5 harg5 arg6 harg6 arg7 harg7 arg8 harg8 arg9 harg9
        arg10 harg10 arg11 harg11 arg12 harg12 y0 y1 y2 w0 w1 w2 g0 g1 g2 z (ix2 r d)
      = Ideal.logistic (g0 (ix2 r d) + z (ix2 (0 : Fin 3) d)) * ∑ k : Fin 1024, y0 (ix2 r k) * w0 (ix2 k d)
        + Ideal.logistic (g1 (ix2 r d) + z (ix2 (1 : Fin 3) d)) * ∑ k : Fin 1024, y1 (ix2 r k) * w1 (ix2 k d)
        + Ideal.logistic (g2 (ix2 r d) + z (ix2 (2 : Fin 3) d)) * ∑ k : Fin 2048, y2 (ix2 r k) * w2 (ix2 k d) := by
  unfold out0_A_10
  rw [View.read_writes_eq_canon _ _ _ (cover0_A_10 c i arg2 harg2 arg3 harg3 arg4 harg4 arg5 harg5 arg6 harg6 arg7 harg7
    arg8 harg8 arg9 harg9 arg10 harg10 arg11 harg11 arg12 harg12 y0 y1 y2 w0 w1 w2 g0 g1 g2 z)]
  unfold kernelRun0_A
  dsimp only
  rw [View.canon_unit_zero zero2]
  unfold kernelRun0_A.sl.r kernelRun0_A.sl.r_1
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S512x1024) zero2, View.ld_unit_zero (S := S1024x1024) zero2,
    View.ld_unit_zero (S := S512x2048) zero2, View.ld_unit_zero (S := S2048x1024) zero2]
  rw [pay_apply]
  rw [row_apply z 0 (by omega), row_apply z 1 (by omega), row_apply z 2 (by omega)]
  rfl

/-! ## The blocks of a grid point -/

theorem hN : cfg0.N = 64 := N_0

theorem index0 : ∀ t : Fin grid0.N, win0_0.index t 0 = t.val % 32 ∧ win0_0.index t 1 = 0 := by decide +kernel

theorem index1 : ∀ t : Fin grid0.N, win0_1.index t 0 = t.val % 32 ∧ win0_1.index t 1 = 0 := by decide +kernel

theorem index2 : ∀ t : Fin grid0.N, win0_2.index t 0 = t.val % 32 ∧ win0_2.index t 1 = 0 := by decide +kernel

theorem index3 : ∀ t : Fin grid0.N, win0_3.index t 0 = 0 ∧ win0_3.index t 1 = t.val / 32 := by decide +kernel

theorem index4 : ∀ t : Fin grid0.N, win0_4.index t 0 = 0 ∧ win0_4.index t 1 = t.val / 32 := by decide +kernel

theorem index5 : ∀ t : Fin grid0.N, win0_5.index t 0 = 0 ∧ win0_5.index t 1 = t.val / 32 := by decide +kernel

theorem index6 : ∀ t : Fin grid0.N, win0_6.index t 0 = t.val % 32 ∧ win0_6.index t 1 = 12 + t.val / 32 := by decide +kernel

theorem index7 : ∀ t : Fin grid0.N, win0_7.index t 0 = t.val % 32 ∧ win0_7.index t 1 = 14 + t.val / 32 := by decide +kernel

theorem index8 : ∀ t : Fin grid0.N, win0_8.index t 0 = t.val % 32 ∧ win0_8.index t 1 = 16 + t.val / 32 := by decide +kernel

theorem index9 : ∀ t : Fin grid0.N, win0_9.index t 0 = 0 ∧ win0_9.index t 1 = t.val / 32 := by decide +kernel

theorem index10 : ∀ t : Fin grid0.N, win0_10.index t 0 = t.val % 32 ∧ win0_10.index t 1 = t.val / 32 := by decide +kernel

variable (m : (ℓ : Loc nD τ sig) → Buf (Elt Ideal) ℓ) (c : Dev nD)

/-- The first branch's rows of a grid point. -/
theorem block0 (t : Fin cfg0.N) (r : Fin 512) (k : Fin 1024) (R : Fin 16384) (hR : R.val = t.val % 32 * 512 + r.val) :
    (iblk m c 0 t : Vec Ideal S512x1024 .bf16) (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = R.val; rw [(index0 t).1]; omega
  | ⟨1, _⟩ => show win0_0.index t 1 * 1024 + 1 * k.val = k.val; rw [(index0 t).2]; omega

/-- The second branch's rows of a grid point. -/
theorem block1 (t : Fin cfg0.N) (r : Fin 512) (k : Fin 1024) (R : Fin 16384) (hR : R.val = t.val % 32 * 512 + r.val) :
    (iblk m c 1 t : Vec Ideal S512x1024 .bf16) (ix2 r k) = m ((c : Thread nD τ).loc main_arg1) (ix2 R k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = R.val; rw [(index1 t).1]; omega
  | ⟨1, _⟩ => show win0_1.index t 1 * 1024 + 1 * k.val = k.val; rw [(index1 t).2]; omega

/-- The third branch's rows of a grid point. -/
theorem block2 (t : Fin cfg0.N) (r : Fin 512) (k : Fin 2048) (R : Fin 16384) (hR : R.val = t.val % 32 * 512 + r.val) :
    (iblk m c 2 t : Vec Ideal S512x2048 .bf16) (ix2 r k) = m ((c : Thread nD τ).loc main_arg2) (ix2 R k) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = R.val; rw [(index2 t).1]; omega
  | ⟨1, _⟩ => show win0_2.index t 1 * 2048 + 1 * k.val = k.val; rw [(index2 t).2]; omega

/-- The first weight's columns of a grid point. -/
theorem block3 (t : Fin cfg0.N) (k : Fin 1024) (d : Fin 1024) (C : Fin 2048) (hC : C.val = t.val / 32 * 1024 + d.val) :
    (iblk m c 3 t : Vec Ideal S1024x1024 .bf16) (ix2 k d) = m ((c : Thread nD τ).loc main_arg3) (ix2 k C) := by
  have h : V (F := Ideal) m c main_v0 (ix2 k C) = m ((c : Thread nD τ).loc main_arg3) (ix2 k C) := by
    unfold V
    after_reads_at
  rw [← h]
  unfold iblk
  rw [View.read_apply]
  show V m c main_v0 _ = _
  refine congrArg (V m c main_v0) (funext fun a => Fin.ext ?_)
  match a with
  | ⟨0, _⟩ => show win0_3.index t 0 * 1024 + 1 * k.val = k.val; rw [(index3 t).1]; omega
  | ⟨1, _⟩ => show win0_3.index t 1 * 1024 + 1 * d.val = C.val; rw [(index3 t).2]; omega

/-- The second weight's columns of a grid point. -/
theorem block4 (t : Fin cfg0.N) (k : Fin 1024) (d : Fin 1024) (C : Fin 2048) (hC : C.val = t.val / 32 * 1024 + d.val) :
    (iblk m c 4 t : Vec Ideal S1024x1024 .bf16) (ix2 k d) = m ((c : Thread nD τ).loc main_arg4) (ix2 k C) := by
  have h : V (F := Ideal) m c main_v1 (ix2 k C) = m ((c : Thread nD τ).loc main_arg4) (ix2 k C) := by
    unfold V
    after_reads_at
  rw [← h]
  unfold iblk
  rw [View.read_apply]
  show V m c main_v1 _ = _
  refine congrArg (V m c main_v1) (funext fun a => Fin.ext ?_)
  match a with
  | ⟨0, _⟩ => show win0_4.index t 0 * 1024 + 1 * k.val = k.val; rw [(index4 t).1]; omega
  | ⟨1, _⟩ => show win0_4.index t 1 * 1024 + 1 * d.val = C.val; rw [(index4 t).2]; omega

/-- The third weight's columns of a grid point. -/
theorem block5 (t : Fin cfg0.N) (k : Fin 2048) (d : Fin 1024) (C : Fin 2048) (hC : C.val = t.val / 32 * 1024 + d.val) :
    (iblk m c 5 t : Vec Ideal S2048x1024 .bf16) (ix2 k d) = m ((c : Thread nD τ).loc main_arg5) (ix2 k C) := by
  have h : V (F := Ideal) m c main_v2 (ix2 k C) = m ((c : Thread nD τ).loc main_arg5) (ix2 k C) := by
    unfold V
    after_reads_at
  rw [← h]
  unfold iblk
  rw [View.read_apply]
  show V m c main_v2 _ = _
  refine congrArg (V m c main_v2) (funext fun a => Fin.ext ?_)
  match a with
  | ⟨0, _⟩ => show win0_5.index t 0 * 2048 + 1 * k.val = k.val; rw [(index5 t).1]; omega
  | ⟨1, _⟩ => show win0_5.index t 1 * 1024 + 1 * d.val = C.val; rw [(index5 t).2]; omega

/-- The first branch's gates of a grid point. -/
theorem block6 (t : Fin cfg0.N) (r : Fin 512) (d : Fin 1024) (R : Fin 16384) (C : Fin 19200)
    (hR : R.val = t.val % 32 * 512 + r.val) (hC : C.val = 12288 + (t.val / 32 * 1024 + d.val)) :
    (X0_6 m c t : Vec Ideal S512x1024 .f32) (ix2 r d) = m ((c : Thread nD τ).loc main_arg6) (ix2 R C) := by
  unfold X0_6 Pipeline.Window.fill
  rw [dif_pos (moved0_6 t (ix2 r d))]
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t 0 * 512 + 1 * r.val = R.val; rw [(index6 t).1]; omega
  | ⟨1, _⟩ => show win0_6.index t 1 * 1024 + 1 * d.val = C.val; rw [(index6 t).2]; omega

/-- The second branch's gates of a grid point. -/
theorem block7 (t : Fin cfg0.N) (r : Fin 512) (d : Fin 1024) (R : Fin 16384) (C : Fin 19200)
    (hR : R.val = t.val % 32 * 512 + r.val) (hC : C.val = 14336 + (t.val / 32 * 1024 + d.val)) :
    (X0_7 m c t : Vec Ideal S512x1024 .f32) (ix2 r d) = m ((c : Thread nD τ).loc main_arg6) (ix2 R C) := by
  unfold X0_7 Pipeline.Window.fill
  rw [dif_pos (moved0_7 t (ix2 r d))]
  unfold iblk
  rw [View.read_apply]
  show V m c main_arg6 _ = _
  rw [V_main_arg6]
  refine congrArg (m ((c : Thread nD τ).loc main_arg6)) (funext fun a => Fin.ext ?_)
  match a with
  | ⟨0, _⟩ => show win0_7.index t 0 * 512 + 1 * r.val = R.val; rw [(index7 t).1]; omega
  | ⟨1, _⟩ => show win0_7.index t 1 * 1024 + 1 * d.val = C.val; rw [(index7 t).2]; omega

/-- The third branch's gates of a grid point. -/
theorem block8 (t : Fin cfg0.N) (r : Fin 512) (d : Fin 1024) (R : Fin 16384) (C : Fin 19200)
    (hR : R.val = t.val % 32 * 512 + r.val) (hC : C.val = 16384 + (t.val / 32 * 1024 + d.val)) :
    (X0_8 m c t : Vec Ideal S512x1024 .f32) (ix2 r d) = m ((c : Thread nD τ).loc main_arg6) (ix2 R C) := by
  unfold X0_8 Pipeline.Window.fill
  rw [dif_pos (moved0_8 t (ix2 r d))]
  unfold iblk
  rw [View.read_apply]
  show V m c main_arg6 _ = _
  rw [V_main_arg6]
  refine congrArg (m ((c : Thread nD τ).loc main_arg6)) (funext fun a => Fin.ext ?_)
  match a with
  | ⟨0, _⟩ => show win0_8.index t 0 * 512 + 1 * r.val = R.val; rw [(index8 t).1]; omega
  | ⟨1, _⟩ => show win0_8.index t 1 * 1024 + 1 * d.val = C.val; rw [(index8 t).2]; omega

/-- The bias columns of a grid point. -/
theorem block9 (t : Fin cfg0.N) (n : Fin 3) (d : Fin 1024) (C : Fin 2048) (hC : C.val = t.val / 32 * 1024 + d.val) :
    (iblk m c 9 t : Vec Ideal S3x1024 .f32) (ix2 n d) = m ((c : Thread nD τ).loc main_arg7) (ix2 n C) := by
  unfold iblk
  rw [View.read_apply]
  show V m c main_arg7 _ = _
  rw [V_main_arg7]
  refine congrArg (m ((c : Thread nD τ).loc main_arg7)) (funext fun a => Fin.ext ?_)
  match a with
  | ⟨0, _⟩ => show win0_9.index t 0 * 3 + 1 * n.val = n.val; rw [(index9 t).1]; omega
  | ⟨1, _⟩ => show win0_9.index t 1 * 1024 + 1 * d.val = C.val; rw [(index9 t).2]; omega

/-! ## The array -/

/-- The result array. -/
def result : FVec Ideal S16384x2048 .bf16 := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- What a grid point writes back, at an entry of its block. -/
theorem flushed_apply (t : Fin cfg0.N) (r : Fin 512) (d : Fin 1024) (R : Fin 16384) (C : Fin 2048)
    (hR : R.val = t.val % 32 * 512 + r.val) (hC : C.val = t.val / 32 * 1024 + d.val) :
    (dats m 0 c).flushed 10 t (ix2 r d) = result m c (ix2 R C) := by
  rw [Value.flushed10_A]
  have hx : (cfg0.win 10).xinj (grid0.coords t) (ix2 r d) = (ix2 r d : S512x1024.Idx) := by
    funext a
    match a with
    | ⟨0, _⟩ => rfl
    | ⟨1, _⟩ => rfl
  refine (congrArg _ hx).trans ((out_apply ..).trans ?_)
  rw [block6 m c t r d R ⟨12288 + C.val, by omega⟩ hR (by simp only [hC]),
    block7 m c t r d R ⟨14336 + C.val, by omega⟩ hR (by simp only [hC]),
    block8 m c t r d R ⟨16384 + C.val, by omega⟩ hR (by simp only [hC])]
  simp only [block0 m c t r _ R hR, block1 m c t r _ R hR, block2 m c t r _ R hR, block3 m c t _ d C hC,
    block4 m c t _ d C hC, block5 m c t _ d C hC, block9 m c t _ d C hC]
  rfl

/-- A grid point writes back its block of the result. -/
theorem flushed_eq (t : Fin cfg0.N) (_ : (cfg0.win 10).flush t = true) :
    (dats m 0 c).flushed 10 t = ((cfg0.win 10).blk t).view.read (Elt Ideal) (result m c) := by
  have hlt : t.val < 64 := by have := t.isLt; have := hN; omega
  funext y
  rw [View.read_apply]
  obtain ⟨r, hr⟩ : ∃ r : Fin 512, r = y 0 := ⟨y 0, rfl⟩
  obtain ⟨d, hd⟩ : ∃ d : Fin 1024, d = y 1 := ⟨y 1, rfl⟩
  have hy : y = ix2 r d := funext fun a => by
    match a with
    | ⟨0, _⟩ => exact hr.symm
    | ⟨1, _⟩ => exact hd.symm
  rw [hy]
  refine (flushed_apply m c t r d ⟨t.val % 32 * 512 + r.val, by omega⟩ ⟨t.val / 32 * 1024 + d.val, by omega⟩ rfl rfl).trans ?_
  refine congrArg (result m c) (funext fun a => Fin.ext ?_)
  match a with
  | ⟨0, _⟩ => show _ = win0_10.index t 0 * 512 + 1 * r.val; rw [(index10 t).1, one_mul]; rfl
  | ⟨1, _⟩ => show _ = win0_10.index t 1 * 1024 + 1 * d.val; rw [(index10 t).2, one_mul]; rfl

/-- So the array ends holding the result: the blocks cover it. -/
theorem final : (dats m 0 c).arrAt 10 cfg0.N = result m c :=
  (dats m 0 c).arrAt_eq_of_cover 10 _ (flushed_eq m c) fun i => by
    have h0 : (i 0 : Nat) < 16384 := (i 0).isLt
    have h1 : (i 1 : Nat) < 2048 := (i 1).isLt
    refine ⟨⟨(i 1).val / 1024 * 32 + (i 0).val / 512, by rw [hN]; omega⟩, flush0_10 _, ?_⟩
    generalize hT : (⟨(i 1).val / 1024 * 32 + (i 0).val / 512, _⟩ : Fin cfg0.N) = T
    have hv : T.val = (i 1).val / 1024 * 32 + (i 0).val / 512 := by rw [← hT]
    show i ∈ ((View.whole main_v3).slice (win0_10.rect T)).set
    rw [View.set_slice_whole, Rect.mem_set_unit]
    intro a
    match a with
    | ⟨0, _⟩ =>
      show win0_10.index T 0 * 512 ≤ (i 0 : Nat) ∧ (i 0 : Nat) < win0_10.index T 0 * 512 + 512
      rw [(index10 T).1]; omega
    | ⟨1, _⟩ =>
      show win0_10.index T 1 * 1024 ≤ (i 1 : Nat) ∧ (i 1 : Nat) < win0_10.index T 1 * 1024 + 1024
      rw [(index10 T).2]; omega

end Cert.Proof.Merge

end
-- ==== Proof.MergeClaims.lean ====
/- The claims about the branch merge. -/
module

public import proofs.«01_k».proof.Defs
public import proofs.«01_k».proof.Proof.MergeArray
public import proofs.«01_k».proof.Proof.Gen.Merge.Frame
public import proofs.«01_k».proof.Proof.Gen.MergeRefIdeal.Run
public import Idealize.ShloMosaic.Adequacy

@[expose] public section

noncomputable section

namespace Cert.Proof.Merge

open Idealize.ShloMosaic Idealize.ShloMosaic.TcCoe Idealize.SL.Sem

theorem frame_p : Cert.quiescent_Merge := fun m ρ _ => Cert.Merge.Gen.frame m ρ

theorem frame_pi : Cert.quiescent_MergeIdeal := fun m ρ _ => Cert.MergeIdeal.Gen.frame m ρ

/-- The reference runs, keeps its arguments and has no semaphores. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

section Reference

open Cert.MergeRefIdeal Cert.MergeRefIdeal.Gen

/-- The reference's gates: the logistic, written out, of the three groups of columns with their biases. -/
def gates (g : FVec Ideal S16384x19200 .f32) (z : FVec Ideal S3x2048 .f32) : FVec Ideal S16384x3x2048 .f32 :=
  Host.divf (broadcastInDim S16384x3x2048 ![] bcast_S_S16384x3x2048 (constant S_ .f32 0x3F800000#32))
    (addf (broadcastInDim S16384x3x2048 ![] bcast_S_S16384x3x2048 (constant S_ .f32 0x3F800000#32))
      (Host.exp (Host.negf (addf
        (shapeCast S16384x3x2048 (extractStridedSlice S16384x6144 ![0, 12288] g slices_S16384x19200_S16384x6144_0_12288)
          shapeCasts_S16384x6144_S16384x3x2048)
        (broadcastInDim S16384x3x2048 ![0, 1, 2] bcast_S1x3x2048_S16384x3x2048_0_1_2
          (broadcastInDim S1x3x2048 ![1, 2] bcast_S3x2048_S1x3x2048_1_2 z))))))

/-- A gate at an index. -/
theorem gates_apply (g : FVec Ideal S16384x19200 .f32) (z : FVec Ideal S3x2048 .f32) (r : Fin 16384) (n : Fin 3)
    (d : Fin 2048) : gates g z (ix3 r n d)
      = Ideal.logistic (g (ix2 r (⟨12288 + (n.val * 2048 + d.val), by omega⟩ : Fin 19200)) + z (ix2 n d)) := by
  pointwise [gates]
  rfl

/-- The reference's result. -/
def reference (y0 y1 : FVec Ideal S16384x1024 .bf16) (y2 : FVec Ideal S16384x2048 .bf16)
    (w0 w1 : FVec Ideal S1024x2048 .f32) (w2 : FVec Ideal S2048x2048 .f32) (s : FVec Ideal S16384x3x2048 .f32) :
    FVec Ideal S16384x2048 .bf16 :=
  truncf .bf16 (addf (addf
    (mulf (shapeCast S16384x2048 (extractStridedSlice S16384x1x2048 ![0, 0, 0] s slices_S16384x3x2048_S16384x1x2048_0_0_0)
        shapeCasts_S16384x1x2048_S16384x2048)
      (Host.dotGeneral dot_S16384x1024_S1024x2048_S16384x2048_1_0_0_1_n_n none (extf .f32 y0 bitsLt_bf16_f32) w0))
    (mulf (shapeCast S16384x2048 (extractStridedSlice S16384x1x2048 ![0, 1, 0] s slices_S16384x3x2048_S16384x1x2048_0_1_0)
        shapeCasts_S16384x1x2048_S16384x2048)
      (Host.dotGeneral dot_S16384x1024_S1024x2048_S16384x2048_1_0_0_1_n_n none (extf .f32 y1 bitsLt_bf16_f32) w1)))
    (mulf (shapeCast S16384x2048 (extractStridedSlice S16384x1x2048 ![0, 2, 0] s slices_S16384x3x2048_S16384x1x2048_0_2_0)
        shapeCasts_S16384x1x2048_S16384x2048)
      (Host.dotGeneral dot_S16384x2048_S2048x2048_S16384x2048_1_0_0_1_n_n none (extf .f32 y2 bitsLt_bf16_f32) w2)))
    bitsLt_bf16_f32

/-- The reference's result at an entry. -/
theorem reference_apply (y0 y1 : FVec Ideal S16384x1024 .bf16) (y2 : FVec Ideal S16384x2048 .bf16)
    (w0 w1 : FVec Ideal S1024x2048 .f32) (w2 : FVec Ideal S2048x2048 .f32) (g : FVec Ideal S16384x19200 .f32)
    (z : FVec Ideal S3x2048 .f32) (r : Fin 16384) (d : Fin 2048) :
    reference y0 y1 y2 w0 w1 w2 (gates g z) (ix2 r d) = entry y0 y1 y2 w0 w1 w2 g z r d := by
  have h : ∀ s : FVec Ideal S16384x3x2048 .f32, reference y0 y1 y2 w0 w1 w2 s (ix2 r d)
      = s (ix3 r (0 : Fin 3) d) * ∑ k : Fin 1024, y0 (ix2 r k) * w0 (ix2 k d)
        + s (ix3 r (1 : Fin 3) d) * ∑ k : Fin 1024, y1 (ix2 r k) * w1 (ix2 k d)
        + s (ix3 r (2 : Fin 3) d) * ∑ k : Fin 2048, y2 (ix2 r k) * w2 (ix2 k d) := by
    intro s
    pointwise [reference]
  rw [h, gates_apply, gates_apply, gates_apply]
  unfold entry
  refine congrArg₂ (· + ·) (congrArg₂ (· + ·) (congrArg (fun q => Ideal.logistic (g (ix2 r q) + _) * _) (Fin.ext ?_))
    (congrArg (fun q => Ideal.logistic (g (ix2 r q) + _) * _) (Fin.ext ?_)))
    (congrArg (fun q => Ideal.logistic (g (ix2 r q) + _) * _) (Fin.ext ?_))
  · show 12288 + (0 * 2048 + d.val) = 12288 + d.val; omega
  · show 12288 + (1 * 2048 + d.val) = 14336 + d.val; omega
  · show 12288 + (2 * 2048 + d.val) = 16384 + d.val; omega

end Reference

/-- The kernel's array and the reference's are the same function of the arguments. -/
theorem algebraic : Cert.algebraic_MergeIdeal_MergeRefIdeal := by
  intro m g m' g' _ hagree
  refine ⟨fun c => (Cert.MergeIdeal.Gen.dats m 0 c).arrAt 10 Cert.MergeIdeal.cfg0.N,
    Cert.MergeIdeal.Value.run_blocks m g, ?_⟩
  refine (θ_run Cert.MergeRefIdeal.defs _ _).mono (fun _ h c => ⟨(h c).1.trans ?_, (h c).2⟩)
    (Cert.MergeRefIdeal.Value.run (F := Ideal) m' g')
  obtain ⟨a0, a1, a2, a3, a4, a5, a6, a7⟩ := hagree c
  refine Eq.trans ?_ (final m c).symm
  rw [a0, a1, a2, a3, a4, a5, a6, a7]
  funext i
  obtain ⟨r, hr⟩ : ∃ r : Fin 16384, r = i 0 := ⟨i 0, rfl⟩
  obtain ⟨d, hd⟩ : ∃ d : Fin 2048, d = i 1 := ⟨i 1, rfl⟩
  have hi : i = ix2 r d := funext fun a => by
    match a with
    | ⟨0, _⟩ => exact hr.symm
    | ⟨1, _⟩ => exact hd.symm
  rw [hi]
  exact reference_apply _ _ _ _ _ _ _ _ r d

end Cert.Proof.Merge

end
-- ==== Proof.OutprojArray.lean ====
/- The output projection: what a grid point computes from its blocks, and what the array ends holding. -/
module

public import proofs.«01_k».proof.Proof.Gen.OutprojIdeal.Value
public import Idealize.ShloMosaic.Lib.Pipeline.Value
public import Idealize.ShloMosaic.Lib.Pipeline.Kit
public import Idealize.ShloMosaic.Lib.VecWindow
public import Idealize.ShloMosaic.Lib.Pointwise
public import Idealize.ShloMosaic.Lib.StableHlo.ReadAt

@[expose] public section

set_option maxRecDepth 8192

noncomputable section

namespace Cert.Proof.Outproj

open Cert.OutprojIdeal Cert.OutprojIdeal.Gen Idealize.ShloMosaic Idealize.ShloMosaic.TcCoe Idealize.SL.Sem

/-- A residual entry plus its gate times the product of a merged row with a column of the output weight. -/
def entry (x : FVec Ideal S2x8192x2048 .f32) (gate : FVec Ideal S2x2048 .f32) (y : FVec Ideal S16384x2048 .bf16)
    (w : FVec Ideal S2048x2048 .f32) (r : Fin 16384) (c : Fin 2048) : EReal :=
  x (ix3 (⟨r.val / 8192, by omega⟩ : Fin 2) (⟨r.val % 8192, by omega⟩ : Fin 8192) c)
    + gate (ix2 (⟨r.val / 8192, by omega⟩ : Fin 2) c) * ∑ k : Fin 2048, y (ix2 r k) * w (ix2 k c)

/-- One block of the body at an index. -/
theorem pay_apply (y : Vec Ideal S512x2048 .bf16) (w : Vec Ideal S2048x1024 .bf16) (x : Vec Ideal S512x1024 .f32)
    (g : Vec Ideal S1x1x1024 .f32) (r : Fin 512) (c : Fin 1024) :
    k0_pay1 (F := Ideal) y w x g (ix2 r c)
      = x (ix2 r c) + g (ix3 (0 : Fin 1) (0 : Fin 1) c) * ∑ k : Fin 2048, y (ix2 r k) * w (ix2 k c) := by
  pointwise [k0_pay1]

theorem zero2 : (![0, 0] : Fin 2 → ℕ) = fun _ => 0 := funext fun n => by revert n; decide

theorem zero3 : (![0, 0, 0] : Fin 3 → ℕ) = fun _ => 0 := funext fun n => by revert n; decide

/-- What a body leaves in the output block. -/
theorem out_apply (y : Vec Ideal S512x2048 .bf16) (w : Vec Ideal S2048x1024 .bf16) (x : Vec Ideal S512x1024 .f32)
    (g : Vec Ideal S1x1x1024 .f32) (r : Fin 512) (c : Fin 1024) :
    out0_4 (F := Ideal) y w x g (ix2 r c)
      = x (ix2 r c) + g (ix3 (0 : Fin 1) (0 : Fin 1) c) * ∑ k : Fin 2048, y (ix2 r k) * w (ix2 k c) := by
  unfold out0_4
  rw [View.canon_unit_zero zero2]
  rw [View.ld_unit_zero (S := S512x2048) zero2, View.ld_unit_zero (S := S2048x1024) zero2,
    View.ld_unit_zero (S := S512x1024) zero2, View.ld_unit_zero (S := S1x1x1024) zero3]
  exact pay_apply y w x g r c

/-! ## The blocks of a grid point -/

theorem hN : cfg0.N = 64 := N_0

theorem index0 : ∀ t : Fin grid0.N, win0_0.index t 0 = t.val % 32 ∧ win0_0.index t 1 = 0 := by decide +kernel

theorem index1 : ∀ t : Fin grid0.N, win0_1.index t 0 = 0 ∧ win0_1.index t 1 = t.val / 32 := by decide +kernel

theorem index2 : ∀ t : Fin grid0.N, win0_2.index t 0 = t.val % 32 ∧ win0_2.index t 1 = t.val / 32 := by decide +kernel

theorem index3 : ∀ t : Fin grid0.N, win0_3.index t 0 = t.val % 32 / 16 ∧ win0_3.index t 1 = 0
    ∧ win0_3.index t 2 = t.val / 32 := by decide +kernel

theorem index4 : ∀ t : Fin grid0.N, win0_4.index t 0 = t.val % 32 ∧ win0_4.index t 1 = t.val / 32 := by decide +kernel

variable (m : (ℓ : Loc nD τ sig) → Buf (Elt Ideal) ℓ) (c : Dev nD)

/-- The merged rows of a grid point. -/
theorem block0 (t : Fin cfg0.N) (r : Fin 512) (k : Fin 2048) (R : Fin 16384) (hR : R.val = t.val % 32 * 512 + r.val) :
    (iblk m c 0 t : Vec Ideal S512x2048 .bf16) (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = R.val; rw [(index0 t).1]; omega
  | ⟨1, _⟩ => show win0_0.index t 1 * 2048 + 1 * k.val = k.val; rw [(index0 t).2]; omega

/-- The weight's columns of a grid point. -/
theorem block1 (t : Fin cfg0.N) (k : Fin 2048) (d : Fin 1024) (C : Fin 2048) (hC : C.val = t.val / 32 * 1024 + d.val) :
    (iblk m c 1 t : Vec Ideal S2048x1024 .bf16) (ix2 k d) = m ((c : Thread nD τ).loc main_arg1) (ix2 k C) := by
  have h : V (F := Ideal) m c main_v2 (ix2 k C) = m ((c : Thread nD τ).loc main_arg1) (ix2 k C) := by
    unfold V
    after_reads_at
  rw [← h]
  unfold iblk
  rw [View.read_apply]
  show V m c main_v2 _ = _
  refine congrArg (V m c main_v2) (funext fun a => Fin.ext ?_)
  match a with
  | ⟨0, _⟩ => show win0_1.index t 0 * 2048 + 1 * k.val = k.val; rw [(index1 t).1]; omega
  | ⟨1, _⟩ => show win0_1.index t 1 * 1024 + 1 * d.val = C.val; rw [(index1 t).2]; omega

/-- The residual's block of a grid point. -/
theorem block2 (t : Fin cfg0.N) (r : Fin 512) (d : Fin 1024) (R : Fin 16384) (C : Fin 2048)
    (hR : R.val = t.val % 32 * 512 + r.val) (hC : C.val = t.val / 32 * 1024 + d.val) :
    (iblk m c 2 t : Vec Ideal S512x1024 .f32) (ix2 r d)
      = m ((c : Thread nD τ).loc main_arg2) (ix3 (⟨R.val / 8192, by omega⟩ : Fin 2) (⟨R.val % 8192, by omega⟩ : Fin 8192) C) := by
  have h : V (F := Ideal) m c main_v0 (ix2 R C)
      = m ((c : Thread nD τ).loc main_arg2) (ix3 (⟨R.val / 8192, by omega⟩ : Fin 2) (⟨R.val % 8192, by omega⟩ : Fin 8192) C) := by
    unfold V
    after_reads_at
  rw [← h]
  unfold iblk
  rw [View.read_apply]
  show V m c main_v0 _ = _
  refine congrArg (V m c main_v0) (funext fun a => Fin.ext ?_)
  match a with
  | ⟨0, _⟩ => show win0_2.index t 0 * 512 + 1 * r.val = R.val; rw [(index2 t).1]; omega
  | ⟨1, _⟩ => show win0_2.index t 1 * 1024 + 1 * d.val = C.val; rw [(index2 t).2]; omega

/-- The gate's columns of a grid point. -/
theorem block3 (t : Fin cfg0.N) (d : Fin 1024) (b : Fin 2) (C : Fin 2048)
    (hb : b.val = t.val % 32 / 16) (hC : C.val = t.val / 32 * 1024 + d.val) :
    (iblk m c 3 t : Vec Ideal S1x1x1024 .f32) (ix3 (0 : Fin 1) (0 : Fin 1) d)
      = m ((c : Thread nD τ).loc main_arg3) (ix2 b C) := by
  have h : V (F := Ideal) m c main_v1 (ix3 b (0 : Fin 1) C) = m ((c : Thread nD τ).loc main_arg3) (ix2 b C) := by
    unfold V
    after_reads_at
  rw [← h]
  unfold iblk
  rw [View.read_apply]
  show V m c main_v1 _ = _
  refine congrArg (V m c main_v1) (funext fun a => Fin.ext ?_)
  match a with
  | ⟨0, _⟩ => show win0_3.index t 0 * 1 + 1 * 0 = b.val; rw [(index3 t).1]; omega
  | ⟨1, _⟩ => show win0_3.index t 1 * 1 + 1 * 0 = 0; rw [(index3 t).2.1]
  | ⟨2, _⟩ => show win0_3.index t 2 * 1024 + 1 * d.val = C.val; rw [(index3 t).2.2]; omega

/-! ## The array -/

/-- The result array. -/
def result : FVec Ideal S16384x2048 .f32 := fun i =>
  entry (m ((c : Thread nD τ).loc main_arg2)) (m ((c : Thread nD τ).loc main_arg3)) (m ((c : Thread nD τ).loc main_arg0))
    (m ((c : Thread nD τ).loc main_arg1)) (i 0) (i 1)

/-- What a grid point writes back, at an entry of its block. -/
theorem flushed_apply (t : Fin cfg0.N) (r : Fin 512) (d : Fin 1024) (R : Fin 16384) (C : Fin 2048)
    (hR : R.val = t.val % 32 * 512 + r.val) (hC : C.val = t.val / 32 * 1024 + d.val) :
    (dats m 0 c).flushed 4 t (ix2 r d) = result m c (ix2 R C) := by
  rw [Value.flushed4]
  show out0_4 _ _ _ _ (ix2 r d) = _
  rw [out_apply, block2 m c t r d R C hR hC, block3 m c t d ⟨R.val / 8192, by omega⟩ C (by show R.val / 8192 = _; omega) hC]
  simp only [block0 m c t r _ R hR, block1 m c t _ d C hC]
  rfl

/-- A grid point writes back its block of the result. -/
theorem flushed_eq (t : Fin cfg0.N) (_ : (cfg0.win 4).flush t = true) :
    (dats m 0 c).flushed 4 t = ((cfg0.win 4).blk t).view.read (Elt Ideal) (result m c) := by
  have hlt : t.val < 64 := by have := t.isLt; have := hN; omega
  funext y
  rw [View.read_apply]
  obtain ⟨r, hr⟩ : ∃ r : Fin 512, r = y 0 := ⟨y 0, rfl⟩
  obtain ⟨d, hd⟩ : ∃ d : Fin 1024, d = y 1 := ⟨y 1, rfl⟩
  have hy : y = ix2 r d := funext fun a => by
    match a with
    | ⟨0, _⟩ => exact hr.symm
    | ⟨1, _⟩ => exact hd.symm
  rw [hy]
  refine (flushed_apply m c t r d ⟨t.val % 32 * 512 + r.val, by omega⟩ ⟨t.val / 32 * 1024 + d.val, by omega⟩ rfl rfl).trans ?_
  refine congrArg (result m c) (funext fun a => Fin.ext ?_)
  match a with
  | ⟨0, _⟩ => show _ = win0_4.index t 0 * 512 + 1 * r.val; rw [(index4 t).1, one_mul]; rfl
  | ⟨1, _⟩ => show _ = win0_4.index t 1 * 1024 + 1 * d.val; rw [(index4 t).2, one_mul]; rfl

/-- So the array ends holding the result: the blocks cover it. -/
theorem final : (dats m 0 c).arrAt 4 cfg0.N = result m c :=
  (dats m 0 c).arrAt_eq_of_cover 4 _ (flushed_eq m c) fun i => by
    have h0 : (i 0 : Nat) < 16384 := (i 0).isLt
    have h1 : (i 1 : Nat) < 2048 := (i 1).isLt
    refine ⟨⟨(i 1).val / 1024 * 32 + (i 0).val / 512, by rw [hN]; omega⟩, flush0_4 _, ?_⟩
    generalize hT : (⟨(i 1).val / 1024 * 32 + (i 0).val / 512, _⟩ : Fin cfg0.N) = T
    have hv : T.val = (i 1).val / 1024 * 32 + (i 0).val / 512 := by rw [← hT]
    show i ∈ ((View.whole main_v3).slice (win0_4.rect T)).set
    rw [View.set_slice_whole, Rect.mem_set_unit]
    intro a
    match a with
    | ⟨0, _⟩ =>
      show win0_4.index T 0 * 512 ≤ (i 0 : Nat) ∧ (i 0 : Nat) < win0_4.index T 0 * 512 + 512
      rw [(index4 T).1]; omega
    | ⟨1, _⟩ =>
      show win0_4.index T 1 * 1024 ≤ (i 1 : Nat) ∧ (i 1 : Nat) < win0_4.index T 1 * 1024 + 1024
      rw [(index4 T).2]; omega

end Cert.Proof.Outproj

end
-- ==== Proof.OutprojClaims.lean ====
/- The claims about the output projection. -/
module

public import proofs.«01_k».proof.Defs
public import proofs.«01_k».proof.Proof.OutprojArray
public import proofs.«01_k».proof.Proof.Gen.Outproj.Frame
public import proofs.«01_k».proof.Proof.Gen.OutprojRefIdeal.Run
public import Idealize.ShloMosaic.Adequacy

@[expose] public section

noncomputable section

namespace Cert.Proof.Outproj

open Idealize.ShloMosaic Idealize.ShloMosaic.TcCoe Idealize.SL.Sem

theorem frame_p : Cert.quiescent_Outproj := fun m ρ _ => Cert.Outproj.Gen.frame m ρ

theorem frame_pi : Cert.quiescent_OutprojIdeal := fun m ρ _ => Cert.OutprojIdeal.Gen.frame m ρ

/-- The reference runs, keeps its arguments and has no semaphores. -/
theorem frame_ri : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

open Cert.OutprojRefIdeal Cert.OutprojRefIdeal.Gen in
/-- The reference's result at an entry. -/
theorem reference_apply (y : FVec Ideal S16384x2048 .bf16) (w : FVec Ideal S2048x2048 .f32)
    (x : FVec Ideal S2x8192x2048 .f32) (gate : FVec Ideal S2x2048 .f32) (r : Fin 16384) (d : Fin 2048) :
    (shapeCast S16384x2048 (addf x (mulf (broadcastInDim S2x8192x2048 ![0, 1, 2] bcast_S2x1x2048_S2x8192x2048_0_1_2
        (broadcastInDim S2x1x2048 ![0, 2] bcast_S2x2048_S2x1x2048_0_2 gate))
      (shapeCast S2x8192x2048 (Host.dotGeneral dot_S16384x2048_S2048x2048_S16384x2048_1_0_0_1_n_n none
        (extf .f32 y bitsLt_bf16_f32) w) shapeCasts_S16384x2048_S2x8192x2048)))
      shapeCasts_S2x8192x2048_S16384x2048 : FVec Ideal S16384x2048 .f32) (ix2 r d) = entry x gate y w r d := by
  pointwise [entry]

/-- The kernel's array and the reference's are the same function of the arguments. -/
theorem algebraic : Cert.algebraic_OutprojIdeal_OutprojRefIdeal := by
  intro m g m' g' _ hagree
  refine ⟨fun c => (Cert.OutprojIdeal.Gen.dats m 0 c).arrAt 4 Cert.OutprojIdeal.cfg0.N,
    Cert.OutprojIdeal.Value.run_blocks m g, ?_⟩
  refine (θ_run Cert.OutprojRefIdeal.defs _ _).mono (fun _ h c => ⟨(h c).1.trans ?_, (h c).2⟩)
    (Cert.OutprojRefIdeal.Value.run (F := Ideal) m' g')
  obtain ⟨a0, a1, a2, a3⟩ := hagree c
  refine Eq.trans ?_ (final m c).symm
  rw [a0, a1, a2, a3]
  funext i
  obtain ⟨r, hr⟩ : ∃ r : Fin 16384, r = i 0 := ⟨i 0, rfl⟩
  obtain ⟨d, hd⟩ : ∃ d : Fin 2048, d = i 1 := ⟨i 1, rfl⟩
  have hi : i = ix2 r d := funext fun a => by
    match a with
    | ⟨0, _⟩ => exact hr.symm
    | ⟨1, _⟩ => exact hd.symm
  rw [hi]
  exact reference_apply _ _ _ _ r d

end Cert.Proof.Outproj

end
-- ==== Proof.PrepBody.lean ====
/- The preparation of mixer A: the stores of one grid point, head by head. -/
module

public import proofs.«01_k».proof.Proof.Gen.PrepIdeal.Frame
public import Idealize.ShloMosaic.Lib.Pipeline.Value
public import Idealize.ShloMosaic.Lib.Pipeline.Kit
public import Idealize.ShloMosaic.Lib.Pipeline.ReadBack
public import Idealize.ShloMosaic.Lib.VecWindow
public import Idealize.ShloMosaic.Lib.Pointwise

@[expose] public section

set_option maxRecDepth 8192

noncomputable section

namespace Cert.Proof.Prep

open Cert.PrepIdeal Cert.PrepIdeal.Gen Idealize.ShloMosaic Idealize.ShloMosaic.TcCoe Idealize.SL.Sem

theorem zero2 : (![0, 0] : Fin 2 → ℕ) = fun _ => 0 := funext fun n => by revert n; decide

/-! ## The running sums of a grid point -/

section Sums

variable (x3 : Vec Ideal S512x128 .f32) (x4 : Vec Ideal S1x128 .f32) (s : Vec Ideal S8x128 .f32)

/-- The first row of the carried block. -/
def carry : Vec Ideal S1x128 .f32 := View.ld s (Rect.unit ![0, 0] ![1, 128] inb_S8x128_S1x128_0_0)

/-- The three parts of the running sums, and the same three turned round. -/
def part1 : FVec Ideal S512x128 .f32 := k0_pay14 k0_pay5 (k0_pay8 x3 x4) (k0_pay9 x3 x4) (k0_pay10 x3 x4) (carry s)

@[inherit_doc part1]
def part2 : FVec Ideal S512x128 .f32 := k0_pay16 k0_pay5 (k0_pay8 x3 x4) (k0_pay9 x3 x4) (k0_pay10 x3 x4) (carry s)

@[inherit_doc part1]
def part3 : FVec Ideal S512x128 .f32 := k0_pay17 k0_pay5 (k0_pay8 x3 x4) (k0_pay9 x3 x4) (k0_pay10 x3 x4) (carry s)

@[inherit_doc part1]
def turned1 : FVec Ideal S128x512 .f32 := k0_pay18 k0_pay5 (k0_pay8 x3 x4) (k0_pay9 x3 x4) (k0_pay10 x3 x4) (carry s)

@[inherit_doc part1]
def turned2 : FVec Ideal S128x512 .f32 := k0_pay19 k0_pay5 (k0_pay8 x3 x4) (k0_pay9 x3 x4) (k0_pay10 x3 x4) (carry s)

@[inherit_doc part1]
def turned3 : FVec Ideal S128x512 .f32 := k0_pay20 k0_pay5 (k0_pay8 x3 x4) (k0_pay9 x3 x4) (k0_pay10 x3 x4) (carry s)

/-- What a grid point carries on to the next. -/
def carried : FVec Ideal S8x128 .f32 := k0_pay12 k0_pay5 (k0_pay8 x3 x4) (k0_pay9 x3 x4) (k0_pay10 x3 x4) (carry s)

end Sums

/-- What the first grid point of a batch starts from. -/
def start : Vec Ideal S8x128 .f32 := k0_pay3 (F := Ideal)

/-! ## The extra rows and columns of a head -/

/-- A row of a turned part. -/
theorem slices_row (h : Fin 8) : S128x512.Slices ![64 + h.val, 0] S1x512 := by revert h; decide

/-- A column of a part. -/
theorem slices_col (h : Fin 8) : S512x128.Slices ![0, 64 + h.val] S512x1 := by revert h; decide

/-- The extra rows of a head's queries: the three parts of its running sum, three rows of ones, and zeros. -/
def extraQ (a b d : FVec Ideal S128x512 .f32) (h : Fin 8) : FVec Ideal S128x512 .bf16 :=
  have n : IVec S8x512 32 := iota .tc S8x512 32 [0] iota_S8x512_d0_w32
  have row (v : FVec Ideal S128x512 .f32) : FVec Ideal S8x512 .f32 :=
    broadcastTo S8x512 (shapeCast S1x512 (extractStridedSlice S1x512 ![64 + h.val, 0] v (slices_row h)) shapeCasts_S1x512_S1x512) broadcasts_S1x512_S8x512
  have one : FVec Ideal S8x512 .f32 := broadcast S8x512 (Scalar.ofBits .f32 0x3F800000#32)
  have nil : FVec Ideal S8x512 .f32 := broadcast S8x512 (Scalar.ofBits .f32 0x00000000#32)
  have top : FVec Ideal S8x512 .f32 := select (cmpi .eq n (broadcast S8x512 0#32)) (row a)
    (select (cmpi .eq n (broadcast S8x512 1#32)) (row b)
      (select (cmpi .eq n (broadcast S8x512 2#32)) (row d) (select (cmpi .slt n (broadcast S8x512 6#32)) one nil)))
  truncf .bf16 (concatenate S128x512 0 [⟨S8x512, top⟩, ⟨S120x512, k0_pay21⟩] concatenates_S8x512_S120x512_S128x512_d0) bitsLt_bf16_f32

/-- The extra columns of a head's keys: three columns of ones, the three parts of its running sum negated, and zeros. -/
def extraK (a b d : FVec Ideal S512x128 .f32) (h : Fin 8) : FVec Ideal S512x128 .bf16 :=
  have n : IVec S512x128 32 := iota .tc S512x128 32 [1] iota_S512x128_d1_w32
  have col (v : FVec Ideal S512x128 .f32) : FVec Ideal S512x128 .f32 :=
    broadcastTo S512x128 (shapeCast S512x1 (subf (broadcast S512x1 (Scalar.ofBits .f32 0x00000000#32))
      (extractStridedSlice S512x1 ![0, 64 + h.val] v (slices_col h))) shapeCasts_S512x1_S512x1) broadcasts_S512x1_S512x128
  have one : FVec Ideal S512x128 .f32 := broadcast S512x128 (Scalar.ofBits .f32 0x3F800000#32)
  have nil : FVec Ideal S512x128 .f32 := broadcast S512x128 (Scalar.ofBits .f32 0x00000000#32)
  truncf .bf16 (select (cmpi .slt n (broadcast S512x128 3#32)) one
    (select (cmpi .eq n (broadcast S512x128 3#32)) (col a)
      (select (cmpi .eq n (broadcast S512x128 4#32)) (col b)
        (select (cmpi .eq n (broadcast S512x128 5#32)) (col d) nil)))) bitsLt_bf16_f32

/-! ## The stores -/

section Stores

variable (x : Vec Ideal S512x1024 .f32) (w : Vec Ideal S1x128 .f32) (a b d : FVec Ideal S128x512 .f32) (a' b' d' : FVec Ideal S512x128 .f32) (h : Fin 8)

theorem inb_rows (o : Fin 16) : ∀ n, (![128 * o.val, 0] : Fin 2 → ℕ) n + (![128, 512] : Fin 2 → ℕ) n ≤ S2048x512.size n := by revert o; decide

theorem inb_cols (o : Fin 16) : ∀ n, (![0, 128 * o.val] : Fin 2 → ℕ) n + (![512, 128] : Fin 2 → ℕ) n ≤ S512x2048.size n := by revert o; decide

theorem inb_vals (o : Fin 8) : ∀ n, (![128 * o.val, 0] : Fin 2 → ℕ) n + (![128, 512] : Fin 2 → ℕ) n ≤ S1024x512.size n := by revert o; decide

theorem inb_head (o : Fin 8) : ∀ n, (![0, 128 * o.val] : Fin 2 → ℕ) n + (![512, 128] : Fin 2 → ℕ) n ≤ S512x1024.size n := by revert o; decide

/-- A head's columns of a block of the projection. -/
def head : Vec Ideal S512x128 .f32 := View.ld x (Rect.unit ![0, 128 * h.val] ![512, 128] (inb_head h))

/-- The two stores of a head in the block of queries. -/
def storesQ : List (View.Piece (Elt Ideal) S2048x512 .bf16) :=
  [⟨Rect.unit ![128 * (2 * h.val + 1), 0] ![128, 512] (inb_rows ⟨2 * h.val + 1, by omega⟩), extraQ a b d h⟩,
    ⟨Rect.unit ![128 * (2 * h.val), 0] ![128, 512] (inb_rows ⟨2 * h.val, by omega⟩), k0_pay31 (k0_pay22 w) (head x h)⟩]

/-- The two stores of a head in the block of keys. -/
def storesK : List (View.Piece (Elt Ideal) S512x2048 .bf16) :=
  [⟨Rect.unit ![0, 128 * (2 * h.val + 1)] ![512, 128] (inb_cols ⟨2 * h.val + 1, by omega⟩), extraK a' b' d' h⟩,
    ⟨Rect.unit ![0, 128 * (2 * h.val)] ![512, 128] (inb_cols ⟨2 * h.val, by omega⟩), k0_pay33 (k0_pay23 w) (head x h)⟩]

/-- The store of a head in the block of values. -/
def storesV : List (View.Piece (Elt Ideal) S1024x512 .bf16) :=
  [⟨Rect.unit ![128 * h.val, 0] ![128, 512] (inb_vals h), k0_pay30 (head x h)⟩]

end Stores

/-- The heads, last first. -/
def heads : List (Fin 8) := [7, 6, 5, 4, 3, 2, 1, 0]

variable (c : Dev nD) (i : grid0.Coords)
  (arg1 : Memref sig .tc .vmem S512x1024 .f32) (harg1 : arg1.IsWhole) (arg2 : Memref sig .tc .vmem S512x1024 .f32)
  (harg2 : arg2.IsWhole) (arg3 : Memref sig .tc .vmem S512x1024 .f32) (harg3 : arg3.IsWhole)
  (arg4 : Memref sig .tc .vmem S512x128 .f32) (harg4 : arg4.IsWhole) (arg5 : Memref sig .tc .vmem S1x128 .f32)
  (harg5 : arg5.IsWhole) (arg6 : Memref sig .tc .vmem S1x128 .f32) (harg6 : arg6.IsWhole)
  (arg7 : Memref sig .tc .vmem S1x128 .f32) (harg7 : arg7.IsWhole) (arg8 : Memref sig .tc .vmem S2048x512 .bf16)
  (harg8 : arg8.IsWhole) (arg9 : Memref sig .tc .vmem S512x2048 .bf16) (harg9 : arg9.IsWhole)
  (arg10 : Memref sig .tc .vmem S1024x512 .bf16) (harg10 : arg10.IsWhole) (arg11 : Memref sig .tc .vmem S8x128 .f32)
  (harg11 : arg11.IsWhole)

/-- The row that the first grid point of a batch adds is the row of what it starts from. -/
theorem first_row : kernelRun0_A.sl.v45 (F := Ideal) c arg11 = carry start := by
  unfold kernelRun0_A.sl.v45
  exact View.readCov_fill _ _ _ _ _ (fun a => by revert a; decide)

/-- The block of queries of a grid point that begins a batch. -/
theorem queries_A (hc0 : cond0_0 i)
    (x0 x1 x2 : Vec Ideal S512x1024 .f32) (x3 : Vec Ideal S512x128 .f32) (x4 x5 x6 : Vec Ideal S1x128 .f32) :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6
      = View.canon (heads.flatMap (storesQ x0 x5 (turned1 x3 x4 start) (turned2 x3 x4 start) (turned3 x3 x4 start))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44,
    first_row c arg11, View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- The block of keys of a grid point that begins a batch. -/
theorem keys_A (hc0 : cond0_0 i)
    (x0 x1 x2 : Vec Ideal S512x1024 .f32) (x3 : Vec Ideal S512x128 .f32) (x4 x5 x6 : Vec Ideal S1x128 .f32) :
    out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6
      = View.canon (heads.flatMap (storesK x1 x6 (part1 x3 x4 start) (part2 x3 x4 start) (part3 x3 x4 start))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44,
    first_row c arg11, View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- The block of values of a grid point that begins a batch. -/
theorem values_A (hc0 : cond0_0 i)
    (x0 x1 x2 : Vec Ideal S512x1024 .f32) (x3 : Vec Ideal S512x128 .f32) (x4 x5 x6 : Vec Ideal S1x128 .f32) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6
      = View.canon (heads.flatMap (storesV x2)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44,
    first_row c arg11, View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- What a grid point that begins a batch carries on. -/
theorem carried_A (hc0 : cond0_0 i)
    (x0 x1 x2 : Vec Ideal S512x1024 .f32) (x3 : Vec Ideal S512x128 .f32) (x4 x5 x6 : Vec Ideal S1x128 .f32) :
    sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6
      = carried x3 x4 start := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44,
    first_row c arg11, View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rw [View.canon_cons_unit_lit _ _ _ (fun a => by revert a; decide)]
  rfl

/-- The block of queries of a grid point that continues a batch. -/
theorem queries_B (hc0 : ¬ cond0_0 i)
    (x0 x1 x2 : Vec Ideal S512x1024 .f32) (x3 : Vec Ideal S512x128 .f32) (x4 x5 x6 : Vec Ideal S1x128 .f32) (s : Vec Ideal S8x128 .f32) :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 s
      = View.canon (heads.flatMap (storesQ x0 x5 (turned1 x3 x4 s) (turned2 x3 x4 s) (turned3 x3 x4 s))) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 s)]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44,
    View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- The block of keys of a grid point that continues a batch. -/
theorem keys_B (hc0 : ¬ cond0_0 i)
    (x0 x1 x2 : Vec Ideal S512x1024 .f32) (x3 : Vec Ideal S512x128 .f32) (x4 x5 x6 : Vec Ideal S1x128 .f32) (s : Vec Ideal S8x128 .f32) :
    out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 s
      = View.canon (heads.flatMap (storesK x1 x6 (part1 x3 x4 s) (part2 x3 x4 s) (part3 x3 x4 s))) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 s)]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44,
    View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- The block of values of a grid point that continues a batch. -/
theorem values_B (hc0 : ¬ cond0_0 i)
    (x0 x1 x2 : Vec Ideal S512x1024 .f32) (x3 : Vec Ideal S512x128 .f32) (x4 x5 x6 : Vec Ideal S1x128 .f32) (s : Vec Ideal S8x128 .f32) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 s
      = View.canon (heads.flatMap (storesV x2)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 s)]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44,
    View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rfl

/-- What a grid point that continues a batch carries on. -/
theorem carried_B (hc0 : ¬ cond0_0 i)
    (x0 x1 x2 : Vec Ideal S512x1024 .f32) (x3 : Vec Ideal S512x128 .f32) (x4 x5 x6 : Vec Ideal S1x128 .f32) (s : Vec Ideal S8x128 .f32) :
    sout0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 s
      = carried x3 x4 s := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 x6 s)]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44,
    View.readAt_eq_ld, harg1.read_unread, harg2.read_unread, harg3.read_unread, harg4.read_unread, harg5.read_unread, harg6.read_unread, harg7.read_unread, harg11.read_unread,
    View.ld_unit_zero (S := S1x128) zero2, View.ld_unit_zero (S := S512x128) zero2]
  rw [View.canon_unit_zero zero2]
  rfl

end Cert.Proof.Prep

end
-- ==== Proof.PrepTile.lean ====
/- The preparation of mixer A: the blocks of one grid point, entry by entry. -/
module

public import proofs.«01_k».proof.Proof.PrepBody
public import proofs.«01_k».proof.Proof.Consts
public import Idealize.ShloMosaic.Lib.Pipeline.ValueKit.Tiles

@[expose] public section

set_option maxRecDepth 8192

noncomputable section

namespace Cert.Proof.Prep

open Cert.PrepIdeal Cert.PrepIdeal.Gen Idealize.ShloMosaic Idealize.ShloMosaic.TcCoe Idealize.SL.Sem

/-- A number over the root of the mean square of 128 numbers. -/
def rms (x : Fin 128 → EReal) (f : Fin 128) : EReal :=
  x f * Ideal.rsqrt (Ideal.div (∑ k : Fin 128, x k * x k) (Ideal.ofBits .f32 0x43000000#32) + Ideal.ofBits .f32 0x358637BD#32)

/-- One over the logarithm of two. -/
def inv2 : EReal := (((Real.log 2)⁻¹ : ℝ) : EReal)

/-- The logits' scale over the logarithm of two. -/
def scale2 : EReal := (((11863283 / 134217728) * (Real.log 2)⁻¹ : ℝ) : EReal)

theorem named_inv2 : (Named.named κ "log2e" (0x3FB8AA3B#32 : BitVec (FTy.bits .f32)) : Ideal .f32) = inv2 := rfl

theorem named_scale2 : (Named.named κ "scale" (0x3E0293EE#32 : BitVec (FTy.bits .f32)) : Ideal .f32) = scale2 := rfl

/-- The columns of a head. -/
def col (h : Fin 8) (f : Fin 128) : Fin 1024 := ⟨128 * h.val + f.val, by omega⟩

theorem head_apply (x : Vec Ideal S512x1024 .f32) (h : Fin 8) (t : Fin 512) (f : Fin 128) :
    head x h (ix2 t f) = x (ix2 t (col h f)) := by
  unfold head
  refine View.ld_unit_apply_of x _ _ _ _ _ fun a => ?_
  match a with
  | ⟨0, _⟩ => show t.val = 0 + t.val; omega
  | ⟨1, _⟩ => rfl

theorem headQ_apply (w : Vec Ideal S1x128 .f32) (x : Vec Ideal S512x128 .f32) (f : Fin 128) (t : Fin 512) :
    k0_pay31 (F := Ideal) (k0_pay22 w) x (ix2 f t)
      = rms (fun k => x (ix2 t k)) f * (w (ix2 (0 : Fin 1) f) * scale2) := by
  rw [← named_scale2]
  pointwise [k0_pay31, k0_pay22, rms]

theorem headK_apply (w : Vec Ideal S1x128 .f32) (x : Vec Ideal S512x128 .f32) (f : Fin 128) (t : Fin 512) :
    k0_pay33 (F := Ideal) (k0_pay23 w) x (ix2 t f) = rms (fun k => x (ix2 t k)) f * w (ix2 (0 : Fin 1) f) := by
  pointwise [k0_pay33, k0_pay23, rms]

theorem headV_apply (x : Vec Ideal S512x128 .f32) (f : Fin 128) (t : Fin 512) :
    k0_pay30 (F := Ideal) x (ix2 f t) = x (ix2 t f) := by
  pointwise [k0_pay30]

/-- The lane of a head. -/
def lane (h : Fin 8) : Fin 128 := ⟨64 + h.val, by omega⟩

/-- The extra numbers of a query: three parts, three ones, then zeros. -/
def sixQ (a b d : EReal) (f : ℕ) : EReal := if f = 0 then a else if f = 1 then b else if f = 2 then d else if f < 6 then 1 else 0

/-- The extra numbers of a key: three ones, three parts negated, then zeros. -/
def sixK (a b d : EReal) (f : ℕ) : EReal := if f < 3 then 1 else if f = 3 then 0 - a else if f = 4 then 0 - b else if f = 5 then 0 - d else 0

/-- Choosing by whether a small position is a given one. -/
theorem select_eq (f : Fin 128) (n : Fin 8) (x y : EReal) :
    Scalar.select (IntOp.cmpi .eq (BitVec.ofNat 32 f.val) (BitVec.ofNat 32 n.val)) x y = if f.val = n.val then x else y := by
  have h : IntOp.cmpi .eq (BitVec.ofNat 32 f.val) (BitVec.ofNat 32 n.val) = if f.val = n.val then 1#1 else 0#1 := by
    revert f n; decide +kernel
  rw [h]
  split <;> rfl

/-- Choosing by whether a small position is below a given one. -/
theorem select_lt (f : Fin 128) (n : Fin 8) (x y : EReal) :
    Scalar.select (IntOp.cmpi .slt (BitVec.ofNat 32 f.val) (BitVec.ofNat 32 n.val)) x y = if f.val < n.val then x else y := by
  have h : IntOp.cmpi .slt (BitVec.ofNat 32 f.val) (BitVec.ofNat 32 n.val) = if f.val < n.val then 1#1 else 0#1 := by
    revert f n; decide +kernel
  rw [h]
  split <;> rfl

theorem extraK_apply (a b d : FVec Ideal S512x128 .f32) (h : Fin 8) (t : Fin 512) (f : Fin 128) :
    extraK a b d h (ix2 t f) = sixK (a (ix2 t (lane h))) (b (ix2 t (lane h))) (d (ix2 t (lane h))) f.val := by
  pointwise [extraK, sixK, lane]
  exact (select_lt f 3 _ _).trans (if_congr Iff.rfl rfl ((select_eq f 3 _ _).trans (if_congr Iff.rfl rfl
    ((select_eq f 4 _ _).trans (if_congr Iff.rfl rfl (select_eq f 5 _ _))))))

theorem extraQ_apply (a b d : FVec Ideal S128x512 .f32) (h : Fin 8) (f : Fin 128) (t : Fin 512) :
    extraQ a b d h (ix2 f t) = sixQ (a (ix2 (lane h) t)) (b (ix2 (lane h) t)) (d (ix2 (lane h) t)) f.val := by
  pointwise [extraQ, sixQ, lane, k0_pay21]
  split
  · exact (select_eq f 0 _ _).trans (if_congr Iff.rfl rfl ((select_eq f 1 _ _).trans (if_congr Iff.rfl rfl
      ((select_eq f 2 _ _).trans (if_congr Iff.rfl rfl (select_lt f 6 _ _))))))
  · rw [if_neg (by omega), if_neg (by omega), if_neg (by omega), if_neg (by omega)]

/-! ## Reading a block that stores cover -/

/-- Stores that hold different bands of 128 along an axis: each leaves its own values. -/
theorem canon_bands {S : Shape} {e : EltTy} {ι : Type} (n : Fin S.rank) (l : List ι) (P : ι → View.Piece (Elt Ideal) S e) (band : ι → ℕ)
    (hb : Function.Injective band) (hP : ∀ i (z : (P i).1.shape.Idx), ((P i).1.emb z n).val / 128 = band i) (i : ι) (hi : i ∈ l)
    (u : (P i).1.shape.Idx) : View.canon (l.map P) ((P i).1.emb u) = (P i).2 u :=
  View.canon_eq_of_allAt _ _ _ ⟨P i, List.mem_map_of_mem hi, (P i).1.idx_mem u⟩ fun q hq z he => by
    obtain ⟨j, -, rfl⟩ := List.mem_map.1 hq
    obtain rfl : j = i := hb ((hP j z).symm.trans ((congrArg (fun y => (y n).val / 128) he).trans (hP i u)))
    exact congrArg (P j).2 ((P j).1.emb.injective he)

/-- Every head's two stores, last first. -/
def pairs : List (Fin 8 × Bool) := heads.flatMap fun h => [(h, true), (h, false)]

theorem mem_pairs (i : Fin 8 × Bool) : i ∈ pairs := by revert i; decide

/-- The band of a store. -/
def band (i : Fin 8 × Bool) : ℕ := 2 * i.1.val + i.2.toNat

theorem band_injective : Function.Injective band := by decide

theorem mem_heads (h : Fin 8) : h ∈ heads := by revert h; decide

section Read

variable (x : Vec Ideal S512x1024 .f32) (w : Vec Ideal S1x128 .f32) (a b d : FVec Ideal S128x512 .f32) (a' b' d' : FVec Ideal S512x128 .f32)

/-- The stores of queries, one by one. -/
def storeQ : Fin 8 × Bool → View.Piece (Elt Ideal) S2048x512 .bf16
  | (h, true) => ⟨Rect.unit ![128 * (2 * h.val + 1), 0] ![128, 512] (inb_rows ⟨2 * h.val + 1, by omega⟩), extraQ a b d h⟩
  | (h, false) => ⟨Rect.unit ![128 * (2 * h.val), 0] ![128, 512] (inb_rows ⟨2 * h.val, by omega⟩), k0_pay31 (k0_pay22 w) (head x h)⟩

/-- The stores of keys, one by one. -/
def storeK : Fin 8 × Bool → View.Piece (Elt Ideal) S512x2048 .bf16
  | (h, true) => ⟨Rect.unit ![0, 128 * (2 * h.val + 1)] ![512, 128] (inb_cols ⟨2 * h.val + 1, by omega⟩), extraK a' b' d' h⟩
  | (h, false) => ⟨Rect.unit ![0, 128 * (2 * h.val)] ![512, 128] (inb_cols ⟨2 * h.val, by omega⟩), k0_pay33 (k0_pay23 w) (head x h)⟩

/-- The stores of values, one by one. -/
def storeV (h : Fin 8) : View.Piece (Elt Ideal) S1024x512 .bf16 :=
  ⟨Rect.unit ![128 * h.val, 0] ![128, 512] (inb_vals h), k0_pay30 (head x h)⟩

theorem band_Q (i : Fin 8 × Bool) (z : (storeQ x w a b d i).1.shape.Idx) : ((storeQ x w a b d i).1.emb z 0).val / 128 = band i := by
  obtain ⟨h, p⟩ := i
  cases p
  · have : (z 0).val < 128 := (z 0).isLt
    show (128 * (2 * h.val) + 1 * (z 0).val) / 128 = 2 * h.val + 0
    omega
  · have : (z 0).val < 128 := (z 0).isLt
    show (128 * (2 * h.val + 1) + 1 * (z 0).val) / 128 = 2 * h.val + 1
    omega

theorem band_K (i : Fin 8 × Bool) (z : (storeK x w a' b' d' i).1.shape.Idx) : ((storeK x w a' b' d' i).1.emb z 1).val / 128 = band i := by
  obtain ⟨h, p⟩ := i
  cases p
  · have : (z 1).val < 128 := (z 1).isLt
    show (128 * (2 * h.val) + 1 * (z 1).val) / 128 = 2 * h.val + 0
    omega
  · have : (z 1).val < 128 := (z 1).isLt
    show (128 * (2 * h.val + 1) + 1 * (z 1).val) / 128 = 2 * h.val + 1
    omega

theorem band_V (h : Fin 8) (z : (storeV x h).1.shape.Idx) : ((storeV x h).1.emb z 0).val / 128 = h.val := by
  have : (z 0).val < 128 := (z 0).isLt
  show (128 * h.val + 1 * (z 0).val) / 128 = h.val
  omega

variable (h : Fin 8) (f : Fin 128) (t : Fin 512)

/-- A head's first 128 rows in the block of queries. -/
theorem queries_head (R : Fin 2048) (hR : R.val = 256 * h.val + f.val) :
    View.canon (heads.flatMap (storesQ x w a b d)) (ix2 R t)
      = rms (fun k => x (ix2 t (col h k))) f * (w (ix2 (0 : Fin 1) f) * scale2) := by
  have e : (ix2 R t : S2048x512.Idx) = (storeQ x w a b d (h, false)).1.emb (ix2 f t) := funext fun n => Fin.ext <| by
    match n with
    | ⟨0, _⟩ => show R.val = 128 * (2 * h.val) + 1 * f.val; omega
    | ⟨1, _⟩ => show t.val = 0 + 1 * t.val; omega
  rw [e]
  refine (canon_bands 0 pairs (storeQ x w a b d) band band_injective (band_Q x w a b d) (h, false) (mem_pairs _) (ix2 f t)).trans ?_
  refine (headQ_apply w (head x h) f t).trans ?_
  simp only [head_apply]

/-- A head's extra rows in the block of queries. -/
theorem queries_extra (R : Fin 2048) (hR : R.val = 256 * h.val + 128 + f.val) :
    View.canon (heads.flatMap (storesQ x w a b d)) (ix2 R t)
      = sixQ (a (ix2 (lane h) t)) (b (ix2 (lane h) t)) (d (ix2 (lane h) t)) f.val := by
  have e : (ix2 R t : S2048x512.Idx) = (storeQ x w a b d (h, true)).1.emb (ix2 f t) := funext fun n => Fin.ext <| by
    match n with
    | ⟨0, _⟩ => show R.val = 128 * (2 * h.val + 1) + 1 * f.val; omega
    | ⟨1, _⟩ => show t.val = 0 + 1 * t.val; omega
  rw [e]
  refine (canon_bands 0 pairs (storeQ x w a b d) band band_injective (band_Q x w a b d) (h, true) (mem_pairs _) (ix2 f t)).trans ?_
  exact extraQ_apply a b d h f t

/-- A head's first 128 columns in the block of keys. -/
theorem keys_head (C : Fin 2048) (hC : C.val = 256 * h.val + f.val) :
    View.canon (heads.flatMap (storesK x w a' b' d')) (ix2 t C)
      = rms (fun k => x (ix2 t (col h k))) f * w (ix2 (0 : Fin 1) f) := by
  have e : (ix2 t C : S512x2048.Idx) = (storeK x w a' b' d' (h, false)).1.emb (ix2 t f) := funext fun n => Fin.ext <| by
    match n with
    | ⟨0, _⟩ => show t.val = 0 + 1 * t.val; omega
    | ⟨1, _⟩ => show C.val = 128 * (2 * h.val) + 1 * f.val; omega
  rw [e]
  refine (canon_bands 1 pairs (storeK x w a' b' d') band band_injective (band_K x w a' b' d') (h, false) (mem_pairs _) (ix2 t f)).trans ?_
  refine (headK_apply w (head x h) f t).trans ?_
  simp only [head_apply]

/-- A head's extra columns in the block of keys. -/
theorem keys_extra (C : Fin 2048) (hC : C.val = 256 * h.val + 128 + f.val) :
    View.canon (heads.flatMap (storesK x w a' b' d')) (ix2 t C)
      = sixK (a' (ix2 t (lane h))) (b' (ix2 t (lane h))) (d' (ix2 t (lane h))) f.val := by
  have e : (ix2 t C : S512x2048.Idx) = (storeK x w a' b' d' (h, true)).1.emb (ix2 t f) := funext fun n => Fin.ext <| by
    match n with
    | ⟨0, _⟩ => show t.val = 0 + 1 * t.val; omega
    | ⟨1, _⟩ => show C.val = 128 * (2 * h.val + 1) + 1 * f.val; omega
  rw [e]
  refine (canon_bands 1 pairs (storeK x w a' b' d') band band_injective (band_K x w a' b' d') (h, true) (mem_pairs _) (ix2 t f)).trans ?_
  exact extraK_apply a' b' d' h t f

/-- A head's rows in the block of values. -/
theorem values_head (R : Fin 1024) (hR : R.val = 128 * h.val + f.val) :
    View.canon (heads.flatMap (storesV x)) (ix2 R t) = x (ix2 t (col h f)) := by
  have e : (ix2 R t : S1024x512.Idx) = (storeV x h).1.emb (ix2 f t) := funext fun n => Fin.ext <| by
    match n with
    | ⟨0, _⟩ => show R.val = 128 * h.val + 1 * f.val; omega
    | ⟨1, _⟩ => show t.val = 0 + 1 * t.val; omega
  rw [e]
  refine (canon_bands 0 heads (storeV x) Fin.val Fin.val_injective (band_V x) h (mem_heads h) (ix2 f t)).trans ?_
  exact (headV_apply (head x h) f t).trans (head_apply x h t f)

end Read

end Cert.Proof.Prep

end
-- ==== Proof.PrepSums.lean ====
/- The preparation of mixer A: the logarithms of the forget gates and their running sums over one grid point. -/
module

public import proofs.«01_k».proof.Proof.PrepTile

@[expose] public section

set_option maxRecDepth 8192

noncomputable section

namespace Cert.Proof.Prep

open Cert.PrepIdeal Cert.PrepIdeal.Gen Idealize.ShloMosaic Idealize.ShloMosaic.TcCoe Idealize.SL.Sem

/-! ## The logarithm of a forget gate -/

/-- The logarithm of a gate, as the kernel takes it. -/
def logGate (v : EReal) : EReal := min v 0 - Ideal.log1p (Ideal.exp (0 - max v (-v)))

/-- The logarithm of one plus the exponential of a number that is not positive is a real number. -/
theorem log1p_real (v : EReal) : ∃ r : ℝ, Ideal.log1p (Ideal.exp (-max v (-v))) = (r : EReal) := by
  have hb : ∃ r : ℝ, Ideal.log1p (Ideal.exp ⊥) = (r : EReal) := by
    refine ⟨Real.log 1, ?_⟩
    show Ideal.log ((1 : EReal) + (0 : EReal)) = _
    rw [add_zero, ← EReal.coe_one]
    show (if (1 : ℝ) ≤ 0 then (⊥ : EReal) else ((Real.log 1 : ℝ) : EReal)) = _
    rw [if_neg (by norm_num)]
  induction v using EReal.rec with
  | bot => rw [EReal.neg_bot, max_eq_right bot_le, EReal.neg_top]; exact hb
  | top => rw [EReal.neg_top, max_eq_left bot_le, EReal.neg_top]; exact hb
  | coe r =>
    have e : (-max (r : EReal) (-(r : EReal))) = ((-max r (-r) : ℝ) : EReal) := by
      rw [← EReal.coe_neg, ← EReal.coe_strictMono.monotone.map_max, ← EReal.coe_neg]
    refine ⟨Real.log (1 + Real.exp (-max r (-r))), ?_⟩
    rw [e]
    show Ideal.log ((1 : EReal) + ((Real.exp (-max r (-r)) : ℝ) : EReal)) = _
    rw [← EReal.coe_one, ← EReal.coe_add]
    show (if (1 + Real.exp (-max r (-r)) : ℝ) ≤ 0 then (⊥ : EReal) else _) = _
    rw [if_neg (not_le.2 (by positivity))]

/-- It is minus the larger of the negated gate and zero, less that logarithm. -/
theorem logGate_eq (v : EReal) : logGate v = -(max (-v) 0 + Ideal.log1p (Ideal.exp (-max (-v) (-(-v))))) := by
  have hm : max (-v) (-(-v)) = max v (-v) := by rw [neg_neg, max_comm]
  obtain ⟨r, hr⟩ := log1p_real v
  have h0 : min v 0 = -max (-v) 0 := by
    have := EReal.min_neg_neg (-v) 0
    rwa [neg_neg, neg_zero] at this
  unfold logGate
  rw [hm, zero_sub, hr, EReal.neg_add (.inr (EReal.coe_ne_top r)) (.inr (EReal.coe_ne_bot r)), h0]

/-! ## The sums over one grid point -/

variable (x3 : Vec Ideal S512x128 .f32) (x4 : Vec Ideal S1x128 .f32) (s : Vec Ideal S8x128 .f32)

/-- The logarithms that a grid point adds up. -/
def logs (r : Fin 512) (l : Fin 128) : EReal := logGate (x3 (ix2 r l) + x4 (ix2 (0 : Fin 1) l))

/-- The running sum at a row of a grid point: what is carried in, and the rows so far. -/
def total (r : Fin 512) (l : Fin 128) : EReal :=
  (∑ k : Fin 512, if k ≤ r then logs x3 x4 k l else 0) + s (ix2 (0 : Fin 8) l)

theorem select_upto (k r : Fin 512) (v : EReal) :
    Scalar.select (IntOp.cmpi .sle (BitVec.ofNat 32 k.val) (BitVec.ofNat 32 r.val)) v 0 = if k ≤ r then v else 0 := by
  have h : IntOp.cmpi .sle (BitVec.ofNat 32 k.val) (BitVec.ofNat 32 r.val) = if k ≤ r then 1#1 else 0#1 := by
    have hk : (BitVec.ofNat 32 k.val).toInt = k.val := by
      rw [BitVec.toInt_ofNat', Int.bmod_eq_of_le] <;> omega
    have hr : (BitVec.ofNat 32 r.val).toInt = r.val := by
      rw [BitVec.toInt_ofNat', Int.bmod_eq_of_le] <;> omega
    have hle : (BitVec.ofNat 32 k.val).sle (BitVec.ofNat 32 r.val) = decide (k ≤ r) := by
      rw [BitVec.sle_eq_decide, hk, hr]
      exact decide_eq_decide.2 (by rw [Int.ofNat_le]; rfl)
    show BitVec.ofBool ((BitVec.ofNat 32 k.val).sle (BitVec.ofNat 32 r.val)) = _
    rw [hle]
    by_cases hkr : k ≤ r <;> simp [hkr]
  rw [h]
  split <;> rfl

/-- What the kernel adds up at a row, where the logarithms are real: the parts beyond the first are zero. -/
theorem sum_apply (r : Fin 512) (l : Fin 128) (h : ∀ k, ∃ ρ : ℝ, logs x3 x4 k l = (ρ : EReal)) :
    k0_pay11 (F := Ideal) k0_pay5 (k0_pay8 x3 x4) (k0_pay9 x3 x4) (k0_pay10 x3 x4) (carry s) (ix2 r l) = total x3 x4 s r l := by
  have h0 : ∀ k, logs x3 x4 k l - logs x3 x4 k l = 0 := fun k => by
    obtain ⟨ρ, hρ⟩ := h k
    rw [hρ, ← EReal.coe_sub, sub_self, EReal.coe_zero]
  have e : k0_pay11 (F := Ideal) k0_pay5 (k0_pay8 x3 x4) (k0_pay9 x3 x4) (k0_pay10 x3 x4) (carry s) (ix2 r l)
      = (∑ k : Fin 512, Scalar.select (IntOp.cmpi .sle (BitVec.ofNat 32 k.val) (BitVec.ofNat 32 r.val)) (logs x3 x4 k l) 0)
        + (∑ k : Fin 512, Scalar.select (IntOp.cmpi .sle (BitVec.ofNat 32 k.val) (BitVec.ofNat 32 r.val)) (logs x3 x4 k l - logs x3 x4 k l) 0)
        + (∑ k : Fin 512, Scalar.select (IntOp.cmpi .sle (BitVec.ofNat 32 k.val) (BitVec.ofNat 32 r.val))
            (logs x3 x4 k l - logs x3 x4 k l - (logs x3 x4 k l - logs x3 x4 k l)) 0)
        + s (ix2 (0 : Fin 8) l) := by
    unfold carry
    pointwise [k0_pay11, k0_pay10, k0_pay9, k0_pay8, k0_pay7, k0_pay6, k0_pay5, k0_pay4, logs, logGate]
    rfl
  rw [e]
  simp only [h0, sub_zero, select_upto, ite_self, Finset.sum_const_zero, add_zero]
  rfl

/-- What is carried on: every row of the block holds the last running sum. -/
theorem carried_apply (j : Fin 8) (l : Fin 128) (h : ∀ k, ∃ ρ : ℝ, logs x3 x4 k l = (ρ : EReal)) :
    carried x3 x4 s (ix2 j l) = total x3 x4 s 511 l := by
  rw [← sum_apply x3 x4 s 511 l h]
  unfold carried
  pointwise [k0_pay12]

/-- The first part of the running sum, in units of the logarithm of two. -/
theorem part1_apply (r : Fin 512) (l : Fin 128) (h : ∀ k, ∃ ρ : ℝ, logs x3 x4 k l = (ρ : EReal)) :
    part1 x3 x4 s (ix2 r l) = total x3 x4 s r l * inv2 := by
  rw [← sum_apply x3 x4 s r l h, ← named_inv2]
  rfl

/-- The second part: what is left of the first, which is nothing. -/
theorem part2_apply (r : Fin 512) (l : Fin 128) (h : ∀ k, ∃ ρ : ℝ, logs x3 x4 k l = (ρ : EReal))
    (ht : ∃ ρ : ℝ, total x3 x4 s r l = (ρ : EReal)) : part2 x3 x4 s (ix2 r l) = 0 := by
  obtain ⟨ρ, hρ⟩ := ht
  have e : part2 x3 x4 s (ix2 r l) = part1 x3 x4 s (ix2 r l) - part1 x3 x4 s (ix2 r l) := rfl
  rw [e, part1_apply x3 x4 s r l h, hρ, inv2, ← EReal.coe_mul, ← EReal.coe_sub, sub_self, EReal.coe_zero]

/-- The third part: what is left of the second. -/
theorem part3_apply (r : Fin 512) (l : Fin 128) (h : ∀ k, ∃ ρ : ℝ, logs x3 x4 k l = (ρ : EReal))
    (ht : ∃ ρ : ℝ, total x3 x4 s r l = (ρ : EReal)) : part3 x3 x4 s (ix2 r l) = 0 := by
  have e : part3 x3 x4 s (ix2 r l) = part2 x3 x4 s (ix2 r l) - part2 x3 x4 s (ix2 r l) := rfl
  rw [e, part2_apply x3 x4 s r l h ht, sub_zero]

theorem turned1_apply (l : Fin 128) (r : Fin 512) : turned1 x3 x4 s (ix2 l r) = part1 x3 x4 s (ix2 r l) := by
  unfold turned1 part1
  pointwise [k0_pay18]

theorem turned2_apply (l : Fin 128) (r : Fin 512) : turned2 x3 x4 s (ix2 l r) = part2 x3 x4 s (ix2 r l) := by
  unfold turned2 part2
  pointwise [k0_pay19]

theorem turned3_apply (l : Fin 128) (r : Fin 512) : turned3 x3 x4 s (ix2 l r) = part3 x3 x4 s (ix2 r l) := by
  unfold turned3 part3
  pointwise [k0_pay20]

end Cert.Proof.Prep

end
-- ==== Proof.PrepResult.lean ====
/- The preparation of mixer A: the three arrays it is to end with, entry by entry. -/
module

public import proofs.«01_k».proof.Proof.PrepSums

@[expose] public section

set_option maxRecDepth 8192

noncomputable section

namespace Cert.Proof.Prep

open Cert.PrepIdeal Cert.PrepIdeal.Gen Idealize.ShloMosaic Idealize.ShloMosaic.TcCoe Idealize.SL.Sem

variable (G : FVec Ideal S16384x19200 .f32) (b : FVec Ideal S8 .f32) (w : FVec Ideal S128 .f32)

/-- The logarithm of the forget gate of a token, both batches counted on, and a head. -/
def gate (n : ℕ) (h : Fin 8) : EReal :=
  if hn : n < 16384 then logGate (G (ix2 (⟨n, hn⟩ : Fin 16384) (⟨19008 + h.val, by omega⟩ : Fin 19200)) + b (ix1 h)) else 0

/-- Their sum over the token's batch, up to the token. -/
def sofar (T : ℕ) (h : Fin 8) : EReal := ∑ k ∈ Finset.range (T % 8192 + 1), gate G b (T / 8192 * 8192 + k) h

/-- A head of the projection, from a first column on. -/
def part (o : ℕ) (T : Fin 16384) (h : Fin 8) (ho : o + 1024 ≤ 19200) (k : Fin 128) : EReal :=
  G (ix2 T (⟨o + (128 * h.val + k.val), by omega⟩ : Fin 19200))

/-- The head of a row of queries or keys. -/
def headOf (n : Fin 2048) : Fin 8 := ⟨n.val / 256, by omega⟩

/-- An entry of the queries. -/
def query (T : Fin 16384) (n : Fin 2048) : EReal :=
  if h : n.val % 256 < 128 then
    rms (part G 3072 T (headOf n) (by omega)) ⟨n.val % 256, h⟩ * (w (ix1 (⟨n.val % 256, h⟩ : Fin 128)) * scale2)
  else sixQ (sofar G b T.val (headOf n) * inv2) 0 0 (n.val % 256 - 128)

/-- An entry of the keys. -/
def key (T : Fin 16384) (n : Fin 2048) : EReal :=
  if h : n.val % 256 < 128 then
    rms (part G 4096 T (headOf n) (by omega)) ⟨n.val % 256, h⟩ * w (ix1 (⟨n.val % 256, h⟩ : Fin 128))
  else sixK (sofar G b T.val (headOf n) * inv2) 0 0 (n.val % 256 - 128)

/-- An entry of the values. -/
def value (T : Fin 16384) (n : Fin 1024) : EReal := G (ix2 T (⟨5120 + n.val, by omega⟩ : Fin 19200))

/-- A sum of what lies at or before a position is a sum over the first positions. -/
theorem sum_upto {N : ℕ} (g : ℕ → EReal) (r : Fin N) :
    (∑ k : Fin N, if k ≤ r then g k.val else 0) = ∑ k ∈ Finset.range (r.val + 1), g k := by
  have hr := r.isLt
  have e : (∑ k : Fin N, if k ≤ r then g k.val else 0) = ∑ k : Fin N, (fun n => if n < r.val + 1 then g n else 0) k.val :=
    Finset.sum_congr rfl fun k _ => if_congr (by rw [Nat.lt_succ_iff]; rfl) rfl rfl
  rw [e, Fin.sum_univ_eq_sum_range (fun n => if n < r.val + 1 then g n else 0) N]
  refine (Finset.sum_subset (Finset.range_subset_range.2 hr) fun k _ hk => ?_).symm.trans (Finset.sum_congr rfl fun k hk => ?_)
  · exact if_neg fun h => hk (Finset.mem_range.2 h)
  · exact if_pos (Finset.mem_range.1 hk)

/-- A sum of real numbers is a real number. -/
theorem sum_real (g : ℕ → EReal) (hg : ∀ n, ∃ ρ : ℝ, g n = (ρ : EReal)) (s : Finset ℕ) : ∃ ρ : ℝ, ∑ k ∈ s, g k = (ρ : EReal) := by
  classical
  induction s using Finset.induction_on with
  | empty => exact ⟨0, by rw [Finset.sum_empty, EReal.coe_zero]⟩
  | insert a s ha ih =>
    obtain ⟨x, hx⟩ := hg a
    obtain ⟨y, hy⟩ := ih
    exact ⟨x + y, by rw [Finset.sum_insert ha, hx, hy, EReal.coe_add]⟩

end Cert.Proof.Prep

end
-- ==== Proof.PrepArray.lean ====
/- The preparation of mixer A: what its grid points read, what they carry, and what its three arrays end holding. -/
module

public import proofs.«01_k».proof.Proof.PrepResult
public import proofs.«01_k».proof.Proof.PrepBody
public import proofs.«01_k».proof.Proof.Gen.PrepIdeal.Value
public import Idealize.ShloMosaic.Lib.Pipeline.Value
public import Idealize.ShloMosaic.Lib.Pipeline.Kit
public import Idealize.ShloMosaic.Lib.VecWindow
public import Idealize.ShloMosaic.Lib.Pointwise
public import Idealize.ShloMosaic.Lib.StableHlo.ReadAt
public import Idealize.ShloMosaic.Lib.Routing.OpsOne

@[expose] public section

set_option maxRecDepth 8192

noncomputable section

namespace Cert.Proof.Prep

open Cert.PrepIdeal Cert.PrepIdeal.Gen Idealize.ShloMosaic Idealize.ShloMosaic.TcCoe Idealize.SL.Sem

/-! ## The blocks of a grid point -/

theorem hN : cfg0.N = 32 := N_0

theorem index0 : ∀ t : Fin grid0.N, win0_0.index t 0 = t.val ∧ win0_0.index t 1 = 3 := by decide +kernel
theorem index1 : ∀ t : Fin grid0.N, win0_1.index t 0 = t.val ∧ win0_1.index t 1 = 4 := by decide +kernel
theorem index2 : ∀ t : Fin grid0.N, win0_2.index t 0 = t.val ∧ win0_2.index t 1 = 5 := by decide +kernel
theorem index3 : ∀ t : Fin grid0.N, win0_3.index t 0 = t.val ∧ win0_3.index t 1 = 148 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = t.val := by decide +kernel
theorem index8 : ∀ t : Fin grid0.N, win0_8.index t 0 = t.val ∧ win0_8.index t 1 = 0 := by decide +kernel
theorem index9 : ∀ t : Fin grid0.N, win0_9.index t 0 = 0 ∧ win0_9.index t 1 = t.val := by decide +kernel

variable (m : (ℓ : Loc nD τ sig) → Buf (Elt Ideal) ℓ) (c : Dev nD)

/-- The queries' columns of a grid point. -/
theorem block0 (t : Fin cfg0.N) (r : Fin 512) (k : Fin 1024) (R : Fin 16384) (hR : R.val = t.val * 512 + r.val)
    (C : Fin 19200) (hC : C.val = 3072 + k.val) :
    (X0_0 m c t : Vec Ideal S512x1024 .f32) (ix2 r k) = m ((c : Thread nD τ).loc main_arg0) (ix2 R C) := by
  unfold X0_0 Pipeline.Window.fill
  rw [dif_pos (moved0_0 t _)]
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = R.val; rw [(index0 t).1]; omega
  | ⟨1, _⟩ => show win0_0.index t 1 * 1024 + 1 * k.val = C.val; rw [(index0 t).2]; omega

/-- The keys' columns of a grid point. -/
theorem block1 (t : Fin cfg0.N) (r : Fin 512) (k : Fin 1024) (R : Fin 16384) (hR : R.val = t.val * 512 + r.val)
    (C : Fin 19200) (hC : C.val = 4096 + k.val) :
    (X0_1 m c t : Vec Ideal S512x1024 .f32) (ix2 r k) = m ((c : Thread nD τ).loc main_arg0) (ix2 R C) := by
  unfold X0_1 Pipeline.Window.fill
  rw [dif_pos (moved0_1 t _)]
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t 0 * 512 + 1 * r.val = R.val; rw [(index1 t).1]; omega
  | ⟨1, _⟩ => show win0_1.index t 1 * 1024 + 1 * k.val = C.val; rw [(index1 t).2]; omega

/-- The values' columns of a grid point. -/
theorem block2 (t : Fin cfg0.N) (r : Fin 512) (k : Fin 1024) (R : Fin 16384) (hR : R.val = t.val * 512 + r.val)
    (C : Fin 19200) (hC : C.val = 5120 + k.val) :
    (X0_2 m c t : Vec Ideal S512x1024 .f32) (ix2 r k) = m ((c : Thread nD τ).loc main_arg0) (ix2 R C) := by
  unfold X0_2 Pipeline.Window.fill
  rw [dif_pos (moved0_2 t _)]
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 512 + 1 * r.val = R.val; rw [(index2 t).1]; omega
  | ⟨1, _⟩ => show win0_2.index t 1 * 1024 + 1 * k.val = C.val; rw [(index2 t).2]; omega

/-- The lanes of a grid point that hold the gates. -/
theorem block3 (t : Fin cfg0.N) (r : Fin 512) (k : Fin 128) (R : Fin 16384) (hR : R.val = t.val * 512 + r.val)
    (C : Fin 19200) (hC : C.val = 18944 + k.val) :
    (iblk m c 3 t : Vec Ideal S512x128 .f32) (ix2 r k) = m ((c : Thread nD τ).loc main_arg0) (ix2 R C) := by
  unfold iblk
  rw [View.read_apply]
  show V m c main_arg0 _ = _
  rw [V_main_arg0]
  refine congrArg (m ((c : Thread nD τ).loc main_arg0)) (funext fun a => Fin.ext ?_)
  match a with
  | ⟨0, _⟩ => show win0_3.index t 0 * 512 + 1 * r.val = R.val; rw [(index3 t).1]; omega
  | ⟨1, _⟩ => show win0_3.index t 1 * 128 + 1 * k.val = C.val; rw [(index3 t).2]; omega

/-- An update of the biases lands at lane 64 and on. -/
theorem lands (idx : IVec S2 32) (h : ∀ i, idx i = if (i 0).val = 0 then 0#32 else 64#32) (j : S8.Idx) (k : Fin 128) :
    scatter_S1x128_S2_S8_0_0_01_0.resultIdx? j idx = some (ix2 (0 : Fin 1) k) ↔ 64 + (j 0).val = k.val := by
  have hs0 : scatter_S1x128_S2_S8_0_0_01_0.start j idx (0 : Fin 2) = 0 := by
    unfold ScatterDims.start
    simp only [h]
    rfl
  have hs1 : scatter_S1x128_S2_S8_0_0_01_0.start j idx (1 : Fin 2) = 64 := by
    unfold ScatterDims.start
    simp only [h]
    rfl
  have hw0 : scatter_S1x128_S2_S8_0_0_01_0.window j (0 : Fin 2) = 0 := rfl
  have hw1 : scatter_S1x128_S2_S8_0_0_01_0.window j (1 : Fin 2) = (j 0).val := rfl
  refine (Routing.resultIdx?_ix2 scatter_S1x128_S2_S8_0_0_01_0 j idx (0 : Fin 1) k).trans ?_
  rw [hs0, hs1, hw0, hw1]
  show _ ∧ _ ↔ _
  constructor
  · rintro ⟨-, h⟩; omega
  · intro h; exact ⟨rfl, by omega⟩

/-- Where the biases are put. -/
theorem starts (i : S2.Idx) :
    concatenate S2 0 [⟨S1, broadcastInDim S1 ![] bcast_S_S1 (constantI S_ 32 0#32)⟩,
        ⟨S1, broadcastInDim S1 ![] bcast_S_S1 (constantI S_ 32 64#32)⟩] concatenates_S1_S1_S2_d0 i
      = if (i 0).val = 0 then 0#32 else 64#32 := by
  obtain ⟨n, rfl⟩ : ∃ n : Fin 2, i = ix1 n := ⟨i 0, funext fun a => by match a with | ⟨0, _⟩ => rfl⟩
  match n with
  | ⟨0, _⟩ => rfl
  | ⟨1, _⟩ => rfl

/-- The biases of the gates, at the lanes of the heads. -/
theorem block4 (t : Fin cfg0.N) (h : Fin 8) :
    (iblk m c 4 t : Vec Ideal S1x128 .f32) (ix2 (0 : Fin 1) (lane h)) = m ((c : Thread nD τ).loc main_arg1) (ix1 h) := by
  have e : V (F := Ideal) m c main_v4 = Host.scatter scatter_S1x128_S2_S8_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 64#32)⟩] concatenates_S1_S1_S2_d0)
      (m ((c : Thread nD τ).loc main_arg1)) := by
    unfold V
    after_reads_simp
    rfl
  refine Eq.trans ?_ ((congrFun e (ix2 (0 : Fin 1) (lane h))).trans
    (Routing.scatter_set_hit _ _ _ _ _ _ (fun j hj => congrArg (m ((c : Thread nD τ).loc main_arg1)) (funext fun a => Fin.ext ?_)) (ix1 h)
      ((lands _ starts _ _).2 rfl)))
  · unfold iblk
    rw [View.read_apply]
    show V m c main_v4 _ = _
    refine congrArg (V m c main_v4) (funext fun a => Fin.ext ?_)
    match a with
    | ⟨0, _⟩ => show win0_4.index t 0 * 1 + 1 * 0 = 0; rw [(index4 t).1]
    | ⟨1, _⟩ => show win0_4.index t 1 * 128 + 1 * (lane h).val = (lane h).val; rw [(index4 t).2]; omega
  · have := (lands _ starts j (lane h)).1 hj
    match a with
    | ⟨0, _⟩ => show (j 0).val = h.val; have e : (lane h).val = 64 + h.val := rfl; omega

/-- The queries' weight. -/
theorem block5 (t : Fin cfg0.N) (k : Fin 128) :
    (iblk m c 5 t : Vec Ideal S1x128 .f32) (ix2 (0 : Fin 1) k) = m ((c : Thread nD τ).loc main_arg2) (ix1 k) := by
  have h : V (F := Ideal) m c main_v5 (ix2 (0 : Fin 1) k) = m ((c : Thread nD τ).loc main_arg2) (ix1 k) := by
    unfold V
    after_reads_at
  rw [← h]
  unfold iblk
  rw [View.read_apply]
  show V m c main_v5 _ = _
  refine congrArg (V m c main_v5) (funext fun a => Fin.ext ?_)
  match a with
  | ⟨0, _⟩ => show win0_5.index t 0 * 1 + 1 * 0 = 0; rw [(index5 t).1]
  | ⟨1, _⟩ => show win0_5.index t 1 * 128 + 1 * k.val = k.val; rw [(index5 t).2]; omega

/-- The keys' weight. -/
theorem block6 (t : Fin cfg0.N) (k : Fin 128) :
    (iblk m c 6 t : Vec Ideal S1x128 .f32) (ix2 (0 : Fin 1) k) = m ((c : Thread nD τ).loc main_arg3) (ix1 k) := by
  have h : V (F := Ideal) m c main_v6 (ix2 (0 : Fin 1) k) = m ((c : Thread nD τ).loc main_arg3) (ix1 k) := by
    unfold V
    after_reads_at
  rw [← h]
  unfold iblk
  rw [View.read_apply]
  show V m c main_v6 _ = _
  refine congrArg (V m c main_v6) (funext fun a => Fin.ext ?_)
  match a with
  | ⟨0, _⟩ => show win0_6.index t 0 * 1 + 1 * 0 = 0; rw [(index6 t).1]
  | ⟨1, _⟩ => show win0_6.index t 1 * 128 + 1 * k.val = k.val; rw [(index6 t).2]; omega

/-! ## What a grid point computes -/

/-- What a grid point starts from: zero where it begins a batch, else what the one before carried on. -/
def before (t : Fin cfg0.N) : Vec Ideal S8x128 .f32 :=
  if t.val % 16 = 0 then start else (outsAt0 m c (t.val - 1) (Nat.lt_of_le_of_lt (Nat.sub_le _ _) t.isLt)).2.2.2

theorem queries_at (t : Fin cfg0.N) : (outsAt0 m c t.val t.isLt).1
    = View.canon (heads.flatMap (storesQ (X0_0 m c t) (iblk m c 5 t) (turned1 (iblk m c 3 t) (iblk m c 4 t) (before m c t))
        (turned2 (iblk m c 3 t) (iblk m c 4 t) (before m c t)) (turned3 (iblk m c 3 t) (iblk m c 4 t) (before m c t)))) := by
  unfold before
  by_cases h : t.val % 16 = 0
  · rw [if_pos h, outsAt0_A m c t h]
    dsimp only
    exact queries_A ..
  · rw [if_neg h, outsAt0_B m c t h]
    dsimp only
    exact queries_B ..

theorem keys_at (t : Fin cfg0.N) : (outsAt0 m c t.val t.isLt).2.1
    = View.canon (heads.flatMap (storesK (X0_1 m c t) (iblk m c 6 t) (part1 (iblk m c 3 t) (iblk m c 4 t) (before m c t))
        (part2 (iblk m c 3 t) (iblk m c 4 t) (before m c t)) (part3 (iblk m c 3 t) (iblk m c 4 t) (before m c t)))) := by
  unfold before
  by_cases h : t.val % 16 = 0
  · rw [if_pos h, outsAt0_A m c t h]
    dsimp only
    exact keys_A ..
  · rw [if_neg h, outsAt0_B m c t h]
    dsimp only
    exact keys_B ..

theorem values_at (t : Fin cfg0.N) : (outsAt0 m c t.val t.isLt).2.2.1 = View.canon (heads.flatMap (storesV (X0_2 m c t))) := by
  by_cases h : t.val % 16 = 0
  · rw [outsAt0_A m c t h]
    dsimp only
    exact values_A ..
  · rw [outsAt0_B m c t h]
    dsimp only
    exact values_B ..

theorem carried_at (t : Fin cfg0.N) : (outsAt0 m c t.val t.isLt).2.2.2
    = carried (iblk m c 3 t) (iblk m c 4 t) (before m c t) := by
  unfold before
  by_cases h : t.val % 16 = 0
  · rw [if_pos h, outsAt0_A m c t h]
    dsimp only
    exact carried_A ..
  · rw [if_neg h, outsAt0_B m c t h]
    dsimp only
    exact carried_B ..

/-! ## The running sums -/

theorem start_apply (j : Fin 8) (l : Fin 128) : start (ix2 j l) = 0 := by
  unfold start
  pointwise [k0_pay3]

/-- The logarithms a grid point adds up are those of its tokens' gates. -/
theorem logs_at (t : Fin cfg0.N) (r : Fin 512) (h : Fin 8) :
    logs (iblk m c 3 t) (iblk m c 4 t) r (lane h)
      = gate (m ((c : Thread nD τ).loc main_arg0)) (m ((c : Thread nD τ).loc main_arg1)) (t.val * 512 + r.val) h := by
  have hlt : t.val < 32 := by have := t.isLt; have := hN; omega
  have hn : t.val * 512 + r.val < 16384 := by omega
  unfold logs gate
  rw [dif_pos hn, block4 m c t h, block3 m c t r (lane h) ⟨t.val * 512 + r.val, hn⟩ rfl ⟨19008 + h.val, by omega⟩
    (by show 19008 + h.val = 18944 + (64 + h.val); omega)]

/-- The precondition: the gates' logarithms are real numbers. -/
def Real_ : Prop := ∀ (n : ℕ) (h : Fin 8), ∃ ρ : ℝ,
  gate (m ((c : Thread nD τ).loc main_arg0)) (m ((c : Thread nD τ).loc main_arg1)) n h = (ρ : EReal)

variable (hr : Real_ m c)

include hr

theorem logs_real (t : Fin cfg0.N) (h : Fin 8) (k : Fin 512) : ∃ ρ : ℝ, logs (iblk m c 3 t) (iblk m c 4 t) k (lane h) = (ρ : EReal) := by
  rw [logs_at]
  exact hr _ _

/-- A running sum, from what the grid point starts from. -/
theorem total_of (t : Fin cfg0.N) (h : Fin 8)
    (hb : before m c t (ix2 (0 : Fin 8) (lane h)) = ∑ k ∈ Finset.range (t.val % 16 * 512),
      gate (m ((c : Thread nD τ).loc main_arg0)) (m ((c : Thread nD τ).loc main_arg1)) (t.val / 16 * 8192 + k) h) (r : Fin 512) :
    total (iblk m c 3 t) (iblk m c 4 t) (before m c t) r (lane h)
      = sofar (m ((c : Thread nD τ).loc main_arg0)) (m ((c : Thread nD τ).loc main_arg1)) (t.val * 512 + r.val) h := by
  have e1 : (t.val * 512 + r.val) % 8192 + 1 = t.val % 16 * 512 + (r.val + 1) := by omega
  have e2 : (t.val * 512 + r.val) / 8192 = t.val / 16 := by omega
  unfold total sofar
  rw [hb, e1, e2, Finset.sum_range_add, add_comm]
  refine congrArg (_ + ·) ?_
  simp only [logs_at]
  refine (sum_upto (fun n => gate (m ((c : Thread nD τ).loc main_arg0)) (m ((c : Thread nD τ).loc main_arg1)) (t.val * 512 + n) h) r).trans
    (Finset.sum_congr rfl fun k _ => congrArg (fun n => gate _ _ n h) ?_)
  omega

/-- What a grid point starts from: the sum over the batch so far. -/
theorem before_apply (n : ℕ) (hn : n < cfg0.N) (h : Fin 8) :
    before m c ⟨n, hn⟩ (ix2 (0 : Fin 8) (lane h)) = ∑ k ∈ Finset.range (n % 16 * 512),
      gate (m ((c : Thread nD τ).loc main_arg0)) (m ((c : Thread nD τ).loc main_arg1)) (n / 16 * 8192 + k) h := by
  induction n with
  | zero =>
    unfold before
    rw [if_pos (Nat.zero_mod _), start_apply, Nat.zero_mod, Nat.zero_mul, Finset.range_zero, Finset.sum_empty]
  | succ n ih =>
    by_cases h0 : (n + 1) % 16 = 0
    · unfold before
      rw [if_pos h0, start_apply, h0, Nat.zero_mul, Finset.range_zero, Finset.sum_empty]
    · have hn' : n < cfg0.N := by omega
      have e : before m c ⟨n + 1, hn⟩ = (outsAt0 m c n hn').2.2.2 := by
        unfold before
        rw [if_neg h0]
        rfl
      rw [e, carried_at m c ⟨n, hn'⟩, carried_apply _ _ _ _ _ (logs_real m c hr ⟨n, hn'⟩ h),
        total_of m c hr ⟨n, hn'⟩ h (ih hn') 511]
      unfold sofar
      have e1 : (n * 512 + 511) % 8192 + 1 = (n + 1) % 16 * 512 := by omega
      have e2 : (n * 512 + 511) / 8192 = (n + 1) / 16 := by omega
      show ∑ k ∈ Finset.range ((n * 512 + 511) % 8192 + 1), gate _ _ ((n * 512 + 511) / 8192 * 8192 + k) h = _
      rw [e1, e2]

/-- A running sum is the sum over its token's batch up to the token. -/
theorem total_apply (t : Fin cfg0.N) (h : Fin 8) (r : Fin 512) :
    total (iblk m c 3 t) (iblk m c 4 t) (before m c t) r (lane h)
      = sofar (m ((c : Thread nD τ).loc main_arg0)) (m ((c : Thread nD τ).loc main_arg1)) (t.val * 512 + r.val) h :=
  total_of m c hr t h (before_apply m c hr t.val t.isLt h) r

theorem total_real (t : Fin cfg0.N) (h : Fin 8) (r : Fin 512) :
    ∃ ρ : ℝ, total (iblk m c 3 t) (iblk m c 4 t) (before m c t) r (lane h) = (ρ : EReal) := by
  rw [total_apply m c hr]
  exact sum_real _ (fun n => hr _ h) _

/-! ## The arrays -/

/-- What a grid point writes of the queries. -/
theorem flushedQ (t : Fin cfg0.N) (n : Fin 2048) (r : Fin 512) (T : Fin 16384) (hT : T.val = t.val * 512 + r.val) :
    (dats m 0 c).flushed 7 t (ix2 n r) = query (m ((c : Thread nD τ).loc main_arg0)) (m ((c : Thread nD τ).loc main_arg1))
      (m ((c : Thread nD τ).loc main_arg2)) T n := by
  rw [Value.flushed7]
  show (outsAt0 m c t.val t.isLt).1 (ix2 n r) = _
  rw [queries_at]
  unfold query
  split
  case isTrue hf =>
    rw [queries_head _ _ _ _ _ (headOf n) ⟨n.val % 256, hf⟩ r n (by show n.val = 256 * (n.val / 256) + n.val % 256; omega), block5]
    refine congrArg (fun z => rms z _ * _) (funext fun k => ?_)
    exact block0 m c t r (col (headOf n) k) T hT _ rfl
  case isFalse hf =>
    rw [queries_extra _ _ _ _ _ (headOf n) ⟨n.val % 256 - 128, by omega⟩ r n
        (by show n.val = 256 * (n.val / 256) + 128 + (n.val % 256 - 128); omega),
      turned1_apply, turned2_apply, turned3_apply, part1_apply _ _ _ _ _ (logs_real m c hr t _),
      part2_apply _ _ _ _ _ (logs_real m c hr t _) (total_real m c hr t _ r),
      part3_apply _ _ _ _ _ (logs_real m c hr t _) (total_real m c hr t _ r), total_apply m c hr, ← hT]

/-- What a grid point writes of the keys. -/
theorem flushedK (t : Fin cfg0.N) (r : Fin 512) (n : Fin 2048) (T : Fin 16384) (hT : T.val = t.val * 512 + r.val) :
    (dats m 0 c).flushed 8 t (ix2 r n) = key (m ((c : Thread nD τ).loc main_arg0)) (m ((c : Thread nD τ).loc main_arg1))
      (m ((c : Thread nD τ).loc main_arg3)) T n := by
  rw [Value.flushed8]
  show (outsAt0 m c t.val t.isLt).2.1 (ix2 r n) = _
  rw [keys_at]
  unfold key
  split
  case isTrue hf =>
    rw [keys_head _ _ _ _ _ (headOf n) ⟨n.val % 256, hf⟩ r n (by show n.val = 256 * (n.val / 256) + n.val % 256; omega), block6]
    refine congrArg (fun z => rms z _ * _) (funext fun k => ?_)
    exact block1 m c t r (col (headOf n) k) T hT _ rfl
  case isFalse hf =>
    rw [keys_extra _ _ _ _ _ (headOf n) ⟨n.val % 256 - 128, by omega⟩ r n
        (by show n.val = 256 * (n.val / 256) + 128 + (n.val % 256 - 128); omega),
      part1_apply _ _ _ _ _ (logs_real m c hr t _),
      part2_apply _ _ _ _ _ (logs_real m c hr t _) (total_real m c hr t _ r),
      part3_apply _ _ _ _ _ (logs_real m c hr t _) (total_real m c hr t _ r), total_apply m c hr, ← hT]

omit hr in
/-- What a grid point writes of the values. -/
theorem flushedV (t : Fin cfg0.N) (n : Fin 1024) (r : Fin 512) (T : Fin 16384) (hT : T.val = t.val * 512 + r.val) :
    (dats m 0 c).flushed 9 t (ix2 n r) = value (m ((c : Thread nD τ).loc main_arg0)) T n := by
  rw [Value.flushed9]
  show (outsAt0 m c t.val t.isLt).2.2.1 (ix2 n r) = _
  rw [values_at, values_head _ (⟨n.val / 128, by omega⟩ : Fin 8) (⟨n.val % 128, by omega⟩ : Fin 128) r n
    (by show n.val = 128 * (n.val / 128) + n.val % 128; omega)]
  exact block2 m c t r _ T hT _ (by show 5120 + n.val = 5120 + (128 * (n.val / 128) + n.val % 128); omega)

/-- The array of queries. -/
def resultQ : FVec Ideal S2048x16384 .bf16 := fun i =>
  query (m ((c : Thread nD τ).loc main_arg0)) (m ((c : Thread nD τ).loc main_arg1)) (m ((c : Thread nD τ).loc main_arg2)) (i 1) (i 0)

/-- The array of keys. -/
def resultK : FVec Ideal S16384x2048 .bf16 := fun i =>
  key (m ((c : Thread nD τ).loc main_arg0)) (m ((c : Thread nD τ).loc main_arg1)) (m ((c : Thread nD τ).loc main_arg3)) (i 0) (i 1)

/-- The array of values. -/
def resultV : FVec Ideal S1024x16384 .bf16 := fun i => value (m ((c : Thread nD τ).loc main_arg0)) (i 1) (i 0)

/-- A grid point writes back its block of the queries. -/
theorem blockQ (t : Fin cfg0.N) (_ : (cfg0.win 7).flush t = true) :
    (dats m 0 c).flushed 7 t = ((cfg0.win 7).blk t).view.read (Elt Ideal) (resultQ m c) := by
  have hlt : t.val < 32 := by have := t.isLt; have := hN; omega
  funext y
  rw [View.read_apply]
  obtain ⟨n, hn⟩ : ∃ n : Fin 2048, n = y 0 := ⟨y 0, rfl⟩
  obtain ⟨r, hr'⟩ : ∃ r : Fin 512, r = y 1 := ⟨y 1, rfl⟩
  have hy : y = ix2 n r := funext fun a => by
    match a with
    | ⟨0, _⟩ => exact hn.symm
    | ⟨1, _⟩ => exact hr'.symm
  rw [hy]
  refine (flushedQ m c hr t n r ⟨t.val * 512 + r.val, by omega⟩ rfl).trans ?_
  refine congrArg (resultQ m c) (a₁ := ix2 n (⟨t.val * 512 + r.val, by omega⟩ : Fin 16384)) (funext fun a => Fin.ext ?_)
  match a with
  | ⟨0, _⟩ => show _ = win0_7.index t 0 * 2048 + 1 * n.val; rw [(index7 t).1, one_mul, zero_mul, zero_add]; rfl
  | ⟨1, _⟩ => show _ = win0_7.index t 1 * 512 + 1 * r.val; rw [(index7 t).2, one_mul]; rfl

/-- A grid point writes back its block of the keys. -/
theorem blockK (t : Fin cfg0.N) (_ : (cfg0.win 8).flush t = true) :
    (dats m 0 c).flushed 8 t = ((cfg0.win 8).blk t).view.read (Elt Ideal) (resultK m c) := by
  have hlt : t.val < 32 := by have := t.isLt; have := hN; omega
  funext y
  rw [View.read_apply]
  obtain ⟨r, hr'⟩ : ∃ r : Fin 512, r = y 0 := ⟨y 0, rfl⟩
  obtain ⟨n, hn⟩ : ∃ n : Fin 2048, n = y 1 := ⟨y 1, rfl⟩
  have hy : y = ix2 r n := funext fun a => by
    match a with
    | ⟨0, _⟩ => exact hr'.symm
    | ⟨1, _⟩ => exact hn.symm
  rw [hy]
  refine (flushedK m c hr t r n ⟨t.val * 512 + r.val, by omega⟩ rfl).trans ?_
  refine congrArg (resultK m c) (a₁ := ix2 (⟨t.val * 512 + r.val, by omega⟩ : Fin 16384) n) (funext fun a => Fin.ext ?_)
  match a with
  | ⟨0, _⟩ => show _ = win0_8.index t 0 * 512 + 1 * r.val; rw [(index8 t).1, one_mul]; rfl
  | ⟨1, _⟩ => show _ = win0_8.index t 1 * 2048 + 1 * n.val; rw [(index8 t).2, one_mul, zero_mul, zero_add]; rfl

omit hr in
/-- A grid point writes back its block of the values. -/
theorem blockV (t : Fin cfg0.N) (_ : (cfg0.win 9).flush t = true) :
    (dats m 0 c).flushed 9 t = ((cfg0.win 9).blk t).view.read (Elt Ideal) (resultV m c) := by
  have hlt : t.val < 32 := by have := t.isLt; have := hN; omega
  funext y
  rw [View.read_apply]
  obtain ⟨n, hn⟩ : ∃ n : Fin 1024, n = y 0 := ⟨y 0, rfl⟩
  obtain ⟨r, hr'⟩ : ∃ r : Fin 512, r = y 1 := ⟨y 1, rfl⟩
  have hy : y = ix2 n r := funext fun a => by
    match a with
    | ⟨0, _⟩ => exact hn.symm
    | ⟨1, _⟩ => exact hr'.symm
  rw [hy]
  refine (flushedV m c t n r ⟨t.val * 512 + r.val, by omega⟩ rfl).trans ?_
  refine congrArg (resultV m c) (a₁ := ix2 n (⟨t.val * 512 + r.val, by omega⟩ : Fin 16384)) (funext fun a => Fin.ext ?_)
  match a with
  | ⟨0, _⟩ => show _ = win0_9.index t 0 * 1024 + 1 * n.val; rw [(index9 t).1, one_mul, zero_mul, zero_add]; rfl
  | ⟨1, _⟩ => show _ = win0_9.index t 1 * 512 + 1 * r.val; rw [(index9 t).2, one_mul]; rfl

/-- So the array of queries ends holding them: the blocks cover it. -/
theorem finalQ : (dats m 0 c).arrAt 7 cfg0.N = resultQ m c :=
  (dats m 0 c).arrAt_eq_of_cover 7 _ (blockQ m c hr) fun i => by
    have h0 : (i 0 : Nat) < 2048 := (i 0).isLt
    have h1 : (i 1 : Nat) < 16384 := (i 1).isLt
    refine ⟨⟨(i 1).val / 512, by rw [hN]; omega⟩, flush0_7 _, ?_⟩
    generalize hT : (⟨(i 1).val / 512, _⟩ : Fin cfg0.N) = T
    have hv : T.val = (i 1).val / 512 := by rw [← hT]
    show i ∈ ((View.whole main_v7_0).slice (win0_7.rect T)).set
    rw [View.set_slice_whole, Rect.mem_set_unit]
    intro a
    match a with
    | ⟨0, _⟩ =>
      show win0_7.index T 0 * 2048 ≤ (i 0 : Nat) ∧ (i 0 : Nat) < win0_7.index T 0 * 2048 + 2048
      rw [(index7 T).1]; omega
    | ⟨1, _⟩ =>
      show win0_7.index T 1 * 512 ≤ (i 1 : Nat) ∧ (i 1 : Nat) < win0_7.index T 1 * 512 + 512
      rw [(index7 T).2]; omega

/-- So the array of keys ends holding them. -/
theorem finalK : (dats m 0 c).arrAt 8 cfg0.N = resultK m c :=
  (dats m 0 c).arrAt_eq_of_cover 8 _ (blockK m c hr) fun i => by
    have h0 : (i 0 : Nat) < 16384 := (i 0).isLt
    have h1 : (i 1 : Nat) < 2048 := (i 1).isLt
    refine ⟨⟨(i 0).val / 512, by rw [hN]; omega⟩, flush0_8 _, ?_⟩
    generalize hT : (⟨(i 0).val / 512, _⟩ : Fin cfg0.N) = T
    have hv : T.val = (i 0).val / 512 := by rw [← hT]
    show i ∈ ((View.whole main_v7_1).slice (win0_8.rect T)).set
    rw [View.set_slice_whole, Rect.mem_set_unit]
    intro a
    match a with
    | ⟨0, _⟩ =>
      show win0_8.index T 0 * 512 ≤ (i 0 : Nat) ∧ (i 0 : Nat) < win0_8.index T 0 * 512 + 512
      rw [(index8 T).1]; omega
    | ⟨1, _⟩ =>
      show win0_8.index T 1 * 2048 ≤ (i 1 : Nat) ∧ (i 1 : Nat) < win0_8.index T 1 * 2048 + 2048
      rw [(index8 T).2]; omega

omit hr in
/-- So the array of values ends holding them. -/
theorem finalV : (dats m 0 c).arrAt 9 cfg0.N = resultV m c :=
  (dats m 0 c).arrAt_eq_of_cover 9 _ (blockV m c) fun i => by
    have h0 : (i 0 : Nat) < 1024 := (i 0).isLt
    have h1 : (i 1 : Nat) < 16384 := (i 1).isLt
    refine ⟨⟨(i 1).val / 512, by rw [hN]; omega⟩, flush0_9 _, ?_⟩
    generalize hT : (⟨(i 1).val / 512, _⟩ : Fin cfg0.N) = T
    have hv : T.val = (i 1).val / 512 := by rw [← hT]
    show i ∈ ((View.whole main_v7_2).slice (win0_9.rect T)).set
    rw [View.set_slice_whole, Rect.mem_set_unit]
    intro a
    match a with
    | ⟨0, _⟩ =>
      show win0_9.index T 0 * 1024 ≤ (i 0 : Nat) ∧ (i 0 : Nat) < win0_9.index T 0 * 1024 + 1024
      rw [(index9 T).1]; omega
    | ⟨1, _⟩ =>
      show win0_9.index T 1 * 512 ≤ (i 1 : Nat) ∧ (i 1 : Nat) < win0_9.index T 1 * 512 + 512
      rw [(index9 T).2]; omega

end Cert.Proof.Prep

end
-- ==== Proof.PrepRef.lean ====
/- The preparation of mixer A: the reference's three arrays, entry by entry. -/
module

public import proofs.«01_k».proof.Proof.PrepResult
public import proofs.«01_k».proof.Proof.Consts
public import proofs.«01_k».proof.Proof.Gen.PrepRefIdeal.Run
public import Idealize.ShloMosaic.Lib.Pointwise

@[expose] public section

set_option maxRecDepth 8192

noncomputable section

namespace Cert.Proof.Prep.Ref

open Cert.PrepRefIdeal Cert.PrepRefIdeal.Gen Idealize.ShloMosaic Idealize.ShloMosaic.TcCoe Idealize.SL.Sem

variable (g : FVec Ideal S16384x19200 .f32) (b : FVec Ideal S8 .f32) (w : FVec Ideal S128 .f32)

/-! ## The reference's arrays, as it computes them -/

/-- The negated gates. -/
def negated : FVec Ideal S16384x8 .f32 :=
  Host.negf (addf (extractStridedSlice S16384x8 ![0, 19008] g slices_S16384x19200_S16384x8_0_19008)
    (broadcastInDim S16384x8 ![0, 1] bcast_S1x8_S16384x8_0_1 (broadcastInDim S1x8 ![1] bcast_S8_S1x8_1 b)))

/-- Zero at every gate. -/
def zeros : FVec Ideal S16384x8 .f32 := broadcastInDim S16384x8 ![] bcast_S_S16384x8 (constant S_ .f32 0x00000000#32)

/-- The gates' logarithms, from the negated gates. -/
def logOf (x : FVec Ideal S16384x8 .f32) : FVec Ideal S16384x8 .f32 :=
  Host.negf (select (cmpf .une (subf x zeros) (subf x zeros)) (addf x zeros)
    (addf (maximumf x zeros) (Host.log1p (Host.exp (Host.negf (Host.absf (subf x zeros)))))))

/-- The gates' logarithms, batch by batch. -/
def logs : FVec Ideal S2x8192x8 .f32 := shapeCast S2x8192x8 (logOf (negated g b)) shapeCasts_S16384x8_S2x8192x8

/-- Their sums along a batch. -/
def sums (x : FVec Ideal S2x8192x8 .f32) : FVec Ideal S2x8192x8 .f32 :=
  Host.reduceWindowAdd ![1, 8192, 1] ![1, 1, 1] ![0, 8191, 0] ![0, 0, 0] x
    (broadcastInDim S_ ![] bcast_S_S_ (constant S_ .f32 0x00000000#32)) reduceWindows_S2x8192x8_S2x8192x8_w1s1p0_0_w8192s1p8191_0_w1s1p0_0 h_S_

/-- The sums in units of the logarithm of two. -/
def units (x : FVec Ideal S2x8192x8 .f32) : FVec Ideal S16384x8x1 .f32 :=
  Host.divf (shapeCast S16384x8x1 x shapeCasts_S2x8192x8_S16384x8x1)
    (broadcastInDim S16384x8x1 ![] bcast_S_S16384x8x1 (Host.log (constant S_ .f32 0x40000000#32)))

/-- Heads, normalised and weighted. -/
def norm (x : FVec Ideal S16384x8x128 .f32) : FVec Ideal S16384x8x128 .f32 :=
  mulf (mulf x (broadcastInDim S16384x8x128 ![0, 1, 2] bcast_S16384x8x1_S16384x8x128_0_1_2 (Host.rsqrt (addf
      (Host.divf (broadcastInDim S16384x8x1 ![0, 1] bcast_S16384x8_S16384x8x1_0_1
          (Host.reduceAdd (mulf x x) (constant S_ .f32 0x00000000#32) reducesTo_S16384x8x128_S16384x8_d2 h_S_))
        (broadcastInDim S16384x8x1 ![] bcast_S_S16384x8x1 (constant S_ .f32 0x43000000#32)))
      (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 w))

/-- The queries' heads. -/
def headsQ : FVec Ideal S16384x8x128 .f32 :=
  shapeCast S16384x8x128 (extractStridedSlice S16384x1024 ![0, 3072] g slices_S16384x19200_S16384x1024_0_3072) shapeCasts_S16384x1024_S16384x8x128

/-- The keys' heads. -/
def headsK : FVec Ideal S16384x8x128 .f32 :=
  shapeCast S16384x8x128 (extractStridedSlice S16384x1024 ![0, 4096] g slices_S16384x19200_S16384x1024_0_4096) shapeCasts_S16384x1024_S16384x8x128

/-- The queries, scaled for logarithms to the base two. -/
def scaled (x : FVec Ideal S16384x8x128 .f32) : FVec Ideal S16384x8x128 .f32 :=
  Host.divf (mulf x (broadcastInDim S16384x8x128 ![] bcast_S_S16384x8x128 (constant S_ .f32 0x3DB504F3#32)))
    (broadcastInDim S16384x8x128 ![] bcast_S_S16384x8x128 (Host.log (constant S_ .f32 0x40000000#32)))

/-- Keys with their extra numbers. -/
def joinK (x : FVec Ideal S16384x8x128 .f32) (u : FVec Ideal S16384x8x1 .f32) : FVec Ideal S16384x8x256 .f32 :=
  concatenate S16384x8x256 2 [⟨S16384x8x128, x⟩,
    ⟨S16384x8x3, broadcastInDim S16384x8x3 ![] bcast_S_S16384x8x3 (constant (F := Ideal) S_ .f32 0x3F800000#32)⟩,
    ⟨S16384x8x1, Host.negf u⟩,
    ⟨S16384x8x2, broadcastInDim S16384x8x2 ![] bcast_S_S16384x8x2 (constant (F := Ideal) S_ .f32 0x00000000#32)⟩,
    ⟨S16384x8x122, broadcastInDim S16384x8x122 ![] bcast_S_S16384x8x122 (constant (F := Ideal) S_ .f32 0x00000000#32)⟩]
    concatenates_S16384x8x128_S16384x8x3_S16384x8x1_S16384x8x2_S16384x8x122_S16384x8x256_d2

/-- Queries with their extra numbers. -/
def joinQ (x : FVec Ideal S16384x8x128 .f32) (u : FVec Ideal S16384x8x1 .f32) : FVec Ideal S16384x8x256 .f32 :=
  concatenate S16384x8x256 2 [⟨S16384x8x128, x⟩, ⟨S16384x8x1, u⟩,
    ⟨S16384x8x2, broadcastInDim S16384x8x2 ![] bcast_S_S16384x8x2 (constant (F := Ideal) S_ .f32 0x00000000#32)⟩,
    ⟨S16384x8x3, broadcastInDim S16384x8x3 ![] bcast_S_S16384x8x3 (constant (F := Ideal) S_ .f32 0x3F800000#32)⟩,
    ⟨S16384x8x122, broadcastInDim S16384x8x122 ![] bcast_S_S16384x8x122 (constant (F := Ideal) S_ .f32 0x00000000#32)⟩]
    concatenates_S16384x8x128_S16384x8x1_S16384x8x2_S16384x8x3_S16384x8x122_S16384x8x256_d2

theorem keys_eq (m : (ℓ : Loc nD τ sig) → Buf (Elt Ideal) ℓ) (c : Dev nD) :
    Value.res_main_v57 (F := Ideal) m c = shapeCast S16384x2048
      (joinK (norm (m ((c.tc : Thread nD τ).loc main_arg3)) (headsK (m ((c.tc : Thread nD τ).loc main_arg0))))
        (units (sums (logs (m ((c.tc : Thread nD τ).loc main_arg0)) (m ((c.tc : Thread nD τ).loc main_arg1)))))) shapeCasts_S16384x8x256_S16384x2048 := rfl

theorem queries_eq (m : (ℓ : Loc nD τ sig) → Buf (Elt Ideal) ℓ) (c : Dev nD) :
    Value.res_main_v55 (F := Ideal) m c = shapeCast S2048x16384 (transpose S8x256x16384 [1, 2, 0]
      (joinQ (scaled (norm (m ((c.tc : Thread nD τ).loc main_arg2)) (headsQ (m ((c.tc : Thread nD τ).loc main_arg0)))))
        (units (sums (logs (m ((c.tc : Thread nD τ).loc main_arg0)) (m ((c.tc : Thread nD τ).loc main_arg1))))))
      transposes_S16384x8x256_S8x256x16384_1_2_0) shapeCasts_S8x256x16384_S2048x16384 := rfl

/-! ## The sums along a batch -/

/-- A position of the window of the sums, as an index. -/
theorem window_symm (n : Fin (⟨3, ![1, 8192, 1]⟩ : Shape).numel) (hn : n.val < 8192) :
    (⟨3, ![1, 8192, 1]⟩ : Shape).rowMajor.symm n = ix3 (0 : Fin 1) (⟨n.val, hn⟩ : Fin 8192) (0 : Fin 1) :=
  ((⟨3, ![1, 8192, 1]⟩ : Shape).rowMajor.symm_apply_eq).2 (Fin.ext (by
    rw [Shape.rowMajor_val_three]
    show n.val = (0 * 8192 + n.val) * 1 + 0
    omega))

theorem window_numel : (⟨3, ![1, 8192, 1]⟩ : Shape).numel = 8192 := by simp [Shape.numel, Fin.prod_univ_succ]

/-- A sum over a window that ends at a position, and starts with zeros before the first, is the sum up to the position. -/
theorem window_sum (f : ℕ → EReal) (N j : ℕ) (hj : j < N + 1) :
    ∑ n ∈ Finset.range (N + 1), (if N ≤ j + n then f (j + n - N) else 0) = ∑ k ∈ Finset.range (j + 1), f k := by
  have e : N + 1 = (N - j) + (j + 1) := by omega
  rw [e, Finset.sum_range_add, Finset.sum_eq_zero (fun n hn => if_neg (by have := Finset.mem_range.1 hn; omega)), zero_add]
  refine Finset.sum_congr rfl fun k _ => ?_
  rw [if_pos (by omega)]
  exact congrArg f (by omega)

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A window sum at an entry: the initial value, and what each position of the window holds. -/
theorem reduceWindow_add {s t u : Shape} (window strides lo hi : Fin s.rank → ℕ) (x : s.Idx → EReal) (init : u.Idx → EReal)
    (h : s.ReduceWindows window strides lo hi t) (hu : 0 < u.numel) (j : t.Idx) :
    Host.reduceWindow (fun p q : EReal => p + q) window strides lo hi x init h hu j
      = init (Shape.Idx.first hu) + ∑ n : Fin (⟨s.rank, window⟩ : Shape).numel,
        if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else init (Shape.Idx.first hu) := by
  rw [← List.sum_ofFn, List.ofFn_eq_map, ← foldl_add]
  unfold Host.reduceWindow
  dsimp only
  refine congrArg (fun f => List.foldl f _ _) (funext fun r => funext fun n => congrArg (r + ·) ?_)
  split <;> rfl

theorem sums_eq (x : FVec Ideal S2x8192x8 .f32) : sums x = Host.reduceWindow (fun p q : EReal => p + q) ![1, 8192, 1] ![1, 1, 1] ![0, 8191, 0] ![0, 0, 0] x
    (fun _ : S_.Idx => (0 : EReal)) reduceWindows_S2x8192x8_S2x8192x8_w1s1p0_0_w8192s1p8191_0_w1s1p0_0 h_S_ := by
  have hv : (broadcastInDim S_ ![] bcast_S_S_ (constant (F := Ideal) S_ .f32 0x00000000#32)) (Shape.Idx.first h_S_) = (0 : EReal) :=
    Consts.ofBits_zero
  unfold sums Host.reduceWindowAdd
  rw [hv]
  show Ideal.hostReduceWindowAdd _ _ _ _ _ x 0 = _
  unfold Ideal.hostReduceWindowAdd
  rfl

/-- The sums at a token: over its batch, up to it. -/
theorem sums_apply (x : FVec Ideal S2x8192x8 .f32) (B : Fin 2) (t : Fin 8192) (h : Fin 8) (f : ℕ → EReal)
    (hf : ∀ k : Fin 8192, x (ix3 B k h) = f k.val) : sums x (ix3 B t h) = ∑ k ∈ Finset.range (t.val + 1), f k := by
  rw [sums_eq, reduceWindow_add, zero_add]
  refine Eq.trans (Finset.sum_congr rfl fun n _ => (?_ : _ = (fun n => if 8191 ≤ t.val + n then f (t.val + n - 8191) else 0) n.val)) ?_
  · have hn : n.val < 8192 := lt_of_lt_of_eq n.isLt window_numel
    have ht := t.isLt
    have hb := B.isLt
    have hh := h.isLt
    dsimp only
    simp only [window_symm n hn]
    split
    · next hin =>
      have h1 : 8191 ≤ t.val * 1 + n.val ∧ t.val * 1 + n.val - 8191 < 8192 := hin 1
      rw [if_pos (by omega)]
      refine (congrArg x (funext fun a => Fin.ext ?_)).trans (hf ⟨t.val + n.val - 8191, by omega⟩)
      match a with
      | ⟨0, _⟩ => show B.val * 1 + 0 - 0 = B.val; omega
      | ⟨1, _⟩ => show t.val * 1 + n.val - 8191 = t.val + n.val - 8191; omega
      | ⟨2, _⟩ => show h.val * 1 + 0 - 0 = h.val; omega
    · next hin =>
      rw [if_neg fun hle => hin fun a => by
        match a with
        | ⟨0, _⟩ => show 0 ≤ B.val * 1 + 0 ∧ B.val * 1 + 0 - 0 < 2; omega
        | ⟨1, _⟩ => show 8191 ≤ t.val * 1 + n.val ∧ t.val * 1 + n.val - 8191 < 8192; omega
        | ⟨2, _⟩ => show 0 ≤ h.val * 1 + 0 ∧ h.val * 1 + 0 - 0 < 8; omega]
  · rw [Fin.sum_univ_eq_sum_range (fun n => if 8191 ≤ t.val + n then f (t.val + n - 8191) else 0), window_numel]
    exact window_sum f 8191 t.val t.isLt

/-! ## Their entries -/

/-- Dividing by the logarithm of two. -/
theorem div_log (x : EReal) : Ideal.div x (Ideal.log (Ideal.ofBits .f32 0x40000000#32)) = x * inv2 := by
  have h2 : Real.log 2 ≠ 0 := (Real.log_pos (by norm_num)).ne'
  have e : Ideal.log (Ideal.ofBits .f32 0x40000000#32) = ((Real.log 2 : ℝ) : EReal) := by
    rw [Consts.ofBits_two]
    show (if (2 : ℝ) ≤ 0 then (⊥ : EReal) else _) = _
    rw [if_neg (by norm_num)]
  rw [e]
  unfold Ideal.div inv2
  rw [if_neg (by exact_mod_cast h2), EReal.coe_inv]

/-- The logits' scale over the logarithm of two. -/
theorem scale_eq : Ideal.ofBits .f32 0x3DB504F3#32 * inv2 = scale2 := by
  have e : Ideal.ofBits .f32 0x3DB504F3#32 = ((11863283 / 134217728 : ℝ) : EReal) := by
    simp [Ideal.ofBits, Ideal.ieee, -EReal.coe_mul]; norm_num
  rw [e, inv2, scale2, ← EReal.coe_mul]

theorem logOf_apply (x : FVec Ideal S16384x8 .f32) (T : Fin 16384) (h : Fin 8) :
    logOf x (ix2 T h) = -(max (x (ix2 T h)) 0 + Ideal.log1p (Ideal.exp (-max (x (ix2 T h)) (-x (ix2 T h))))) := by
  pointwise [logOf, zeros]
  rw [if_neg (fun h => h rfl)]
  rfl

theorem logs_apply (B : Fin 2) (t : Fin 8192) (h : Fin 8) :
    logs g b (ix3 B t h) = gate g b (B.val * 8192 + t.val) h := by
  have hn : B.val * 8192 + t.val < 16384 := by omega
  have e : negated g b (ix2 (⟨B.val * 8192 + t.val, hn⟩ : Fin 16384) h)
      = -(g (ix2 (⟨B.val * 8192 + t.val, hn⟩ : Fin 16384) (⟨19008 + h.val, by omega⟩ : Fin 19200)) + b (ix1 h)) := by
    pointwise [negated]
  unfold gate
  rw [dif_pos hn, logGate_eq, ← e, ← logOf_apply]
  pointwise [logs]

theorem norm_apply (x : FVec Ideal S16384x8x128 .f32) (T : Fin 16384) (h : Fin 8) (f : Fin 128) :
    norm w x (ix3 T h f) = rms (fun k => x (ix3 T h k)) f * w (ix1 f) := by
  pointwise [norm, rms]

theorem headsQ_apply (T : Fin 16384) (h : Fin 8) (f : Fin 128) :
    headsQ g (ix3 T h f) = part g 3072 T h (by omega) f := by
  pointwise [headsQ, part]
  exact congrArg (fun z => g (ix2 T z)) (Fin.ext (by dsimp only; omega))

theorem headsK_apply (T : Fin 16384) (h : Fin 8) (f : Fin 128) :
    headsK g (ix3 T h f) = part g 4096 T h (by omega) f := by
  pointwise [headsK, part]
  exact congrArg (fun z => g (ix2 T z)) (Fin.ext (by dsimp only; omega))

theorem scaled_apply (x : FVec Ideal S16384x8x128 .f32) (T : Fin 16384) (h : Fin 8) (f : Fin 128) :
    scaled x (ix3 T h f) = x (ix3 T h f) * scale2 := by
  pointwise [scaled]
  rw [div_log, mul_assoc, scale_eq]

theorem units_apply (x : FVec Ideal S2x8192x8 .f32) (T : Fin 16384) (h : Fin 8) (z : Fin 1) :
    units x (ix3 T h z) = x (ix3 (⟨T.val / 8192, by omega⟩ : Fin 2) (⟨T.val % 8192, by omega⟩ : Fin 8192) h) * inv2 := by
  pointwise [units]
  rw [div_log]

theorem joinK_apply (x : FVec Ideal S16384x8x128 .f32) (u : FVec Ideal S16384x8x1 .f32) (T : Fin 16384) (h : Fin 8) (j : Fin 256) :
    joinK x u (ix3 T h j) = if hj : j.val < 128 then x (ix3 T h ⟨j.val, hj⟩) else sixK (u (ix3 T h 0)) 0 0 (j.val - 128) := by
  pointwise [joinK]
  have hz : ∀ a : EReal, 0 - a = -a := zero_sub
  refine dite_congr rfl (fun _ => rfl) fun h1 => ?_
  unfold sixK
  rw [hz, hz, neg_zero]
  by_cases h2 : j.val - 128 < 3
  · rw [dif_pos h2, if_pos h2]
  rw [dif_neg h2, if_neg h2]
  by_cases h3 : j.val - 128 = 3
  · rw [dif_pos (by omega), if_pos h3]
    exact congrArg (fun z => -u (ix3 T h z)) (Subsingleton.elim _ _)
  rw [dif_neg (by omega), if_neg h3, ite_self, ite_self, dite_eq_ite, ite_self]

theorem joinQ_apply (x : FVec Ideal S16384x8x128 .f32) (u : FVec Ideal S16384x8x1 .f32) (T : Fin 16384) (h : Fin 8) (j : Fin 256) :
    joinQ x u (ix3 T h j) = if hj : j.val < 128 then x (ix3 T h ⟨j.val, hj⟩) else sixQ (u (ix3 T h 0)) 0 0 (j.val - 128) := by
  pointwise [joinQ]
  refine dite_congr rfl (fun _ => rfl) fun h1 => ?_
  unfold sixQ
  by_cases h2 : j.val - 128 = 0
  · rw [dif_pos (by omega), if_pos h2]
    exact congrArg (fun z => u (ix3 T h z)) (Subsingleton.elim _ _)
  rw [dif_neg (by omega), if_neg h2]
  by_cases h3 : j.val - 128 < 3
  · rw [dif_pos (by omega)]
    split
    · rfl
    · rw [if_pos (by omega)]
  rw [dif_neg (by omega), if_neg (by omega), if_neg (by omega)]
  by_cases h4 : j.val - 128 < 6
  · rw [dif_pos (by omega), if_pos h4]
  · rw [dif_neg (by omega), if_neg h4]

theorem flatK (x : FVec Ideal S16384x8x256 .f32) (T : Fin 16384) (n : Fin 2048) :
    shapeCast S16384x2048 x shapeCasts_S16384x8x256_S16384x2048 (ix2 T n)
      = x (ix3 T (⟨n.val / 256, by omega⟩ : Fin 8) (⟨n.val % 256, by omega⟩ : Fin 256)) := by
  pointwise

theorem flatQ (x : FVec Ideal S16384x8x256 .f32) (T : Fin 16384) (n : Fin 2048) :
    shapeCast S2048x16384 (transpose S8x256x16384 [1, 2, 0] x transposes_S16384x8x256_S8x256x16384_1_2_0) shapeCasts_S8x256x16384_S2048x16384 (ix2 n T)
      = x (ix3 T (⟨n.val / 256, by omega⟩ : Fin 8) (⟨n.val % 256, by omega⟩ : Fin 256)) := by
  pointwise

/-- The sums at a token, in units of the logarithm of two. -/
theorem units_sums (T : Fin 16384) (h : Fin 8) (z : Fin 1) : units (sums (logs g b)) (ix3 T h z) = sofar g b T.val h * inv2 := by
  unfold sofar
  rw [units_apply]
  refine congrArg (· * inv2) ?_
  exact sums_apply (logs g b) _ _ h (fun k => gate g b (T.val / 8192 * 8192 + k) h) (fun k => logs_apply g b _ k h)

/-- The reference's keys. -/
theorem keys_apply (T : Fin 16384) (n : Fin 2048) :
    shapeCast S16384x2048 (joinK (norm w (headsK g)) (units (sums (logs g b)))) shapeCasts_S16384x8x256_S16384x2048 (ix2 T n)
      = key g b w T n := by
  rw [flatK, joinK_apply]
  unfold key
  refine dite_congr rfl (fun hj => ?_) fun _ => ?_
  · rw [norm_apply]
    simp only [headsK_apply]
    rfl
  · rw [units_sums]
    rfl

/-- The reference's queries. -/
theorem queries_apply (T : Fin 16384) (n : Fin 2048) :
    shapeCast S2048x16384 (transpose S8x256x16384 [1, 2, 0] (joinQ (scaled (norm w (headsQ g))) (units (sums (logs g b))))
      transposes_S16384x8x256_S8x256x16384_1_2_0) shapeCasts_S8x256x16384_S2048x16384 (ix2 n T) = query g b w T n := by
  rw [flatQ, joinQ_apply]
  unfold query
  refine dite_congr rfl (fun hj => ?_) fun _ => ?_
  · rw [scaled_apply, norm_apply]
    simp only [headsQ_apply]
    rw [mul_assoc]
    rfl
  · rw [units_sums]
    rfl

/-- The reference's values. -/
theorem values_apply (n : Fin 1024) (T : Fin 16384) :
    (transpose S1024x16384 [1, 0] (extractStridedSlice S16384x1024 ![0, 5120] g slices_S16384x19200_S16384x1024_0_5120)
      transposes_S16384x1024_S1024x16384_1_0 : S1024x16384.Idx → EReal) (ix2 n T) = value g T n := by
  pointwise [value]

end Cert.Proof.Prep.Ref

end
-- ==== Proof.PrepClaims.lean ====
/- The claims about the preparation of mixer A. -/
module

public import proofs.«01_k».proof.Defs
public import proofs.«01_k».proof.Proof.PrepArray
public import proofs.«01_k».proof.Proof.PrepRef
public import proofs.«01_k».proof.Proof.Finite
public import proofs.«01_k».proof.Proof.Gen.Prep.Frame
public import proofs.«01_k».proof.Proof.Gen.Pre_finite_gates
public import Idealize.ShloMosaic.Adequacy

@[expose] public section

noncomputable section

namespace Cert.Proof.Prep

open Idealize.ShloMosaic Idealize.ShloMosaic.TcCoe Idealize.SL.Sem

theorem frame_p : Cert.quiescent_Prep := fun m ρ _ => Cert.Prep.Gen.frame m ρ

theorem frame_pi : Cert.quiescent_PrepIdeal := fun m ρ _ => Cert.PrepIdeal.Gen.frame m ρ

theorem frame_pi_pre : Cert.quiescent_PrepIdeal_pre_finite_gates := fun m ρ _ => Cert.PrepIdeal.Gen.frame m ρ

/-- The reference runs, keeps its arguments and has no semaphores. -/
theorem frame_ri : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

theorem frame_ri_pre : Cert.quiescent_PrepRefIdeal_pre_finite_gates := fun m ρ _ => frame_ri m ρ trivial

/-- The two constants stand for one over the logarithm of two, and for the score scale times it. -/
theorem preserves : Cert.preserves_Prep_PrepIdeal :=
  ⟨IdealRules.named_const.statement Cert.PrepIdeal.κ "log2e" .f32 0x3FB8AA3B#32 _ rfl,
    IdealRules.named_const.statement Cert.PrepIdeal.κ "scale" .f32 0x3E0293EE#32 _ rfl⟩

section Precondition

open Cert.Pre_finite_gates Cert.Pre_finite_gates.Gen

/-- Under the precondition the log gates are real numbers. -/
theorem logs_finite (g : FVec Ideal S16384x19200 .f32) (b : FVec Ideal S8 .f32) (wq wk : FVec Ideal S128 .f32)
    (h : fn (F := Ideal) g b wq wk = fun _ => 1#1) (i : S2x8192x8.Idx) :
    Ref.logs g b i = (((Ref.logs g b i : EReal).toReal : ℝ) : EReal) := by
  have e := congrFun h (fun k => k.elim0)
  unfold fn at e
  exact Finite.real_of_all (Ref.logs g b) _ _ _ _ e i

/-- The same, for the gate of a token and a head. -/
theorem gate_real (g : FVec Ideal S16384x19200 .f32) (b : FVec Ideal S8 .f32) (wq wk : FVec Ideal S128 .f32)
    (h : fn (F := Ideal) g b wq wk = fun _ => 1#1) (n : ℕ) (k : Fin 8) : ∃ ρ : ℝ, gate g b n k = (ρ : EReal) := by
  by_cases hn : n < 16384
  · have e := logs_finite g b wq wk h (ix3 (⟨n / 8192, by omega⟩ : Fin 2) (⟨n % 8192, by omega⟩ : Fin 8192) k)
    rw [Ref.logs_apply] at e
    have hm : n / 8192 * 8192 + n % 8192 = n := by omega
    dsimp only at e
    rw [hm] at e
    exact ⟨_, e⟩
  · exact ⟨0, by unfold gate; rw [dif_neg hn]; rfl⟩

end Precondition

/-- The kernel's three arrays and the reference's are the same functions of the arguments. -/
theorem algebraic : Cert.algebraic_PrepIdeal_PrepRefIdeal_pre_finite_gates := by
  intro m g m' g' hpre hagree
  refine ⟨fun c => (Cert.PrepIdeal.Gen.dats m 0 c).arrAt 7 Cert.PrepIdeal.cfg0.N,
    fun c => (Cert.PrepIdeal.Gen.dats m 0 c).arrAt 8 Cert.PrepIdeal.cfg0.N,
    fun c => (Cert.PrepIdeal.Gen.dats m 0 c).arrAt 9 Cert.PrepIdeal.cfg0.N,
    Cert.PrepIdeal.Value.run_blocks m g, ?_⟩
  refine (θ_run Cert.PrepRefIdeal.defs _ _).mono
    (fun _ h c => ⟨(h c).1.trans ?_, (h c).2.1.trans ?_, (h c).2.2.1.trans ?_, (h c).2.2.2⟩)
    (Cert.PrepRefIdeal.Value.run (F := Ideal) m' g')
  · obtain ⟨a0, a1, a2, a3⟩ := hagree c
    have hr : Real_ m c := gate_real _ _ _ _ (hpre c)
    refine Eq.trans ?_ (finalQ m c hr).symm
    rw [Ref.queries_eq, a0, a1, a2]
    funext i
    obtain ⟨r, s, rfl⟩ : ∃ (r : Fin 2048) (s : Fin 16384), i = ix2 r s := ⟨i 0, i 1, eq_ix2 i⟩
    exact Ref.queries_apply _ _ _ s r
  · obtain ⟨a0, a1, a2, a3⟩ := hagree c
    have hr : Real_ m c := gate_real _ _ _ _ (hpre c)
    refine Eq.trans ?_ (finalK m c hr).symm
    rw [Ref.keys_eq, a0, a1, a3]
    funext i
    obtain ⟨r, s, rfl⟩ : ∃ (r : Fin 16384) (s : Fin 2048), i = ix2 r s := ⟨i 0, i 1, eq_ix2 i⟩
    exact Ref.keys_apply _ _ _ r s
  · obtain ⟨a0, a1, a2, a3⟩ := hagree c
    refine Eq.trans ?_ (finalV m c).symm
    rw [a0]
    funext i
    obtain ⟨r, s, rfl⟩ : ∃ (r : Fin 1024) (s : Fin 16384), i = ix2 r s := ⟨i 0, i 1, eq_ix2 i⟩
    exact Ref.values_apply _ r s

end Cert.Proof.Prep

end
-- ==== Proof.RopeTile.lean ====
/- The rotary tables: what a grid point computes from its positions. -/
module

public import proofs.«01_k».proof.Proof.Gen.RopeIdeal.Value
public import Idealize.ShloMosaic.Lib.VecWindow
public import Idealize.ShloMosaic.Lib.Pointwise

@[expose] public section

set_option maxRecDepth 8192

noncomputable section

namespace Cert.Proof.Rope

open Cert.RopeIdeal Cert.RopeIdeal.Gen Idealize.ShloMosaic Idealize.ShloMosaic.TcCoe Idealize.SL.Sem

/-! ## The tables' entries -/

/-- The angle of a position at frequency `j`: the position times 500000 to the power `-j / half`. -/
def angle (half : EReal) (p : BitVec 32) (j : ℕ) : EReal :=
  FloatOps.sitofp (F := Ideal) .f32 p * Ideal.pow (Ideal.ofBits .f32 0x48F42400#32)
    (Ideal.div (-FloatOps.sitofp (F := Ideal) .f32 (BitVec.ofNat 32 j)) half)

/-- The cosine table of a head whose first `2 * q` lanes turn, at lane `n` of the head. -/
def cosT (q : ℕ) (half : EReal) (p : BitVec 32) (n : ℕ) : EReal :=
  if n < 2 * q then Ideal.cos (angle half p (n % q)) else 1

/-- The sine table with the minus sign, which meets the first half of the lanes that turn. -/
def negT (q : ℕ) (half : EReal) (p : BitVec 32) (n : ℕ) : EReal :=
  if n < q then -Ideal.sin (angle half p (n % q)) else 0

/-- The sine table that meets the second half. -/
def sinT (q : ℕ) (half : EReal) (p : BitVec 32) (n : ℕ) : EReal :=
  if n < q then 0 else if n < 2 * q then Ideal.sin (angle half p (n % q)) else 0

/-- The number 16, as the program writes it. -/
def c16 : EReal := Ideal.ofBits .f32 0x41800000#32

/-- The number 8, as the program writes it. -/
def c8 : EReal := Ideal.ofBits .f32 0x41000000#32

/-- Entry `l` of a row of each of the nine tables: the three of a head of 128 lanes, the three of two heads of 64
    side by side, and the three of one head of 64 followed by zeros. -/
def table (w : Fin 9) (p : BitVec 32) (l : ℕ) : EReal :=
  match w with
  | 0 => cosT 16 c16 p l
  | 1 => negT 16 c16 p l
  | 2 => sinT 16 c16 p l
  | 3 => cosT 8 c8 p (l % 64)
  | 4 => negT 8 c8 p (l % 64)
  | 5 => sinT 8 c8 p (l % 64)
  | 6 => if l < 64 then cosT 8 c8 p (l % 64) else 0
  | 7 => if l < 64 then negT 8 c8 p (l % 64) else 0
  | 8 => if l < 64 then sinT 8 c8 p (l % 64) else 0

/-! ## Lanes -/

/-- Choosing by whether a lane is below a bound. -/
theorem select_below (n k : ℕ) (hn : n < 128) (hk : k < 128) (x y : EReal) :
    Scalar.select (IntOp.cmpi .slt (BitVec.ofNat 32 n) (BitVec.ofNat 32 k)) x y = if n < k then x else y := by
  have h : ∀ a b : Fin 128, IntOp.cmpi .slt (BitVec.ofNat 32 a.val) (BitVec.ofNat 32 b.val)
      = if a.val < b.val then 1#1 else 0#1 := by decide +kernel
  rw [h ⟨n, hn⟩ ⟨k, hk⟩]
  show Scalar.select (if n < k then 1#1 else 0#1) x y = _
  split <;> rfl

/-- A lane's number. -/
theorem lane : ∀ l : Fin 128, k0_pay3 (ix2 (0 : Fin 1) l) = BitVec.ofNat 32 l.val := by
  decide +kernel

/-- A lane's place in a head of 128. -/
theorem lane128 : ∀ l : Fin 128, k0_pay4 (ix2 (0 : Fin 1) l) = BitVec.ofNat 32 l.val := by
  decide +kernel

/-- The width of a head of 64, as the program guards it against zero. -/
abbrev width64 : BitVec 32 := Scalar.select (Scalar.cmpi .eq 64#32 0#32) 1#32 64#32

/-- A lane's place in a head of 64. -/
theorem lane64 : ∀ l : Fin 128, k0_pay12 k0_pay3 width64 k0_pay11 (ix2 (0 : Fin 1) l) = BitVec.ofNat 32 (l.val % 64) := by
  decide +kernel

/-- The remainder as the program writes it: the machine's, moved up by the divisor where the signs differ. -/
abbrev floorRem (x y : BitVec 32) : BitVec 32 :=
  Scalar.select (IntOp.andi (IntOp.xori (IntOp.cmpi .slt (IntOp.remsi .vector x y) 0#32) (Scalar.cmpi .slt y 0#32))
      (IntOp.cmpi .ne (IntOp.remsi .vector x y) 0#32)) (IntOp.addi (IntOp.remsi .vector x y) y) (IntOp.remsi .vector x y)

theorem rem16 : ∀ l : Fin 128, floorRem (BitVec.ofNat 32 l.val) (Scalar.select (Scalar.cmpi .eq 16#32 0#32) 1#32 16#32)
    = BitVec.ofNat 32 (l.val % 16) := by
  decide +kernel

theorem rem8 : ∀ l : Fin 128, floorRem (BitVec.ofNat 32 (l.val % 64)) (Scalar.select (Scalar.cmpi .eq 8#32 0#32) 1#32 8#32)
    = BitVec.ofNat 32 (l.val % 64 % 8) := by
  decide +kernel

/-! ## The body's values -/

/-- The positions as floats. -/
theorem pos_apply (x : Vec Ideal S512x1 .i32) (r : Fin 512) :
    k0_pay2 (F := Ideal) x (ix2 r (0 : Fin 1)) = FloatOps.sitofp (F := Ideal) .f32 (x (ix2 r (0 : Fin 1))) := by
  pointwise [k0_pay2]

/-- The exponent of a lane in a head of 128. -/
theorem power_apply (l : Fin 128) : k0_pay5 (F := Ideal) (ix2 (0 : Fin 1) l)
    = Ideal.div (-FloatOps.sitofp (F := Ideal) .f32 (BitVec.ofNat 32 (l.val % 16))) c16 := by
  pointwise [k0_pay5]
  rw [lane128, zero_sub]
  exact congrArg (fun b => Ideal.div (-FloatOps.sitofp (F := Ideal) .f32 b) c16) (rem16 l)

/-- The angle of a lane in a head of 128. -/
theorem angle128_apply (x : Vec Ideal S512x1 .i32) (r : Fin 512) (l : Fin 128) :
    k0_pay6 (F := Ideal) (k0_pay2 x) k0_pay5 (Ideal.ofBits .f32 0x48F42400#32) (ix2 r l)
      = angle c16 (x (ix2 r (0 : Fin 1))) (l.val % 16) := by
  pointwise [k0_pay6]
  rw [pos_apply, power_apply]
  rfl

/-- The angle of a lane in a head of 64. -/
theorem angle64_apply (x : Vec Ideal S512x1 .i32) (r : Fin 512) (l : Fin 128) :
    k0_pay13 (F := Ideal) (k0_pay2 x) k0_pay3 width64 k0_pay11 (ix2 r l)
      = angle c8 (x (ix2 r (0 : Fin 1))) (l.val % 64 % 8) := by
  pointwise [k0_pay13]
  rw [lane64, zero_sub, pos_apply]
  exact congrArg (fun b => FloatOps.sitofp (F := Ideal) .f32 (x (ix2 r (0 : Fin 1))) * Ideal.pow (Ideal.ofBits .f32 0x48F42400#32)
    (Ideal.div (-FloatOps.sitofp (F := Ideal) .f32 b) c8)) (rem8 l)

theorem zero2 : (![0, 0] : Fin 2 → ℕ) = fun _ => 0 := funext fun n => by revert n; decide

section Tables

variable (x : Vec Ideal S512x1 .i32) (r : Fin 512) (l : Fin 128)

theorem out1_apply : out0_1 (F := Ideal) x (ix2 r l) = table 0 (x (ix2 r (0 : Fin 1))) l.val := by
  unfold_out out0_1
  rw [View.canon_unit_zero zero2, View.ld_unit_zero (S := S512x1) zero2]
  pointwise [k0_pay8]
  rw [lane128, select_below _ _ l.isLt (by omega), angle128_apply]
  rfl

theorem out2_apply : out0_2 (F := Ideal) x (ix2 r l) = table 1 (x (ix2 r (0 : Fin 1))) l.val := by
  unfold_out out0_2
  rw [View.canon_unit_zero zero2, View.ld_unit_zero (S := S512x1) zero2]
  pointwise [k0_pay9, k0_pay7]
  rw [lane128, select_below _ _ l.isLt (by omega), angle128_apply, zero_sub]
  rfl

theorem out3_apply : out0_3 (F := Ideal) x (ix2 r l) = table 2 (x (ix2 r (0 : Fin 1))) l.val := by
  unfold_out out0_3
  rw [View.canon_unit_zero zero2, View.ld_unit_zero (S := S512x1) zero2]
  pointwise [k0_pay10, k0_pay7]
  rw [lane128, select_below _ _ l.isLt (by omega), select_below _ _ l.isLt (by omega), angle128_apply]
  rfl

/-- The cosine table of heads of 64, before it is masked. -/
theorem cos64_apply : k0_pay18 (F := Ideal) (k0_pay14 (k0_pay2 x) k0_pay3 width64 k0_pay11)
    (k0_pay16 k0_pay3 width64 k0_pay11) k0_pay17 (ix2 r l) = cosT 8 c8 (x (ix2 r (0 : Fin 1))) (l.val % 64) := by
  pointwise [k0_pay18, k0_pay14, k0_pay16, k0_pay17]
  rw [lane64, select_below _ _ (by omega) (by omega), angle64_apply]
  rfl

theorem neg64_apply : k0_pay19 (F := Ideal) (k0_pay12 k0_pay3 width64 k0_pay11)
    (k0_pay15 (k0_pay2 x) k0_pay3 width64 k0_pay11) (ix2 r l) = negT 8 c8 (x (ix2 r (0 : Fin 1))) (l.val % 64) := by
  pointwise [k0_pay19, k0_pay15]
  rw [lane64, select_below _ _ (by omega) (by omega), angle64_apply, zero_sub]
  rfl

theorem sin64_apply : k0_pay20 (F := Ideal) (k0_pay12 k0_pay3 width64 k0_pay11)
    (k0_pay15 (k0_pay2 x) k0_pay3 width64 k0_pay11) (ix2 r l) = sinT 8 c8 (x (ix2 r (0 : Fin 1))) (l.val % 64) := by
  pointwise [k0_pay20, k0_pay15]
  rw [lane64, select_below _ _ (by omega) (by omega), select_below _ _ (by omega) (by omega), angle64_apply]
  rfl

theorem out4_apply : out0_4 (F := Ideal) x (ix2 r l) = table 3 (x (ix2 r (0 : Fin 1))) l.val := by
  unfold_out out0_4
  rw [View.canon_unit_zero zero2, View.ld_unit_zero (S := S512x1) zero2]
  exact cos64_apply x r l

theorem out5_apply : out0_5 (F := Ideal) x (ix2 r l) = table 4 (x (ix2 r (0 : Fin 1))) l.val := by
  unfold_out out0_5
  rw [View.canon_unit_zero zero2, View.ld_unit_zero (S := S512x1) zero2]
  exact neg64_apply x r l

theorem out6_apply : out0_6 (F := Ideal) x (ix2 r l) = table 5 (x (ix2 r (0 : Fin 1))) l.val := by
  unfold_out out0_6
  rw [View.canon_unit_zero zero2, View.ld_unit_zero (S := S512x1) zero2]
  exact sin64_apply x r l

theorem out7_apply : out0_7 (F := Ideal) x (ix2 r l) = table 6 (x (ix2 r (0 : Fin 1))) l.val := by
  unfold_out out0_7
  rw [View.canon_unit_zero zero2, View.ld_unit_zero (S := S512x1) zero2]
  pointwise [k0_pay22, k0_pay21]
  rw [lane, select_below _ _ l.isLt (by omega), cos64_apply]
  rfl

theorem out8_apply : out0_8 (F := Ideal) x (ix2 r l) = table 7 (x (ix2 r (0 : Fin 1))) l.val := by
  unfold_out out0_8
  rw [View.canon_unit_zero zero2, View.ld_unit_zero (S := S512x1) zero2]
  pointwise [k0_pay23, k0_pay21]
  rw [lane, select_below _ _ l.isLt (by omega), neg64_apply]
  rfl

theorem out9_apply : out0_9 (F := Ideal) x (ix2 r l) = table 8 (x (ix2 r (0 : Fin 1))) l.val := by
  unfold_out out0_9
  rw [View.canon_unit_zero zero2, View.ld_unit_zero (S := S512x1) zero2]
  pointwise [k0_pay1, k0_pay21]
  rw [lane, select_below _ _ l.isLt (by omega), sin64_apply]
  rfl

end Tables

end Cert.Proof.Rope

end
-- ==== Proof.RopeArray.lean ====
/- The rotary tables: what the nine arrays end holding. -/
module

public import proofs.«01_k».proof.Proof.RopeTile
public import Idealize.ShloMosaic.Lib.Pipeline.Value
public import Idealize.ShloMosaic.Lib.Pipeline.Kit
public import Idealize.ShloMosaic.Lib.StableHlo.ReadAt

@[expose] public section

set_option maxRecDepth 8192

noncomputable section

namespace Cert.Proof.Rope

open Cert.RopeIdeal Cert.RopeIdeal.Gen Idealize.ShloMosaic Idealize.ShloMosaic.TcCoe Idealize.SL.Sem

/-- The position of a token, counted over both batch rows. -/
def token (p : IVec S2x8192 32) (R : Fin 16384) : BitVec 32 :=
  p (ix2 (⟨R.val / 8192, by omega⟩ : Fin 2) (⟨R.val % 8192, by omega⟩ : Fin 8192))

/-- The array of a table: the row of a token is the table's at its position. -/
def rows (p : IVec S2x8192 32) (w : Fin 9) : FVec Ideal S16384x128 .f32 := fun i => table w (token p (i 0)) (i 1).val

theorem hN : cfg0.N = 32 := N_0

theorem index0 : ∀ t : Fin grid0.N, win0_0.index t 0 = t.val ∧ win0_0.index t 1 = 0 := by decide +kernel

theorem index1 : ∀ t : Fin grid0.N, win0_1.index t 0 = t.val ∧ win0_1.index t 1 = 0 := by decide +kernel

variable (m : (ℓ : Loc nD τ sig) → Buf (Elt Ideal) ℓ) (c : Dev nD)

/-- The positions of a grid point. -/
theorem block0 (t : Fin cfg0.N) (r : Fin 512) (R : Fin 16384) (hR : R.val = t.val * 512 + r.val) :
    (iblk m c 0 t : Vec Ideal S512x1 .i32) (ix2 r (0 : Fin 1)) = token (m ((c : Thread nD τ).loc main_arg0)) R := by
  have h : V (F := Ideal) m c main_v0 (ix2 R (0 : Fin 1)) = token (m ((c : Thread nD τ).loc main_arg0)) R := by
    unfold V token
    after_reads_at
  rw [← h]
  unfold iblk
  rw [View.read_apply]
  show V m c main_v0 _ = _
  refine congrArg (V m c main_v0) (funext fun a => Fin.ext ?_)
  match a with
  | ⟨0, _⟩ => show win0_0.index t 0 * 512 + 1 * r.val = R.val; rw [(index0 t).1]; omega
  | ⟨1, _⟩ => show win0_0.index t 1 * 1 + 1 * 0 = 0; rw [(index0 t).2]

/-- A block whose entries are a table's is the grid point's block of the table's array. The nine outputs lie in blocks
    alike, so this is stated of the first. -/
theorem back (w : Fin 9) (out : Vec Ideal S512x1 .i32 → Vec Ideal S512x128 .f32)
    (h : ∀ x r (l : Fin 128), out x (ix2 r l) = table w (x (ix2 r (0 : Fin 1))) l.val) (t : Fin cfg0.N) :
    out (iblk m c 0 t) = ((cfg0.win 1).blk t).view.read (Elt Ideal) (rows (m ((c : Thread nD τ).loc main_arg0)) w) := by
  have hlt : t.val < 32 := by have := t.isLt; have := hN; omega
  funext y
  rw [View.read_apply]
  obtain ⟨r, l, rfl⟩ : ∃ (r : Fin 512) (l : Fin 128), y = ix2 r l := ⟨y 0, y 1, eq_ix2 y⟩
  rw [h, block0 m c t r ⟨t.val * 512 + r.val, by omega⟩ rfl]
  refine congrArg (rows (m ((c : Thread nD τ).loc main_arg0)) w)
    (a₁ := ix2 (⟨t.val * 512 + r.val, by omega⟩ : Fin 16384) l) (funext fun a => Fin.ext ?_)
  match a with
  | ⟨0, _⟩ => show _ = win0_1.index t 0 * 512 + 1 * r.val; rw [(index1 t).1, one_mul]; rfl
  | ⟨1, _⟩ => show _ = win0_1.index t 1 * 128 + 1 * l.val; rw [(index1 t).2, one_mul, Nat.zero_mul, Nat.zero_add]; rfl

/-- The grid point that writes a row. -/
def point (i : S16384x128.Idx) : Fin cfg0.N :=
  ⟨(i 0).val / 512, by have h0 : (i 0 : Nat) < 16384 := (i 0).isLt; rw [hN]; omega⟩

/-- The blocks cover the array. -/
theorem covered (i : S16384x128.Idx) : i ∈ ((View.whole main_v1_0).slice (win0_1.rect (point i))).set := by
  have h0 : (i 0 : Nat) < 16384 := (i 0).isLt
  have h1 : (i 1 : Nat) < 128 := (i 1).isLt
  have hv : (point i).val = (i 0).val / 512 := rfl
  rw [View.set_slice_whole, Rect.mem_set_unit]
  intro a
  match a with
  | ⟨0, _⟩ =>
    show win0_1.index (point i) 0 * 512 ≤ (i 0 : Nat) ∧ (i 0 : Nat) < win0_1.index (point i) 0 * 512 + 512
    rw [(index1 _).1]; omega
  | ⟨1, _⟩ =>
    show win0_1.index (point i) 1 * 128 ≤ (i 1 : Nat) ∧ (i 1 : Nat) < win0_1.index (point i) 1 * 128 + 128
    rw [(index1 _).2]; omega

/-! ## The arrays -/

theorem final1 : (dats m 0 c).arrAt 1 cfg0.N = rows (m ((c : Thread nD τ).loc main_arg0)) 0 :=
  (dats m 0 c).arrAt_eq_of_cover 1 _ (fun t _ => (Value.flushed1 m c t).trans (back m c 0 out0_1 out1_apply t))
    fun i => ⟨point i, flush0_1 _, covered i⟩

theorem final2 : (dats m 0 c).arrAt 2 cfg0.N = rows (m ((c : Thread nD τ).loc main_arg0)) 1 :=
  (dats m 0 c).arrAt_eq_of_cover 2 _ (fun t _ => (Value.flushed2 m c t).trans (back m c 1 out0_2 out2_apply t))
    fun i => ⟨point i, flush0_2 _, covered i⟩

theorem final3 : (dats m 0 c).arrAt 3 cfg0.N = rows (m ((c : Thread nD τ).loc main_arg0)) 2 :=
  (dats m 0 c).arrAt_eq_of_cover 3 _ (fun t _ => (Value.flushed3 m c t).trans (back m c 2 out0_3 out3_apply t))
    fun i => ⟨point i, flush0_3 _, covered i⟩

theorem final4 : (dats m 0 c).arrAt 4 cfg0.N = rows (m ((c : Thread nD τ).loc main_arg0)) 3 :=
  (dats m 0 c).arrAt_eq_of_cover 4 _ (fun t _ => (Value.flushed4 m c t).trans (back m c 3 out0_4 out4_apply t))
    fun i => ⟨point i, flush0_4 _, covered i⟩

theorem final5 : (dats m 0 c).arrAt 5 cfg0.N = rows (m ((c : Thread nD τ).loc main_arg0)) 4 :=
  (dats m 0 c).arrAt_eq_of_cover 5 _ (fun t _ => (Value.flushed5 m c t).trans (back m c 4 out0_5 out5_apply t))
    fun i => ⟨point i, flush0_5 _, covered i⟩

theorem final6 : (dats m 0 c).arrAt 6 cfg0.N = rows (m ((c : Thread nD τ).loc main_arg0)) 5 :=
  (dats m 0 c).arrAt_eq_of_cover 6 _ (fun t _ => (Value.flushed6 m c t).trans (back m c 5 out0_6 out6_apply t))
    fun i => ⟨point i, flush0_6 _, covered i⟩

theorem final7 : (dats m 0 c).arrAt 7 cfg0.N = rows (m ((c : Thread nD τ).loc main_arg0)) 6 :=
  (dats m 0 c).arrAt_eq_of_cover 7 _ (fun t _ => (Value.flushed7 m c t).trans (back m c 6 out0_7 out7_apply t))
    fun i => ⟨point i, flush0_7 _, covered i⟩

theorem final8 : (dats m 0 c).arrAt 8 cfg0.N = rows (m ((c : Thread nD τ).loc main_arg0)) 7 :=
  (dats m 0 c).arrAt_eq_of_cover 8 _ (fun t _ => (Value.flushed8 m c t).trans (back m c 7 out0_8 out8_apply t))
    fun i => ⟨point i, flush0_8 _, covered i⟩

theorem final9 : (dats m 0 c).arrAt 9 cfg0.N = rows (m ((c : Thread nD τ).loc main_arg0)) 8 :=
  (dats m 0 c).arrAt_eq_of_cover 9 _ (fun t _ => (Value.flushed9 m c t).trans (back m c 8 out0_9 out9_apply t))
    fun i => ⟨point i, flush0_9 _, covered i⟩

end Cert.Proof.Rope

end
-- ==== Proof.RopeRef.lean ====
/- The rotary tables: the reference's nine arrays, entry by entry. -/
module

public import proofs.«01_k».proof.Proof.RopeArray
public import proofs.«01_k».proof.Proof.Gen.RopeRefIdeal.Run

@[expose] public section

set_option maxRecDepth 8192

noncomputable section

namespace Cert.Proof.Rope.Ref

open Cert.RopeRefIdeal Cert.RopeRefIdeal.Gen Idealize.ShloMosaic Idealize.ShloMosaic.TcCoe Idealize.SL.Sem

/-- The angles of a head of 128. -/
def angles16 (p : IVec S2x8192 32) : FVec Ideal S16384x16 .f32 :=
  mulf (broadcastInDim S16384x16 ![0, 1] bcast_S16384x1_S16384x16_0_1 (shapeCast _ (sitofp .f32 p) shapeCasts_S2x8192_S16384x1))
    (broadcastInDim S16384x16 ![0, 1] bcast_S1x16_S16384x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- The angles of a head of 64. -/
def angles8 (p : IVec S2x8192 32) : FVec Ideal S16384x8 .f32 :=
  mulf (broadcastInDim S16384x8 ![0, 1] bcast_S16384x1_S16384x8_0_1 (shapeCast _ (sitofp .f32 p) shapeCasts_S2x8192_S16384x1))
    (broadcastInDim S16384x8 ![0, 1] bcast_S1x8_S16384x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- A head of 128: two groups of 16 lanes that turn and the lanes that don't. -/
def head16 (a b : FVec Ideal S16384x16 .f32) (z : FVec Ideal S16384x96 .f32) : FVec Ideal S16384x128 .f32 :=
  concatenate S16384x128 1 [⟨S16384x16, a⟩, ⟨S16384x16, b⟩, ⟨S16384x96, z⟩] concatenates_S16384x16_S16384x16_S16384x96_S16384x128_d1

/-- A head of 64: two groups of 8 lanes that turn and the lanes that don't. -/
def head8 (a b : FVec Ideal S16384x8 .f32) (z : FVec Ideal S16384x48 .f32) : FVec Ideal S16384x64 .f32 :=
  concatenate S16384x64 1 [⟨S16384x8, a⟩, ⟨S16384x8, b⟩, ⟨S16384x48, z⟩] concatenates_S16384x8_S16384x8_S16384x48_S16384x64_d1

/-- Two heads of 64 side by side. -/
def beside (a b : FVec Ideal S16384x64 .f32) : FVec Ideal S16384x128 .f32 :=
  concatenate S16384x128 1 [⟨S16384x64, a⟩, ⟨S16384x64, b⟩] concatenates_S16384x64_S16384x64_S16384x128_d1

theorem angles16_apply (p : IVec S2x8192 32) (R : Fin 16384) (j : Fin 16) :
    angles16 p (ix2 R j) = angle c16 (token p R) j.val := by
  pointwise [angles16]
  rfl

theorem angles8_apply (p : IVec S2x8192 32) (R : Fin 16384) (j : Fin 8) :
    angles8 p (ix2 R j) = angle c8 (token p R) j.val := by
  pointwise [angles8]
  rfl

theorem head16_apply (a b : FVec Ideal S16384x16 .f32) (z : FVec Ideal S16384x96 .f32) (A B : ℕ → EReal) (Z : EReal)
    (R : Fin 16384) (l : Fin 128) (ha : ∀ j, a (ix2 R j) = A j.val) (hb : ∀ j, b (ix2 R j) = B j.val)
    (hz : ∀ j, z (ix2 R j) = Z) :
    head16 a b z (ix2 R l) = if l.val < 16 then A (l.val % 16) else if l.val < 2 * 16 then B (l.val % 16) else Z := by
  pointwise [head16]
  simp only [ha, hb, hz]
  by_cases h1 : l.val < 16
  · rw [dif_pos h1, if_pos h1, Nat.mod_eq_of_lt h1]
  · rw [dif_neg h1, if_neg h1]
    by_cases h2 : l.val - 16 < 16
    · rw [dif_pos h2, if_pos (by omega)]
      exact congrArg B (by omega)
    · rw [dif_neg h2, if_neg (by omega)]

theorem head8_apply (a b : FVec Ideal S16384x8 .f32) (z : FVec Ideal S16384x48 .f32) (A B : ℕ → EReal) (Z : EReal)
    (R : Fin 16384) (l : Fin 64) (ha : ∀ j, a (ix2 R j) = A j.val) (hb : ∀ j, b (ix2 R j) = B j.val)
    (hz : ∀ j, z (ix2 R j) = Z) :
    head8 a b z (ix2 R l) = if l.val < 8 then A (l.val % 8) else if l.val < 2 * 8 then B (l.val % 8) else Z := by
  pointwise [head8]
  simp only [ha, hb, hz]
  by_cases h1 : l.val < 8
  · rw [dif_pos h1, if_pos h1, Nat.mod_eq_of_lt h1]
  · rw [dif_neg h1, if_neg h1]
    by_cases h2 : l.val - 8 < 8
    · rw [dif_pos h2, if_pos (by omega)]
      exact congrArg B (by omega)
    · rw [dif_neg h2, if_neg (by omega)]

theorem beside_apply (a b : FVec Ideal S16384x64 .f32) (A B : ℕ → EReal) (R : Fin 16384) (l : Fin 128)
    (ha : ∀ j, a (ix2 R j) = A j.val) (hb : ∀ j, b (ix2 R j) = B j.val) :
    beside a b (ix2 R l) = if l.val < 64 then A (l.val % 64) else B (l.val % 64) := by
  pointwise [beside]
  simp only [ha, hb]
  by_cases h1 : l.val < 64
  · rw [dif_pos h1, if_pos h1, Nat.mod_eq_of_lt h1]
  · rw [dif_neg h1, if_neg h1]
    exact congrArg B (by omega)

/-! ## The tables -/

/-- A table whose two turning groups hold the same. -/
theorem same_groups (n q : ℕ) (x z : EReal) : (if n < q then x else if n < 2 * q then x else z) = if n < 2 * q then x else z := by
  by_cases h : n < q
  · rw [if_pos h, if_pos (by omega)]
  · rw [if_neg h]

def cos16 (p : IVec S2x8192 32) : FVec Ideal S16384x128 .f32 :=
  head16 (Host.cos (angles16 p)) (Host.cos (angles16 p))
    (addf (broadcastInDim S16384x96 ![] bcast_S_S16384x96 (constant S_ .f32 0x00000000#32))
      (broadcastInDim S16384x96 ![] bcast_S_S16384x96 (constant S_ .f32 0x3F800000#32)))

def neg16 (p : IVec S2x8192 32) : FVec Ideal S16384x128 .f32 :=
  head16 (Host.negf (Host.sin (angles16 p))) (broadcastInDim S16384x16 ![] bcast_S_S16384x16 (constant S_ .f32 0x00000000#32))
    (broadcastInDim S16384x96 ![] bcast_S_S16384x96 (constant S_ .f32 0x00000000#32))

def sin16 (p : IVec S2x8192 32) : FVec Ideal S16384x128 .f32 :=
  head16 (broadcastInDim S16384x16 ![] bcast_S_S16384x16 (constant S_ .f32 0x00000000#32)) (Host.sin (angles16 p))
    (broadcastInDim S16384x96 ![] bcast_S_S16384x96 (constant S_ .f32 0x00000000#32))

def cos8 (p : IVec S2x8192 32) : FVec Ideal S16384x64 .f32 :=
  head8 (Host.cos (angles8 p)) (Host.cos (angles8 p))
    (addf (broadcastInDim S16384x48 ![] bcast_S_S16384x48 (constant S_ .f32 0x00000000#32))
      (broadcastInDim S16384x48 ![] bcast_S_S16384x48 (constant S_ .f32 0x3F800000#32)))

def neg8 (p : IVec S2x8192 32) : FVec Ideal S16384x64 .f32 :=
  head8 (Host.negf (Host.sin (angles8 p))) (broadcastInDim S16384x8 ![] bcast_S_S16384x8 (constant S_ .f32 0x00000000#32))
    (broadcastInDim S16384x48 ![] bcast_S_S16384x48 (constant S_ .f32 0x00000000#32))

def sin8 (p : IVec S2x8192 32) : FVec Ideal S16384x64 .f32 :=
  head8 (broadcastInDim S16384x8 ![] bcast_S_S16384x8 (constant S_ .f32 0x00000000#32)) (Host.sin (angles8 p))
    (broadcastInDim S16384x48 ![] bcast_S_S16384x48 (constant S_ .f32 0x00000000#32))

/-- A head of 64 lanes of zeros. -/
def zeros : FVec Ideal S16384x64 .f32 := broadcastInDim S16384x64 ![] bcast_S_S16384x64 (constant S_ .f32 0x00000000#32)

section Entries

variable (p : IVec S2x8192 32) (R : Fin 16384)

theorem cos16_apply (l : Fin 128) : cos16 p (ix2 R l) = cosT 16 c16 (token p R) l.val :=
  (head16_apply _ _ _ (fun j => Ideal.cos (angle c16 (token p R) j)) (fun j => Ideal.cos (angle c16 (token p R) j)) 1 R l
    (fun j => congrArg Ideal.cos (angles16_apply p R j)) (fun j => congrArg Ideal.cos (angles16_apply p R j))
    (fun j => by pointwise)).trans (same_groups _ _ _ _)

theorem neg16_apply (l : Fin 128) : neg16 p (ix2 R l) = negT 16 c16 (token p R) l.val :=
  (head16_apply _ _ _ (fun j => -Ideal.sin (angle c16 (token p R) j)) (fun _ => 0) 0 R l
    (fun j => congrArg (fun x => -Ideal.sin x) (angles16_apply p R j)) (fun j => by pointwise) (fun j => by pointwise)).trans
    (if_congr Iff.rfl rfl (ite_self _))

theorem sin16_apply (l : Fin 128) : sin16 p (ix2 R l) = sinT 16 c16 (token p R) l.val :=
  head16_apply _ _ _ (fun _ => 0) (fun j => Ideal.sin (angle c16 (token p R) j)) 0 R l
    (fun j => by pointwise) (fun j => congrArg Ideal.sin (angles16_apply p R j)) (fun j => by pointwise)

theorem cos8_apply (l : Fin 64) : cos8 p (ix2 R l) = cosT 8 c8 (token p R) l.val :=
  (head8_apply _ _ _ (fun j => Ideal.cos (angle c8 (token p R) j)) (fun j => Ideal.cos (angle c8 (token p R) j)) 1 R l
    (fun j => congrArg Ideal.cos (angles8_apply p R j)) (fun j => congrArg Ideal.cos (angles8_apply p R j))
    (fun j => by pointwise)).trans (same_groups _ _ _ _)

theorem neg8_apply (l : Fin 64) : neg8 p (ix2 R l) = negT 8 c8 (token p R) l.val :=
  (head8_apply _ _ _ (fun j => -Ideal.sin (angle c8 (token p R) j)) (fun _ => 0) 0 R l
    (fun j => congrArg (fun x => -Ideal.sin x) (angles8_apply p R j)) (fun j => by pointwise) (fun j => by pointwise)).trans
    (if_congr Iff.rfl rfl (ite_self _))

theorem sin8_apply (l : Fin 64) : sin8 p (ix2 R l) = sinT 8 c8 (token p R) l.val :=
  head8_apply _ _ _ (fun _ => 0) (fun j => Ideal.sin (angle c8 (token p R) j)) 0 R l
    (fun j => by pointwise) (fun j => congrArg Ideal.sin (angles8_apply p R j)) (fun j => by pointwise)

end Entries

/-! ## The arrays -/

/-- An array is a table's when its entries are. -/
theorem eq_rows (p : IVec S2x8192 32) (w : Fin 9) (a : FVec Ideal S16384x128 .f32)
    (h : ∀ R (l : Fin 128), a (ix2 R l) = table w (token p R) l.val) : a = rows p w := by
  funext i
  obtain ⟨R, l, rfl⟩ : ∃ (R : Fin 16384) (l : Fin 128), i = ix2 R l := ⟨i 0, i 1, eq_ix2 i⟩
  exact h R l

/-- The same head twice. -/
theorem twice (a : FVec Ideal S16384x64 .f32) (A : ℕ → EReal) (R : Fin 16384) (l : Fin 128)
    (ha : ∀ j, a (ix2 R j) = A j.val) : beside a a (ix2 R l) = A (l.val % 64) :=
  (beside_apply a a A A R l ha ha).trans (ite_self _)

/-- A head and zeros. -/
theorem padded (a : FVec Ideal S16384x64 .f32) (A : ℕ → EReal) (R : Fin 16384) (l : Fin 128)
    (ha : ∀ j, a (ix2 R j) = A j.val) : beside a zeros (ix2 R l) = if l.val < 64 then A (l.val % 64) else 0 :=
  beside_apply a zeros A (fun _ => 0) R l ha fun j => by pointwise [zeros]

section Arrays

variable (p : IVec S2x8192 32)

theorem array1 : cos16 p = rows p 0 := eq_rows p 0 _ (cos16_apply p)

theorem array2 : neg16 p = rows p 1 := eq_rows p 1 _ (neg16_apply p)

theorem array3 : sin16 p = rows p 2 := eq_rows p 2 _ (sin16_apply p)

theorem array4 : beside (cos8 p) (cos8 p) = rows p 3 :=
  eq_rows p 3 _ fun R l => twice _ (cosT 8 c8 (token p R)) R l (cos8_apply p R)

theorem array5 : beside (neg8 p) (neg8 p) = rows p 4 :=
  eq_rows p 4 _ fun R l => twice _ (negT 8 c8 (token p R)) R l (neg8_apply p R)

theorem array6 : beside (sin8 p) (sin8 p) = rows p 5 :=
  eq_rows p 5 _ fun R l => twice _ (sinT 8 c8 (token p R)) R l (sin8_apply p R)

theorem array7 : beside (cos8 p) zeros = rows p 6 :=
  eq_rows p 6 _ fun R l => padded _ (cosT 8 c8 (token p R)) R l (cos8_apply p R)

theorem array8 : beside (neg8 p) zeros = rows p 7 :=
  eq_rows p 7 _ fun R l => padded _ (negT 8 c8 (token p R)) R l (neg8_apply p R)

theorem array9 : beside (sin8 p) zeros = rows p 8 :=
  eq_rows p 8 _ fun R l => padded _ (sinT 8 c8 (token p R)) R l (sin8_apply p R)

end Arrays

end Cert.Proof.Rope.Ref

end
-- ==== Proof.RopeClaims.lean ====
/- The rotary tables: the claims. -/
module

public import proofs.«01_k».proof.Defs
public import proofs.«01_k».proof.Proof.RopeRef
public import proofs.«01_k».proof.Proof.Gen.Rope.Frame
public import Idealize.ShloMosaic.Adequacy

@[expose] public section

noncomputable section

namespace Cert.Proof.Rope

open Idealize.ShloMosaic Idealize.ShloMosaic.TcCoe Idealize.SL.Sem

theorem frame_p : Cert.quiescent_Rope := fun m ρ _ => Cert.Rope.Gen.frame m ρ

theorem frame_pi : Cert.quiescent_RopeIdeal := fun m ρ _ => Cert.RopeIdeal.Gen.frame m ρ

/-- The reference runs, keeps its argument and has no semaphores. -/
theorem frame_ri : Cert.quiescent_RopeRefIdeal := fun m ρ _ =>
  (θ_run Cert.RopeRefIdeal.defs _ _).mono
    (fun r h => ⟨fun c => (h c).2.2.2.2.2.2.2.2.2, sem_eq_zero_of_no_sems (by decide) r.2⟩)
    (Cert.RopeRefIdeal.Value.run (F := Ideal) m ρ)

/-- The kernel's nine arrays and the reference's are the same functions of the positions. -/
theorem algebraic : Cert.algebraic_RopeIdeal_RopeRefIdeal := by
  intro m g m' g' _ hagree
  refine ⟨fun c => (Cert.RopeIdeal.Gen.dats m 0 c).arrAt 1 Cert.RopeIdeal.cfg0.N,
    fun c => (Cert.RopeIdeal.Gen.dats m 0 c).arrAt 2 Cert.RopeIdeal.cfg0.N,
    fun c => (Cert.RopeIdeal.Gen.dats m 0 c).arrAt 3 Cert.RopeIdeal.cfg0.N,
    fun c => (Cert.RopeIdeal.Gen.dats m 0 c).arrAt 4 Cert.RopeIdeal.cfg0.N,
    fun c => (Cert.RopeIdeal.Gen.dats m 0 c).arrAt 5 Cert.RopeIdeal.cfg0.N,
    fun c => (Cert.RopeIdeal.Gen.dats m 0 c).arrAt 6 Cert.RopeIdeal.cfg0.N,
    fun c => (Cert.RopeIdeal.Gen.dats m 0 c).arrAt 7 Cert.RopeIdeal.cfg0.N,
    fun c => (Cert.RopeIdeal.Gen.dats m 0 c).arrAt 8 Cert.RopeIdeal.cfg0.N,
    fun c => (Cert.RopeIdeal.Gen.dats m 0 c).arrAt 9 Cert.RopeIdeal.cfg0.N,
    Cert.RopeIdeal.Value.run_blocks m g, ?_⟩
  refine (θ_run Cert.RopeRefIdeal.defs _ _).mono
    (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2⟩)
    (Cert.RopeRefIdeal.Value.run (F := Ideal) m' g')
  · rw [hagree c]
    exact (Ref.array1 _).trans (final1 m c).symm
  · rw [hagree c]
    exact (Ref.array2 _).trans (final2 m c).symm
  · rw [hagree c]
    exact (Ref.array3 _).trans (final3 m c).symm
  · rw [hagree c]
    exact (Ref.array4 _).trans (final4 m c).symm
  · rw [hagree c]
    exact (Ref.array5 _).trans (final5 m c).symm
  · rw [hagree c]
    exact (Ref.array6 _).trans (final6 m c).symm
  · rw [hagree c]
    exact (Ref.array7 _).trans (final7 m c).symm
  · rw [hagree c]
    exact (Ref.array8 _).trans (final8 m c).symm
  · rw [hagree c]
    exact (Ref.array9 _).trans (final9 m c).symm

end Cert.Proof.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_logits
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Pre_finite_gates
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Fox
public import proofs.«01_k».proof.Proof.AdaClaims
public import proofs.«01_k».proof.Proof.InprojClaims
public import proofs.«01_k».proof.Proof.MergeClaims
public import proofs.«01_k».proof.Proof.OutprojClaims
public import proofs.«01_k».proof.Proof.PrepClaims
public import proofs.«01_k».proof.Proof.RopeClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Outproj.Gen.facts, Cert.OutprojIdeal.Gen.facts, Cert.OutprojRefIdeal.Gen.facts,
    Cert.Ada.Gen.facts, Cert.AdaIdeal.Gen.facts, Cert.AdaRefIdeal.Gen.facts,
    Cert.Prep.Gen.facts, Cert.PrepIdeal.Gen.facts, Cert.PrepRefIdeal.Gen.facts,
    Cert.Rope.Gen.facts, Cert.RopeIdeal.Gen.facts, Cert.RopeRefIdeal.Gen.facts,
    Cert.Pre_finite_logits.Gen.facts, Cert.Pre_finite_gates.Gen.facts,
    Fox.frame_p, Fox.frame_pi, Fox.frame_pi_pre, Fox.frame_ri, Fox.frame_ri_pre,
    Inproj.frame_p, Inproj.frame_pi, Inproj.frame_ri,
    Merge.frame_p, Merge.frame_pi, Merge.frame_ri,
    Outproj.frame_p, Outproj.frame_pi, Outproj.frame_ri,
    Ada.frame_p, Ada.frame_pi, Ada.frame_ri,
    Prep.frame_p, Prep.frame_pi, Prep.frame_pi_pre, Prep.frame_ri, Prep.frame_ri_pre,
    Rope.frame_p, Rope.frame_pi, Rope.frame_ri,
    Fox.preserves, Fox.algebraic, Inproj.algebraic, Merge.algebraic, Outproj.algebraic, Ada.algebraic,
    Prep.preserves, Prep.algebraic, Rope.algebraic⟩

end Cert.Proof

end
